-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_tame [hPre_tame : Cert.Pre_tame.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tame.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tame [hPre_tame : Cert.Pre_tame.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tame.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_tame [hKernel3Ideal : Cert.Kernel3Ideal.Facts] [hPre_tame : Cert.Pre_tame.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_tame m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_tame [hReference3Ideal : Cert.Reference3Ideal.Facts] [hPre_tame : Cert.Pre_tame.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tame m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "scale" .f32 0x3E38AA3B#32 (((1 / 8) * (Real.log 2)⁻¹ : ℝ) : EReal)

def algebraic_Kernel3Ideal_Reference3Ideal_pre_tame [hKernel3Ideal : Cert.Kernel3Ideal.Facts] [hReference3Ideal : Cert.Reference3Ideal.Facts] [hPre_tame : Cert.Pre_tame.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_tame m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v83) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts) (hPre_tame : Cert.Pre_tame.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_tame (hKernel3Ideal := hKernel3Ideal) (hPre_tame := hPre_tame)
    ∧ quiescent_Reference3Ideal (hReference3Ideal := hReference3Ideal)
    ∧ quiescent_Reference3Ideal_pre_tame (hReference3Ideal := hReference3Ideal) (hPre_tame := hPre_tame)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal_pre_tame (hKernel3Ideal := hKernel3Ideal) (hReference3Ideal := hReference3Ideal) (hPre_tame := hPre_tame)
-- ==== Pre_finite.lean ====
abbrev S8x4096x512 : Shape := ⟨3, ![8, 4096, 512]⟩
abbrev S8x256x512 : Shape := ⟨3, ![8, 256, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S1x64 .f32) (main_v4 : IVec S_ 1) (main_v9 : IVec S_ 1) (main_v14 : IVec S_ 1) (main_v19 : IVec S_ 1) (main_v24 : IVec S_ 1) (main_v28 : IVec S_ 1) (main_v32 : IVec S_ 1) (main_v33 : FVec F S1x64 .f32) : IVec S_ 1 :=
  let main_cst_12 : FVec F S_ .f32 := constant S_ .f32 0x7F800000#32
  let main_v34 : FVec F S1x64 .f32 := broadcastInDim S1x64 ![] bcast_S_S1x64 main_cst_12
  let main_v35 : IVec S1x64 1 := cmpf .olt main_v33 main_v34
  let main_c_13 : IVec S_ 1 := constantI S_ 1 1#1
  let main_v36 : IVec S_ 1 := (fun x v => Host.reduce IntOp.andi x v reducesTo_S1x64_S_d0_1 h_S_) main_v35 main_c_13
  let main_v37 : FVec F S1x64 .f32 := Host.absf main_arg8
  let main_cst_14 : FVec F S_ .f32 := constant S_ .f32 0x7F800000#32
  let main_v38 : FVec F S1x64 .f32 := broadcastInDim S1x64 ![] bcast_S_S1x64 main_cst_14
  let main_v39 : IVec S1x64 1 := cmpf .olt main_v37 main_v38
  let main_c_15 : IVec S_ 1 := constantI S_ 1 1#1
  let main_v40 : IVec S_ 1 := (fun x v => Host.reduce IntOp.andi x v reducesTo_S1x64_S_d0_1 h_S_) main_v39 main_c_15
  let main_v41 : IVec S_ 1 := andi main_v4 main_v9
  let main_v42 : IVec S_ 1 := andi main_v41 main_v14
  let main_v43 : IVec S_ 1 := andi main_v42 main_v19
  let main_v44 : IVec S_ 1 := andi main_v43 main_v24
  let main_v45 : IVec S_ 1 := andi main_v44 main_v28
  let main_v46 : IVec S_ 1 := andi main_v45 main_v32
  let main_v47 : IVec S_ 1 := andi main_v46 main_v36
  let main_v48 : IVec S_ 1 := andi main_v47 main_v40
  main_v48

def fn_part1 {F : FTy → Type} [FloatOps F] (main_arg4 : FVec F S8x4096x512 .bf16) (main_arg5 : FVec F S1x64 .f32) (main_arg6 : FVec F S1x64 .f32) (main_arg7 : FVec F S1x64 .f32) (main_arg8 : FVec F S1x64 .f32) (main_v4 : IVec S_ 1) (main_v9 : IVec S_ 1) (main_v14 : IVec S_ 1) (main_v16 : FVec F S8x256x512 .f32) (main_cst_4 : FVec F S_ .f32) : IVec S_ 1 :=
  let main_v17 : FVec F S8x256x512 .f32 := broadcastInDim S8x256x512 ![] bcast_S_S8x256x512 main_cst_4
  let main_v18 : IVec S8x256x512 1 := cmpf .olt main_v16 main_v17
  let main_c_5 : IVec S_ 1 := constantI S_ 1 1#1
  let main_v19 : IVec S_ 1 := (fun x v => Host.reduce IntOp.andi x v reducesTo_S8x256x512_S_d0_1_2 h_S_) main_v18 main_c_5
  let main_v20 : FVec F S8x4096x512 .f32 := (extf .f32 · bitsLt_bf16_f32) main_arg4
  let main_v21 : FVec F S8x4096x512 .f32 := Host.absf main_v20
  let main_cst_6 : FVec F S_ .f32 := constant S_ .f32 0x7F800000#32
  let main_v22 : FVec F S8x4096x512 .f32 := broadcastInDim S8x4096x512 ![] bcast_S_S8x4096x512 main_cst_6
  let main_v23 : IVec S8x4096x512 1 := cmpf .olt main_v21 main_v22
  let main_c_7 : IVec S_ 1 := constantI S_ 1 1#1
  let main_v24 : IVec S_ 1 := (fun x v => Host.reduce IntOp.andi x v reducesTo_S8x4096x512_S_d0_1_2 h_S_) main_v23 main_c_7
  let main_v25 : FVec F S1x64 .f32 := Host.absf main_arg5
  let main_cst_8 : FVec F S_ .f32 := constant S_ .f32 0x7F800000#32
  let main_v26 : FVec F S1x64 .f32 := broadcastInDim S1x64 ![] bcast_S_S1x64 main_cst_8
  let main_v27 : IVec S1x64 1 := cmpf .olt main_v25 main_v26
  let main_c_9 : IVec S_ 1 := constantI S_ 1 1#1
  let main_v28 : IVec S_ 1 := (fun x v => Host.reduce IntOp.andi x v reducesTo_S1x64_S_d0_1 h_S_) main_v27 main_c_9
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : FVec F S1x64 .f32 := Host.absf main_arg7
  fn_part2 (F := F) main_arg8 main_v4 main_v9 main_v14 main_v19 main_v24 main_v28 main_v32 main_v33

def fn {F : FTy → Type} [FloatOps F] (main_arg0 : FVec F S8x4096x512 .bf16) (main_arg1 : FVec F S8x256x512 .bf16) (main_arg2 : FVec F S8x4096x512 .bf16) (main_arg3 : FVec F S8x256x512 .bf16) (main_arg4 : FVec F S8x4096x512 .bf16) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x256x512 .f32 := (extf .f32 · bitsLt_bf16_f32) main_arg1
  let main_v6 : FVec F S8x256x512 .f32 := Host.absf main_v5
  let main_cst_0 : FVec F S_ .f32 := constant S_ .f32 0x7F800000#32
  let main_v7 : FVec F S8x256x512 .f32 := broadcastInDim S8x256x512 ![] bcast_S_S8x256x512 main_cst_0
  let main_v8 : IVec S8x256x512 1 := cmpf .olt main_v6 main_v7
  let main_c_1 : IVec S_ 1 := constantI S_ 1 1#1
  let main_v9 : IVec S_ 1 := (fun x v => Host.reduce IntOp.andi x v reducesTo_S8x256x512_S_d0_1_2 h_S_) main_v8 main_c_1
  let main_v10 : FVec F S8x4096x512 .f32 := (extf .f32 · bitsLt_bf16_f32) main_arg2
  let main_v11 : FVec F S8x4096x512 .f32 := Host.absf main_v10
  let main_cst_2 : FVec F S_ .f32 := constant S_ .f32 0x7F800000#32
  let main_v12 : FVec F S8x4096x512 .f32 := broadcastInDim S8x4096x512 ![] bcast_S_S8x4096x512 main_cst_2
  let main_v13 : IVec S8x4096x512 1 := cmpf .olt main_v11 main_v12
  let main_c_3 : IVec S_ 1 := constantI S_ 1 1#1
  let main_v14 : IVec S_ 1 := (fun x v => Host.reduce IntOp.andi x v reducesTo_S8x4096x512_S_d0_1_2 h_S_) main_v13 main_c_3
  let main_v15 : FVec F S8x256x512 .f32 := (extf .f32 · bitsLt_bf16_f32) main_arg3
  let main_v16 : FVec F S8x256x512 .f32 := Host.absf main_v15
  let main_cst_4 : FVec F S_ .f32 := constant S_ .f32 0x7F800000#32
  fn_part1 (F := F) main_arg4 main_arg5 main_arg6 main_arg7 main_arg8 main_v4 main_v9 main_v14 main_v16 main_cst_4
-- ==== Pre_routed.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : FVec F S1179648x128 .f32) (main_arg1 : IVec S288 32) (main_arg2 : IVec S1 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_tame.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S64 : Shape := ⟨1, ![64]⟩
abbrev S4096x128 : Shape := ⟨2, ![4096, 128]⟩
abbrev S_ : Shape := ⟨0, ![]⟩

class Facts : Prop where
  bcast_S_S8x1x1024 : S_.BroadcastsInDim S8x1x1024 (![] : Fin 0 → Fin S8x1x1024.rank)
  reducesTo_S8x1x1024_S_d0_1_2 : S8x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x1024 .f32) (main_arg1 : FVec F S8x1x1024 .f32) (main_arg2 : FVec F S8x1x1024 .f32) (main_arg3 : FVec F S1024 .f32) (main_arg4 : FVec F S1024x3072 .f32) (main_arg5 : FVec F S64 .f32) (main_arg6 : FVec F S64 .f32) (main_arg7 : FVec F S4096x128 .f32) (main_arg8 : FVec F S4096x128 .f32) : IVec S_ 1 :=
  let main_v0 : FVec F S8x1x1024 .f32 := Host.absf main_arg1
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_c : IVec S_ 1 := constantI S_ 1 1#1
  let main_v3 : IVec S_ 1 := (fun x v => Host.reduce IntOp.andi x v reducesTo_S8x1x1024_S_d0_1_2 h_S_) main_v2 main_c
  let main_v4 : FVec F S8x1x1024 .f32 := Host.absf main_arg2
  let main_cst_0 : FVec F S_ .f32 := constant S_ .f32 0x7F800000#32
  let main_v5 : FVec F S8x1x1024 .f32 := broadcastInDim S8x1x1024 ![] bcast_S_S8x1x1024 main_cst_0
  let main_v6 : IVec S8x1x1024 1 := cmpf .olt main_v4 main_v5
  let main_c_1 : IVec S_ 1 := constantI S_ 1 1#1
  let main_v7 : IVec S_ 1 := (fun x v => Host.reduce IntOp.andi x v reducesTo_S8x1x1024_S_d0_1_2 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x3072 .f32 := Host.absf main_arg4
  let main_cst_4 : FVec F S_ .f32 := constant S_ .f32 0x7F800000#32
  let main_v13 : FVec F S1024x3072 .f32 := broadcastInDim S1024x3072 ![] bcast_S_S1024x3072 main_cst_4
  let main_v14 : IVec S1024x3072 1 := cmpf .olt main_v12 main_v13
  let main_c_5 : IVec S_ 1 := constantI S_ 1 1#1
  let main_v15 : IVec S_ 1 := (fun x v => Host.reduce IntOp.andi x v reducesTo_S1024x3072_S_d0_1 h_S_) main_v14 main_c_5
  fn_part1 (F := F) main_v3 main_v7 main_v11 main_v15
-- ==== Kernel.lean ====
abbrev S8x4096x512 : Shape := ⟨3, ![8, 4096, 512]⟩
abbrev S8x256x512 : Shape := ⟨3, ![8, 256, 512]⟩
abbrev S1x64 : Shape := ⟨2, ![1, 64]⟩
abbrev S1x128 : Shape := ⟨2, ![1, 128]⟩
abbrev S64 : Shape := ⟨1, ![64]⟩
abbrev S128 : Shape := ⟨1, ![128]⟩
abbrev S1x256x128 : Shape := ⟨3, ![1, 256, 128]⟩
abbrev S1x4096x128 : Shape := ⟨3, ![1, 4096, 128]⟩
abbrev S128x4352 : Shape := ⟨2, ![128, 4352]⟩
abbrev S4352x256 : Shape := ⟨2, ![4352, 256]⟩
abbrev S256x4352 : Shape := ⟨2, ![256, 4352]⟩
abbrev S256x128 : Shape := ⟨2, ![256, 128]⟩
abbrev S1 : Shape := ⟨1, ![1]⟩
abbrev S1x1 : Shape := ⟨2, ![1, 1]⟩
abbrev S128x256 : Shape := ⟨2, ![128, 256]⟩
abbrev S4096x128 : Shape := ⟨2, ![4096, 128]⟩
abbrev S128x4096 : Shape := ⟨2, ![128, 4096]⟩
abbrev S4352x128 : Shape := ⟨2, ![4352, 128]⟩
abbrev S256x1 : Shape := ⟨2, ![256, 1]⟩
abbrev S256x256 : Shape := ⟨2, ![256, 256]⟩
abbrev S256 : Shape := ⟨1, ![256]⟩

abbrev nBuf : Space → Nat
  | .hbm => 21
  | .vmem => 27
  | .smem => 0
  | _ => 0

abbrev bufTy : (tb : Table) → Fin (tcTables nBuf tb) → BufTy
  | .hbm, ⟨0, _⟩ => ⟨S8x4096x512, .bf16⟩
  | .hbm, ⟨1, _⟩ => ⟨S8x256x512, .bf16⟩
  | .hbm, ⟨2, _⟩ => ⟨S8x4096x512, .bf16⟩
  | .hbm, ⟨3, _⟩ => ⟨S8x256x512, .bf16⟩
  | .hbm, ⟨4, _⟩ => ⟨S8x4096x512, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S128, .f32⟩
  | .hbm, ⟨19, _⟩ => ⟨S1x128, .f32⟩
  | .hbm, ⟨20, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x256x128, .bf16⟩
  | .local _ .vmem, ⟨16, _⟩ => ⟨S1x256x128, .bf16⟩
  | .local _ .vmem, ⟨17, _⟩ => ⟨S128x4352, .bf16⟩
  | .local _ .vmem, ⟨18, _⟩ => ⟨S4352x256, .bf16⟩
  | .local _ .vmem, ⟨19, _⟩ => ⟨S256x4352, .f32⟩
  | .local _ .vmem, ⟨20, _⟩ => ⟨S256x4352, .f32⟩
  | .local _ .vmem, ⟨21, _⟩ => ⟨S256x128, .f32⟩
  | .local _ .vmem, ⟨22, _⟩ => ⟨S256x128, .f32⟩
  | .local _ .vmem, ⟨23, _⟩ => ⟨S256x4352, .f32⟩
  | .local _ .vmem, ⟨24, _⟩ => ⟨S256x4352, .f32⟩
  | .local _ .vmem, ⟨25, _⟩ => ⟨S256x128, .f32⟩
  | .local _ .vmem, ⟨26, _⟩ => ⟨S256x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 4, 17], ![false, false, false]⟩

def k0_cond3 (i : grid0.Coords) : BitVec 1 :=
  let arg2 : BitVec 32 := BitVec.ofNat 32 (i 2).val
  let c0_i32_12 : BitVec 32 := 0#32
  let v25 : BitVec 1 := Scalar.cmpi .sgt arg2 c0_i32_12
  let c16_i32 : BitVec 32 := 16#32
  let v26 : BitVec 1 := Scalar.cmpi .slt arg2 c16_i32
  let v27 : BitVec 1 := Scalar.andi v25 v26
  let c1_i32 : BitVec 32 := 1#32
  let v28 : BitVec 32 := Scalar.andi arg2 c1_i32
  let c0_i32_13 : BitVec 32 := 0#32
  let v29 : BitVec 1 := Scalar.cmpi .eq v28 c0_i32_13
  let v30 : BitVec 1 := Scalar.andi v27 v29
  let v31 : BitVec 32 := Scalar.extui v30
  let c0_i32_14 : BitVec 32 := 0#32
  let v32 : BitVec 1 := Scalar.cmpi .ne v31 c0_i32_14
  v32

def k0_cond4 (i : grid0.Coords) : BitVec 1 :=
  let arg2 : BitVec 32 := BitVec.ofNat 32 (i 2).val
  let c0_i32_15 : BitVec 32 := 0#32
  let v33 : BitVec 1 := Scalar.cmpi .sgt arg2 c0_i32_15
  let c16_i32_16 : BitVec 32 := 16#32
  let v34 : BitVec 1 := Scalar.cmpi .slt arg2 c16_i32_16
  let v35 : BitVec 1 := Scalar.andi v33 v34
  let c1_i32_17 : BitVec 32 := 1#32
  let v36 : BitVec 32 := Scalar.andi arg2 c1_i32_17
  let c1_i32_18 : BitVec 32 := 1#32
  let v37 : BitVec 1 := Scalar.cmpi .eq v36 c1_i32_18
  let v38 : BitVec 1 := Scalar.andi v35 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg2 : BitVec 32 := BitVec.ofNat 32 (i 2).val
  let c16_i32_20 : BitVec 32 := 16#32
  let v41 : BitVec 1 := Scalar.cmpi .eq arg2 c16_i32_20
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S8x4096x512 : Shape := ⟨3, ![8, 4096, 512]⟩
abbrev S8x256x512 : Shape := ⟨3, ![8, 256, 512]⟩
abbrev S1x64 : Shape := ⟨2, ![1, 64]⟩
abbrev S1x128 : Shape := ⟨2, ![1, 128]⟩
abbrev S8x4096x4x2x64 : Shape := ⟨5, ![8, 4096, 4, 2, 64]⟩
abbrev S8x4352x512 : Shape := ⟨3, ![8, 4352, 512]⟩
abbrev S8x4352x4x2x64 : Shape := ⟨5, ![8, 4352, 4, 2, 64]⟩
abbrev S8x4352x4x128 : Shape := ⟨4, ![8, 4352, 4, 128]⟩
abbrev S64 : Shape := ⟨1, ![64]⟩
abbrev S_ : Shape := ⟨0, ![]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x256x512, .bf16⟩
  | .hbm, ⟨2, _⟩ => ⟨S8x4096x512, .bf16⟩
  | .hbm, ⟨3, _⟩ => ⟨S8x256x512, .bf16⟩
  | .hbm, ⟨4, _⟩ => ⟨S8x4096x512, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S8x4096x512, .f32⟩
  | .hbm, ⟨11, _⟩ => ⟨S8x4096x4x2x64, .f32⟩
  | .hbm, ⟨12, _⟩ => ⟨S8x256x512, .f32⟩
  | .hbm, ⟨13, _⟩ => ⟨S8x4096x512, .f32⟩
  | .hbm, ⟨14, _⟩ => ⟨S8x4352x512, .f32⟩
  | .hbm, ⟨15, _⟩ => ⟨S8x4352x4x2x64, .f32⟩
  | .hbm, ⟨16, _⟩ => ⟨S8x256x512, .f32⟩
  | .hbm, ⟨17, _⟩ => ⟨S8x4096x512, .f32⟩
  | .hbm, ⟨18, _⟩ => ⟨S8x4352x512, .f32⟩
  | .hbm, ⟨19, _⟩ => ⟨S8x4352x4x128, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x4x2x4096x4352, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x4x2x4096x4352, .f32⟩
  | .hbm, ⟨40, _⟩ => ⟨S8x4x2x4096x4352, .f32⟩
  | .hbm, ⟨41, _⟩ => ⟨S_, .f32⟩
  | .hbm, ⟨42, _⟩ => ⟨S8x4x2x4096, .f32⟩
  | .hbm, ⟨43, _⟩ => ⟨S_, .f32⟩
  | .hbm, ⟨44, _⟩ => ⟨S8x4x2x4096, .f32⟩
  | .hbm, ⟨45, _⟩ => ⟨S8x4x2x4096, .f32⟩
  | .hbm, ⟨46, _⟩ => ⟨S8x4x2x4096x1, .f32⟩
  | .hbm, ⟨47, _⟩ => ⟨S8x4x2x4096x4352, .f32⟩
  | .hbm, ⟨48, _⟩ => ⟨S8x4x2x4096x4352, .f32⟩
  | .hbm, ⟨49, _⟩ => ⟨S8x4x2x4096x4352, .f32⟩
  | .hbm, ⟨50, _⟩ => ⟨S_, .f32⟩
  | .hbm, ⟨51, _⟩ => ⟨S8x4x2x4096, .f32⟩
  | .hbm, ⟨52, _⟩ => ⟨S8x4x2x4096x1, .f32⟩
  | .hbm, ⟨53, _⟩ => ⟨S8x4x2x4096x4352, .f32⟩
  | .hbm, ⟨54, _⟩ => ⟨S8x4x2x4096x4352, .f32⟩
  | .hbm, ⟨55, _⟩ => ⟨S8x4x1x4096x4352, .f32⟩
  | .hbm, ⟨56, _⟩ => ⟨S8x4x4096x4352, .f32⟩
  | .hbm, ⟨57, _⟩ => ⟨S8x4x1x4096x4352, .f32⟩
  | .hbm, ⟨58, _⟩ => ⟨S8x4x4096x4352, .f32⟩
  | .hbm, ⟨59, _⟩ => ⟨S8x4x4096x4352, .f32⟩
  | .hbm, ⟨60, _⟩ => ⟨S8x4x4096x4352, .f32⟩
  | .hbm, ⟨61, _⟩ => ⟨S8x4x4096x4352, .f32⟩
  | .hbm, ⟨62, _⟩ => ⟨S8x4x128x4096, .f32⟩
  | .hbm, ⟨63, _⟩ => ⟨S8x4096x4x128, .f32⟩
  | .hbm, ⟨64, _⟩ => ⟨S8x4096x4x128, .f32⟩
  | .hbm, ⟨65, _⟩ => ⟨S_, .f32⟩
  | .hbm, ⟨66, _⟩ => ⟨S8x4096x4, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S8x4096x4x1, .f32⟩
  | .hbm, ⟨75, _⟩ => ⟨S8x4096x4x128, .f32⟩
  | .hbm, ⟨76, _⟩ => ⟨S8x4096x4x128, .f32⟩
  | .hbm, ⟨77, _⟩ => ⟨S128, .f32⟩
  | .hbm, ⟨78, _⟩ => ⟨S1x1x1x128, .f32⟩
  | .hbm, ⟨79, _⟩ => ⟨S8x4096x4x128, .f32⟩
  | .hbm, ⟨80, _⟩ => ⟨S8x4096x4x128, .f32⟩
  | .hbm, ⟨81, _⟩ => ⟨S_, .f32⟩
  | .hbm, ⟨82, _⟩ => ⟨S8x4096x4x128, .f32⟩
  | .hbm, ⟨83, _⟩ => ⟨S8x4096x4x128, .f32⟩
  | .hbm, ⟨84, _⟩ => ⟨S8x4096x512, .f32⟩
  | .hbm, ⟨85, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel2.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S1179648x128, .f32⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x512x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x512x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048, .f32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x512x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1024, .f32⟩
  | .hbm, ⟨78, _⟩ => ⟨S288x1x1024, .f32⟩
  | .hbm, ⟨79, _⟩ => ⟨S288x512x1024, .f32⟩
  | .hbm, ⟨80, _⟩ => ⟨S288x512x1024, .f32⟩
  | .hbm, ⟨81, _⟩ => ⟨S288, .i32⟩
  | .hbm, ⟨82, _⟩ => ⟨S_, .i32⟩
  | .hbm, ⟨83, _⟩ => ⟨S288, .i32⟩
  | .hbm, ⟨84, _⟩ => ⟨S288, .i1⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x512x1024, .i1⟩
  | .hbm, ⟨89, _⟩ => ⟨S288x512x1024, .f32⟩
  | .hbm, ⟨90, _⟩ => ⟨S288x512x1024, .f32⟩
  | .hbm, ⟨91, _⟩ => ⟨S1179648x128, .f32⟩
  | _, _ => ⟨S1179648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S64 : Shape := ⟨1, ![64]⟩
abbrev S4096x128 : Shape := ⟨2, ![4096, 128]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x4096x512 : Shape := ⟨3, ![8, 4096, 512]⟩
abbrev S8x4096x1536 : Shape := ⟨3, ![8, 4096, 1536]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x1536 : Shape := ⟨3, ![1, 512, 1536]⟩
abbrev S512x1024 : Shape := ⟨2, ![512, 1024]⟩
abbrev S512x1 : Shape := ⟨2, ![512, 1]⟩
abbrev S512x3072 : Shape := ⟨2, ![512, 3072]⟩
abbrev S512x512 : Shape := ⟨2, ![512, 512]⟩
abbrev S512x1536 : Shape := ⟨2, ![512, 1536]⟩

abbrev nBuf : Space → Nat
  | .hbm => 23
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S4096x128, .f32⟩
  | .hbm, ⟨8, _⟩ => ⟨S4096x128, .f32⟩
  | .hbm, ⟨9, _⟩ => ⟨S1x1024, .f32⟩
  | .hbm, ⟨10, _⟩ => ⟨S1024x3072, .bf16⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S8x4096x512, .bf16⟩
  | .hbm, ⟨20, _⟩ => ⟨S8x4096x512, .bf16⟩
  | .hbm, ⟨21, _⟩ => ⟨S8x4096x512, .bf16⟩
  | .hbm, ⟨22, _⟩ => ⟨S8x4096x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1536, .bf16⟩
  | .local _ .vmem, ⟨21, _⟩ => ⟨S1x512x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F] [Named F]
def κ : String → Option EReal := fun
  | "scale" => some (((1 / 8) * (Real.log 2)⁻¹ : ℝ) : EReal)
  | _ => none
-- ==== Reference3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S64 : Shape := ⟨1, ![64]⟩
abbrev S4096x128 : Shape := ⟨2, ![4096, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x512 : Shape := ⟨3, ![8, 4096, 512]⟩
abbrev S8x4096x4x2x64 : Shape := ⟨5, ![8, 4096, 4, 2, 64]⟩
abbrev S8x4096x4x2 : Shape := ⟨4, ![8, 4096, 4, 2]⟩
abbrev S8x4096x4x2x1 : Shape := ⟨5, ![8, 4096, 4, 2, 1]⟩
abbrev S1x1x1x1x64 : Shape := ⟨5, ![1, 1, 1, 1, 64]⟩
abbrev S8x4096x4x2x2x2x16 : Shape := ⟨7, ![8, 4096, 4, 2, 2, 2, 16]⟩
abbrev S4096x1x2x2x2x16 : Shape := ⟨6, ![4096, 1, 2, 2, 2, 16]⟩
abbrev S1x4096x1x2x2x2x16 : Shape := ⟨7, ![1, 4096, 1, 2, 2, 2, 16]⟩
abbrev S8x4096x1536 : Shape := ⟨3, ![8, 4096, 1536]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S4096x128, .f32⟩
  | .hbm, ⟨8, _⟩ => ⟨S4096x128, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x3072, .f32⟩
  | .hbm, ⟨33, _⟩ => ⟨S8x4096x512, .f32⟩
  | .hbm, ⟨34, _⟩ => ⟨S8x4096x4x2x64, .f32⟩
  | .hbm, ⟨35, _⟩ => ⟨S8x4096x4x2x64, .f32⟩
  | .hbm, ⟨36, _⟩ => ⟨S_, .f32⟩
  | .hbm, ⟨37, _⟩ => ⟨S8x4096x4x2, .f32⟩
  | .hbm, ⟨38, _⟩ => ⟨S8x4096x4x2x1, .f32⟩
  | .hbm, ⟨39, _⟩ => ⟨S_, .f32⟩
  | .hbm, ⟨40, _⟩ => ⟨S8x4096x4x2x1, .f32⟩
  | .hbm, ⟨41, _⟩ => ⟨S8x4096x4x2x1, .f32⟩
  | .hbm, ⟨42, _⟩ => ⟨S_, .f32⟩
  | .hbm, ⟨43, _⟩ => ⟨S8x4096x4x2x1, .f32⟩
  | .hbm, ⟨44, _⟩ => ⟨S8x4096x4x2x1, .f32⟩
  | .hbm, ⟨45, _⟩ => ⟨S8x4096x4x2x1, .f32⟩
  | .hbm, ⟨46, _⟩ => ⟨S8x4096x4x2x64, .f32⟩
  | .hbm, ⟨47, _⟩ => ⟨S8x4096x4x2x64, .f32⟩
  | .hbm, ⟨48, _⟩ => ⟨S1x1x1x1x64, .f32⟩
  | .hbm, ⟨49, _⟩ => ⟨S8x4096x4x2x64, .f32⟩
  | .hbm, ⟨50, _⟩ => ⟨S8x4096x4x2x64, .f32⟩
  | .hbm, ⟨51, _⟩ => ⟨S8x4096x4x2x2x2x16, .f32⟩
  | .hbm, ⟨52, _⟩ => ⟨S4096x1x2x2x2x16, .f32⟩
  | .hbm, ⟨53, _⟩ => ⟨S1x4096x1x2x2x2x16, .f32⟩
  | .hbm, ⟨54, _⟩ => ⟨S8x4096x4x2x2x2x16, .f32⟩
  | .hbm, ⟨55, _⟩ => ⟨S8x4096x4x2x2x2x16, .f32⟩
  | .hbm, ⟨56, _⟩ => ⟨S8x4096x4x2x2x2x16, .f32⟩
  | .hbm, ⟨57, _⟩ => ⟨S4096x1x2x2x2x16, .f32⟩
  | .hbm, ⟨58, _⟩ => ⟨S1x4096x1x2x2x2x16, .f32⟩
  | .hbm, ⟨59, _⟩ => ⟨S8x4096x4x2x2x2x16, .f32⟩
  | .hbm, ⟨60, _⟩ => ⟨S8x4096x4x2x2x2x16, .f32⟩
  | .hbm, ⟨61, _⟩ => ⟨S8x4096x4x2x2x2x16, .f32⟩
  | .hbm, ⟨62, _⟩ => ⟨S8x4096x512, .f32⟩
  | .hbm, ⟨63, _⟩ => ⟨S8x4096x512, .f32⟩
  | .hbm, ⟨64, _⟩ => ⟨S8x4096x4x2x64, .f32⟩
  | .hbm, ⟨65, _⟩ => ⟨S8x4096x4x2x64, .f32⟩
  | .hbm, ⟨66, _⟩ => ⟨S_, .f32⟩
  | .hbm, ⟨67, _⟩ => ⟨S8x4096x4x2, .f32⟩
  | .hbm, ⟨68, _⟩ => ⟨S8x4096x4x2x1, .f32⟩
  | .hbm, ⟨69, _⟩ => ⟨S_, .f32⟩
  | .hbm, ⟨70, _⟩ => ⟨S8x4096x4x2x1, .f32⟩
  | .hbm, ⟨71, _⟩ => ⟨S8x4096x4x2x1, .f32⟩
  | .hbm, ⟨72, _⟩ => ⟨S_, .f32⟩
  | .hbm, ⟨73, _⟩ => ⟨S8x4096x4x2x1, .f32⟩
  | .hbm, ⟨74, _⟩ => ⟨S8x4096x4x2x1, .f32⟩
  | .hbm, ⟨75, _⟩ => ⟨S8x4096x4x2x1, .f32⟩
  | .hbm, ⟨76, _⟩ => ⟨S8x4096x4x2x64, .f32⟩
  | .hbm, ⟨77, _⟩ => ⟨S8x4096x4x2x64, .f32⟩
  | .hbm, ⟨78, _⟩ => ⟨S1x1x1x1x64, .f32⟩
  | .hbm, ⟨79, _⟩ => ⟨S8x4096x4x2x64, .f32⟩
  | .hbm, ⟨80, _⟩ => ⟨S8x4096x4x2x64, .f32⟩
  | .hbm, ⟨81, _⟩ => ⟨S8x4096x4x2x2x2x16, .f32⟩
  | .hbm, ⟨82, _⟩ => ⟨S4096x1x2x2x2x16, .f32⟩
  | .hbm, ⟨83, _⟩ => ⟨S1x4096x1x2x2x2x16, .f32⟩
  | .hbm, ⟨84, _⟩ => ⟨S8x4096x4x2x2x2x16, .f32⟩
  | .hbm, ⟨85, _⟩ => ⟨S8x4096x4x2x2x2x16, .f32⟩
  | .hbm, ⟨86, _⟩ => ⟨S8x4096x4x2x2x2x16, .f32⟩
  | .hbm, ⟨87, _⟩ => ⟨S4096x1x2x2x2x16, .f32⟩
  | .hbm, ⟨88, _⟩ => ⟨S1x4096x1x2x2x2x16, .f32⟩
  | .hbm, ⟨89, _⟩ => ⟨S8x4096x4x2x2x2x16, .f32⟩
  | .hbm, ⟨90, _⟩ => ⟨S8x4096x4x2x2x2x16, .f32⟩
  | .hbm, ⟨91, _⟩ => ⟨S8x4096x4x2x2x2x16, .f32⟩
  | .hbm, ⟨92, _⟩ => ⟨S8x4096x512, .f32⟩
  | .hbm, ⟨93, _⟩ => ⟨S8x4096x512, .f32⟩
  | .hbm, ⟨94, _⟩ => ⟨S_, .f32⟩
  | .hbm, ⟨95, _⟩ => ⟨S8x4096x512, .f32⟩
  | .hbm, ⟨96, _⟩ => ⟨S8x4096x512, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8x4096x512, .f32⟩
  | .hbm, ⟨101, _⟩ => ⟨S8x4096x512, .f32⟩
  | .hbm, ⟨102, _⟩ => ⟨S8x4096x512, .bf16⟩
  | .hbm, ⟨103, _⟩ => ⟨S8x4096x512, .bf16⟩
  | .hbm, ⟨104, _⟩ => ⟨S8x4096x512, .bf16⟩
  | .hbm, ⟨105, _⟩ => ⟨S8x4096x1536, .f32⟩
  | .hbm, ⟨106, _⟩ => ⟨S8x4096x1536, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Proof.KRuns.lean ====
/- The launch of the kernel as compiled, the conditions of its body's branches and its scratch, at any float semantics. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_0, e0, e1, e2]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 17) — by arithmetic of the point. -/
theorem hcond0_1 : ∀ t : Fin cfg0.N, cond0_1 (grid0.coords t) ↔ t.val % 17 = 0 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_1, e0, e1, e2]
    word_cmp
   : ∀ t : Fin grid0.N, cond0_1 (grid0.coords t) ↔ t.val % 17 = 0)

/-- The condition of the body's `scf.if` 2 (`k0_h3`), from the grid coordinates (the skeleton's scalar
    chain substituted). -/
abbrev cond0_2 (i : grid0.Coords) : Prop := k0_cond3 i = 1#1
/-- It holds at the points ≡ 2, 4, 6, 8, 10, 12 or 14 (mod 17) — decided over the grid. -/
theorem hcond0_2 : ∀ t : Fin cfg0.N, cond0_2 (grid0.coords t) ↔ (t.val % 17 = 2 ∨ t.val % 17 = 4 ∨ t.val % 17 = 6 ∨ t.val % 17 = 8 ∨ t.val % 17 = 10 ∨ t.val % 17 = 12 ∨ t.val % 17 = 14) :=
  (by decide +kernel : ∀ t : Fin grid0.N, cond0_2 (grid0.coords t) ↔ (t.val % 17 = 2 ∨ t.val % 17 = 4 ∨ t.val % 17 = 6 ∨ t.val % 17 = 8 ∨ t.val % 17 = 10 ∨ t.val % 17 = 12 ∨ t.val % 17 = 14))

/-- The condition of the body's `scf.if` 3 (`k0_h4`), from the grid coordinates (the skeleton's scalar
    chain substituted). -/
abbrev cond0_3 (i : grid0.Coords) : Prop := k0_cond4 i = 1#1
/-- It holds at the points ≡ 1, 3, 5, 7, 9, 11, 13 or 15 (mod 17) — decided over the grid. -/
theorem hcond0_3 : ∀ t : Fin cfg0.N, cond0_3 (grid0.coords t) ↔ (t.val % 17 = 1 ∨ t.val % 17 = 3 ∨ t.val % 17 = 5 ∨ t.val % 17 = 7 ∨ t.val % 17 = 9 ∨ t.val % 17 = 11 ∨ t.val % 17 = 13 ∨ t.val % 17 = 15) :=
  (by decide +kernel : ∀ t : Fin grid0.N, cond0_3 (grid0.coords t) ↔ (t.val % 17 = 1 ∨ t.val % 17 = 3 ∨ t.val % 17 = 5 ∨ t.val % 17 = 7 ∨ t.val % 17 = 9 ∨ t.val % 17 = 11 ∨ t.val % 17 = 13 ∨ t.val % 17 = 15))

/-- The condition of the body's `scf.if` 4 (`k0_h5`), from the grid coordinates (the skeleton's scalar
    chain substituted). -/
abbrev cond0_4 (i : grid0.Coords) : Prop := k0_cond5 i = 1#1
/-- It holds at the points ≡ 16 (mod 17) — by arithmetic of the point. -/
theorem hcond0_4 : ∀ t : Fin cfg0.N, cond0_4 (grid0.coords t) ↔ t.val % 17 = 16 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_4, k0_cond5, e0, e1, e2]
    word_cmp
   : ∀ t : Fin grid0.N, cond0_4 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x128 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x4352 .bf16 := Memref.whole cc0_scratch0
abbrev scM0_1 : Memref sig .tc .vmem S4352x256 .bf16 := Memref.whole cc0_scratch1
abbrev scM0_2 : Memref sig .tc .vmem S256x4352 .f32 := Memref.whole cc0_scratch2
abbrev scM0_3 : Memref sig .tc .vmem S256x4352 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x4352 .f32 := Memref.whole cc0_scratch6
abbrev scM0_7 : Memref sig .tc .vmem S256x4352 .f32 := Memref.whole cc0_scratch7
abbrev scM0_8 : Memref sig .tc .vmem S256x128 .f32 := Memref.whole cc0_scratch8
abbrev scM0_9 : Memref sig .tc .vmem S256x128 .f32 := Memref.whole cc0_scratch9
/-- The scratch `arg14` the kernel carries between points, as a view: what it holds is stated through it. -/
abbrev VS0_0 : View sig .tc .vmem S128x4352 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Gen

end
-- ==== Proof.KRunA.lean ====
/- The run of the kernel body in the first of its four cases, at any float semantics. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1044000 in
/-- What the body's stores leave in each output's staging memref, as pieces (last first) IN CASE A (`scf.if` 0 taken, `scf.if` 1 taken, `scf.if` 2 not taken, `scf.if` 3 not taken, `scf.if` 4 not taken: points 0, 17, … 527: 32 of 544), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10) at anything, handed back at some contents nothing names. -/
noncomputable def kernelRun0_A (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : cond0_0 i) (hc1 : cond0_1 i) (hc2 : ¬cond0_2 i) (hc3 : ¬cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) :
    { LS0 : List (View.Piece (Elt F) S128x4352 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ f, arg14.view.loc (c : Thread nD τ) ↦[arg14.view.set]{fullShare} arg14.view.writes (Elt F) f LS0) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_diff_attention_eq_skeleton]; unfold cc0_diff_attention_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.Gen

end
-- ==== Proof.KRunB.lean ====
/- The run of the kernel body in the second of its four cases, at any float semantics. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1336000 in
/-- What the body's stores leave in each output's staging memref, as pieces (last first) IN CASE B (`scf.if` 0 not taken, `scf.if` 1 not taken, `scf.if` 2 not taken, `scf.if` 3 taken, `scf.if` 4 not taken: points 1, 3, … 542: 256 of 544), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10) at anything, handed back at some contents nothing names. -/
noncomputable def kernelRun0_B (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : ¬cond0_2 i) (hc3 : cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) :
    { LS0 : List (View.Piece (Elt F) S128x4352 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], fun E K => ?run⟩
  case run =>
    simp only [cc0_diff_attention_eq_skeleton]; unfold cc0_diff_attention_skel
    simp only [k0_part52_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.Gen

end
-- ==== Proof.KRunC.lean ====
/- The run of the kernel body in the third of its four cases, at any float semantics. -/
module

public import proofs.«01_k».proof.Proof.KRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1336000 in
/-- What the body's stores leave in each output's staging memref, as pieces (last first) IN CASE C (`scf.if` 0 not taken, `scf.if` 1 not taken, `scf.if` 2 taken, `scf.if` 3 not taken, `scf.if` 4 not taken: points 2, 4, … 541: 224 of 544), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10) at anything, handed back at some contents nothing names. -/
noncomputable def kernelRun0_C (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : cond0_2 i) (hc3 : ¬cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) :
    { LS0 : List (View.Piece (Elt F) S128x4352 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], fun E K => ?run⟩
  case run =>
    simp only [cc0_diff_attention_eq_skeleton]; unfold cc0_diff_attention_skel
    simp only [k0_part52_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.Gen

end
-- ==== Proof.KRunD.lean ====
/- The run of the kernel body in the last of its four cases (the last point of a head), at any float semantics. -/
module

public import proofs.«01_k».proof.Proof.KRunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE D (`scf.if` 0 not taken, `scf.if` 1 not taken, `scf.if` 2 not taken, `scf.if` 3 not taken, `scf.if` 4 taken: points 16, 33, … 543: 32 of 544), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10) at anything, handed back at some contents nothing names. -/
noncomputable def kernelRun0_D (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : ¬cond0_2 i) (hc3 : ¬cond0_3 i) (hc4 : cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) :
    { LS0 : List (View.Piece (Elt F) S128x4352 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], fun E K => ?run⟩
  case run =>
    simp only [cc0_diff_attention_eq_skeleton]; unfold cc0_diff_attention_skel
    simp only [k0_part52_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _, _; isplitr; swap; · iexact H10
      ipureintro; rfl
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.Gen

end
-- ==== Proof.KFrame.lean ====
/- The frame of the kernel as compiled: what the scratch carries, the body at every point, the run, and the unchanged
   argument arrays. -/
module

public import proofs.«01_k».proof.Proof.KRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 2 pieces (stores and landed copies) of several sizes (`S128x256`, `S128x4096`) tiling it when cut into blocks of `![128, 256]` (Lib/Ring.lean `Piece.tiledBy`). -/
theorem scover0_A_0 (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : cond0_0 i) (hc1 : cond0_1 i) (hc2 : ¬cond0_2 i) (hc3 : ¬cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (y : S128x4352.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 x0 x1 x2 x3 x4 x5 x6 x7 x8 x9).1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 x0 x1 x2 x3 x4 x5 x6 x7 x8 x9).1 ![128, 256] (by sl_kernel_rfl) y

/-- What case A leaves in scratch `arg14`: its pieces read back over junk. -/
def sout0_A_0 (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : cond0_0 i) (hc1 : cond0_1 i) (hc2 : ¬cond0_2 i) (hc3 : ¬cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) : Vec F S128x4352 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 x0 x1 x2 x3 x4 x5 x6 x7 x8 x9).1)

/-- Case B stores nothing into scratch `arg14`: it holds what the point before left. -/
def sout0_B_0 (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : ¬cond0_2 i) (hc3 : cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) : Vec F S128x4352 .bf16 := xs0

/-- Case C stores nothing into scratch `arg14`: it holds what the point before left. -/
def sout0_C_0 (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : cond0_2 i) (hc3 : ¬cond0_3 i) (hc4 : ¬cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) : Vec F S128x4352 .bf16 := xs0

/-- Case D stores nothing into scratch `arg14`: it holds what the point before left. -/
def sout0_D_0 (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x256x128 .bf16) (harg13 : arg13.IsWhole) (arg14 : Memref sig .tc .vmem S128x4352 .bf16) (harg14 : arg14.IsWhole) (arg15 : Memref sig .tc .vmem S4352x256 .bf16) (harg15 : arg15.IsWhole) (arg16 : Memref sig .tc .vmem S256x4352 .f32) (harg16 : arg16.IsWhole) (arg17 : Memref sig .tc .vmem S256x4352 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x4352 .f32) (harg20 : arg20.IsWhole) (arg21 : Memref sig .tc .vmem S256x4352 .f32) (harg21 : arg21.IsWhole) (arg22 : Memref sig .tc .vmem S256x128 .f32) (harg22 : arg22.IsWhole) (arg23 : Memref sig .tc .vmem S256x128 .f32) (harg23 : arg23.IsWhole) (hc0 : ¬cond0_0 i) (hc1 : ¬cond0_1 i) (hc2 : ¬cond0_2 i) (hc3 : ¬cond0_3 i) (hc4 : cond0_4 i)
    (x0 : Vec F S1x256x128 .bf16) (x1 : Vec F S1x256x128 .bf16) (x2 : Vec F S1x4096x128 .bf16) (x3 : Vec F S1x256x128 .bf16) (x4 : Vec F S1x4096x128 .bf16) (x5 : Vec F S1x64 .f32) (x6 : Vec F S1x64 .f32) (x7 : Vec F S1x64 .f32) (x8 : Vec F S1x64 .f32) (x9 : Vec F S1x128 .f32) (xs0 : Vec F S128x4352 .bf16) : Vec F S128x4352 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x4352 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 17 = 0 then
      if h1 : (n + 1) % 17 = 0 then
        if h2 : ((n + 1) % 17 = 2 ∨ (n + 1) % 17 = 4 ∨ (n + 1) % 17 = 6 ∨ (n + 1) % 17 = 8 ∨ (n + 1) % 17 = 10 ∨ (n + 1) % 17 = 12 ∨ (n + 1) % 17 = 14) then
          False.elim (by have hN : n + 1 < 544 := lt_of_lt_of_eq hn (show cfg0.N = 544 from N_0); omega)
        else
          if h3 : ((n + 1) % 17 = 1 ∨ (n + 1) % 17 = 3 ∨ (n + 1) % 17 = 5 ∨ (n + 1) % 17 = 7 ∨ (n + 1) % 17 = 9 ∨ (n + 1) % 17 = 11 ∨ (n + 1) % 17 = 13 ∨ (n + 1) % 17 = 15) then
            False.elim (by have hN : n + 1 < 544 := lt_of_lt_of_eq hn (show cfg0.N = 544 from N_0); omega)
          else
            if h4 : (n + 1) % 17 = 16 then
              False.elim (by have hN : n + 1 < 544 := lt_of_lt_of_eq hn (show cfg0.N = 544 from N_0); omega)
            else
              sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
      else
        False.elim (by have hN : n + 1 < 544 := lt_of_lt_of_eq hn (show cfg0.N = 544 from N_0); omega)
    else
      if h1 : (n + 1) % 17 = 0 then
        False.elim (by have hN : n + 1 < 544 := lt_of_lt_of_eq hn (show cfg0.N = 544 from N_0); omega)
      else
        if h2 : ((n + 1) % 17 = 2 ∨ (n + 1) % 17 = 4 ∨ (n + 1) % 17 = 6 ∨ (n + 1) % 17 = 8 ∨ (n + 1) % 17 = 10 ∨ (n + 1) % 17 = 12 ∨ (n + 1) % 17 = 14) then
          if h3 : ((n + 1) % 17 = 1 ∨ (n + 1) % 17 = 3 ∨ (n + 1) % 17 = 5 ∨ (n + 1) % 17 = 7 ∨ (n + 1) % 17 = 9 ∨ (n + 1) % 17 = 11 ∨ (n + 1) % 17 = 13 ∨ (n + 1) % 17 = 15) then
            False.elim (by have hN : n + 1 < 544 := lt_of_lt_of_eq hn (show cfg0.N = 544 from N_0); omega)
          else
            if h4 : (n + 1) % 17 = 16 then
              False.elim (by have hN : n + 1 < 544 := lt_of_lt_of_eq hn (show cfg0.N = 544 from N_0); omega)
            else
              sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
        else
          if h3 : ((n + 1) % 17 = 1 ∨ (n + 1) % 17 = 3 ∨ (n + 1) % 17 = 5 ∨ (n + 1) % 17 = 7 ∨ (n + 1) % 17 = 9 ∨ (n + 1) % 17 = 11 ∨ (n + 1) % 17 = 13 ∨ (n + 1) % 17 = 15) then
            if h4 : (n + 1) % 17 = 16 then
              False.elim (by have hN : n + 1 < 544 := lt_of_lt_of_eq hn (show cfg0.N = 544 from N_0); omega)
            else
              sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
          else
            if h4 : (n + 1) % 17 = 16 then
              sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
            else
              False.elim (by have hN : n + 1 < 544 := lt_of_lt_of_eq hn (show cfg0.N = 544 from N_0); omega)

/-- `outsAt0` at a point of case A: that case's contents. -/
theorem outsAt0_A (c : Dev nD) (t : Fin cfg0.N) (h0 : t.val % 17 = 0) (h1 : t.val % 17 = 0) (h2 : ¬(t.val % 17 = 2 ∨ t.val % 17 = 4 ∨ t.val % 17 = 6 ∨ t.val % 17 = 8 ∨ t.val % 17 = 10 ∨ t.val % 17 = 12 ∨ t.val % 17 = 14)) (h3 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h4 : ¬t.val % 17 = 16) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 17 = 0) (h1 : ¬t.val % 17 = 0) (h2 : ¬(t.val % 17 = 2 ∨ t.val % 17 = 4 ∨ t.val % 17 = 6 ∨ t.val % 17 = 8 ∨ t.val % 17 = 10 ∨ t.val % 17 = 12 ∨ t.val % 17 = 14)) (h3 : (t.val % 17 = 1 ∨ t.val % 17 = 3 ∨ t.val % 17 = 5 ∨ t.val % 17 = 7 ∨ t.val % 17 = 9 ∨ t.val % 17 = 11 ∨ t.val % 17 = 13 ∨ t.val % 17 = 15)) (h4 : ¬t.val % 17 = 16) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case C: that case's contents, over what the point before left. -/
theorem outsAt0_C (c : Dev nD) (t : Fin cfg0.N) (h0 : ¬t.val % 17 = 0) (h1 : ¬t.val % 17 = 0) (h2 : (t.val % 17 = 2 ∨ t.val % 17 = 4 ∨ t.val % 17 = 6 ∨ t.val % 17 = 8 ∨ t.val % 17 = 10 ∨ t.val % 17 = 12 ∨ t.val % 17 = 14)) (h3 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h4 : ¬t.val % 17 = 16) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case D: that case's contents, over what the point before left. -/
theorem outsAt0_D (c : Dev nD) (t : Fin cfg0.N) (h0 : ¬t.val % 17 = 0) (h1 : ¬t.val % 17 = 0) (h2 : ¬(t.val % 17 = 2 ∨ t.val % 17 = 4 ∨ t.val % 17 = 6 ∨ t.val % 17 = 8 ∨ t.val % 17 = 10 ∨ t.val % 17 = 12 ∨ t.val % 17 = 14)) (h3 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h4 : t.val % 17 = 16) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The output windows this certificate FORGETS (10): nothing reads what the kernel leaves in them, so nothing
    of it is named (Lib/Pipeline/Dat.lean `Dat.toRForget`). -/
def forgets0 : Fin 11 → Bool := fun w => w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  by_cases h0 : t.val % 17 = 0
  · by_cases h1 : t.val % 17 = 0
    · by_cases h2 : (t.val % 17 = 2 ∨ t.val % 17 = 4 ∨ t.val % 17 = 6 ∨ t.val % 17 = 8 ∨ t.val % 17 = 10 ∨ t.val % 17 = 12 ∨ t.val % 17 = 14)
      · exfalso; omega
      · by_cases h3 : (t.val % 17 = 1 ∨ t.val % 17 = 3 ∨ t.val % 17 = 5 ∨ t.val % 17 = 7 ∨ t.val % 17 = 9 ∨ t.val % 17 = 11 ∨ t.val % 17 = 13 ∨ t.val % 17 = 15)
        · exfalso; omega
        · by_cases h4 : t.val % 17 = 16
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            by_cases hz : t.val = 0
            · rw [PhiS_castSucc m c t, PhiS_zero m c _ _ hz, PhiA0_eq]
              rw [outsAt0_A m c t h0 h1 h2 h3 h4]
              unfold sout0_A_0
              iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
              iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t)).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              isplitl [HS9]; · iexact HS9
              iintro ⟨H0, H1, H2, H3, H4, H5, H6, H7, H8, H9, H10, ⟨%es0, HS0⟩, HS1, HS2, HS3, HS4, HS5, HS6, HS7, HS8, HS9⟩
              isplitl [HS0 HS1 HS2 HS3 HS4 HS5 HS6 HS7 HS8 HS9 Hg]
              · isplitl [HS0 HS1 HS2 HS3 HS4 HS5 HS6 HS7 HS8 HS9]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
                  isplitl [HS1]
                  · iexact HS1
                  isplitl [HS2]
                  · iexact HS2
                  isplitl [HS3]
                  · iexact HS3
                  isplitl [HS4]
                  · iexact HS4
                  isplitl [HS5]
                  · iexact HS5
                  isplitl [HS6]
                  · iexact HS6
                  isplitl [HS7]
                  · iexact HS7
                  isplitl [HS8]
                  · iexact HS8
                  iexact HS9
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              iexact H10
            · rw [PhiS_castSucc m c t, PhiS_pos m c _ _ hz]
              rw [outsAt0_A m c t h0 h1 h2 h3 h4]
              unfold sout0_A_0
              iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
              iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t)).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [HS0]; · iexists _; iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              isplitl [HS9]; · iexact HS9
              iintro ⟨H0, H1, H2, H3, H4, H5, H6, H7, H8, H9, H10, ⟨%es0, HS0⟩, HS1, HS2, HS3, HS4, HS5, HS6, HS7, HS8, HS9⟩
              isplitl [HS0 HS1 HS2 HS3 HS4 HS5 HS6 HS7 HS8 HS9 Hg]
              · isplitl [HS0 HS1 HS2 HS3 HS4 HS5 HS6 HS7 HS8 HS9]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
                  isplitl [HS1]
                  · iexact HS1
                  isplitl [HS2]
                  · iexact HS2
                  isplitl [HS3]
                  · iexact HS3
                  isplitl [HS4]
                  · iexact HS4
                  isplitl [HS5]
                  · iexact HS5
                  isplitl [HS6]
                  · iexact HS6
                  isplitl [HS7]
                  · iexact HS7
                  isplitl [HS8]
                  · iexact HS8
                  iexact HS9
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              iexact H10
    · exfalso; omega
  · by_cases h1 : t.val % 17 = 0
    · exfalso; omega
    · by_cases h2 : (t.val % 17 = 2 ∨ t.val % 17 = 4 ∨ t.val % 17 = 6 ∨ t.val % 17 = 8 ∨ t.val % 17 = 10 ∨ t.val % 17 = 12 ∨ t.val % 17 = 14)
      · by_cases h3 : (t.val % 17 = 1 ∨ t.val % 17 = 3 ∨ t.val % 17 = 5 ∨ t.val % 17 = 7 ∨ t.val % 17 = 9 ∨ t.val % 17 = 11 ∨ t.val % 17 = 13 ∨ t.val % 17 = 15)
        · exfalso; omega
        · by_cases h4 : t.val % 17 = 16
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            by_cases hz : t.val = 0
            · exfalso; have hN : t.val < 544 := lt_of_lt_of_eq t.isLt (show cfg0.N = 544 from N_0); omega
            · rw [PhiS_castSucc m c t, PhiS_pos m c _ _ hz]
              rw [outsAt0_C m c t h0 h1 h2 h3 h4]
              unfold sout0_C_0
              iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
              iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              isplitl [HS9]; · iexact HS9
              iintro ⟨H0, H1, H2, H3, H4, H5, H6, H7, H8, H9, H10, HS0, HS1, HS2, HS3, HS4, HS5, HS6, HS7, HS8, HS9⟩
              isplitl [HS0 HS1 HS2 HS3 HS4 HS5 HS6 HS7 HS8 HS9 Hg]
              · isplitl [HS0 HS1 HS2 HS3 HS4 HS5 HS6 HS7 HS8 HS9]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  isplitl [HS6]
                  · iexact HS6
                  isplitl [HS7]
                  · iexact HS7
                  isplitl [HS8]
                  · iexact HS8
                  iexact HS9
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              iexact H10
      · by_cases h3 : (t.val % 17 = 1 ∨ t.val % 17 = 3 ∨ t.val % 17 = 5 ∨ t.val % 17 = 7 ∨ t.val % 17 = 9 ∨ t.val % 17 = 11 ∨ t.val % 17 = 13 ∨ t.val % 17 = 15)
        · by_cases h4 : t.val % 17 = 16
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            by_cases hz : t.val = 0
            · exfalso; have hN : t.val < 544 := lt_of_lt_of_eq t.isLt (show cfg0.N = 544 from N_0); omega
            · rw [PhiS_castSucc m c t, PhiS_pos m c _ _ hz]
              rw [outsAt0_B m c t h0 h1 h2 h3 h4]
              unfold sout0_B_0
              iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
              iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              isplitl [HS9]; · iexact HS9
              iintro ⟨H0, H1, H2, H3, H4, H5, H6, H7, H8, H9, H10, HS0, HS1, HS2, HS3, HS4, HS5, HS6, HS7, HS8, HS9⟩
              isplitl [HS0 HS1 HS2 HS3 HS4 HS5 HS6 HS7 HS8 HS9 Hg]
              · isplitl [HS0 HS1 HS2 HS3 HS4 HS5 HS6 HS7 HS8 HS9]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  isplitl [HS6]
                  · iexact HS6
                  isplitl [HS7]
                  · iexact HS7
                  isplitl [HS8]
                  · iexact HS8
                  iexact HS9
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              iexact H10
        · by_cases h4 : t.val % 17 = 16
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            by_cases hz : t.val = 0
            · exfalso; have hN : t.val < 544 := lt_of_lt_of_eq t.isLt (show cfg0.N = 544 from N_0); omega
            · rw [PhiS_castSucc m c t, PhiS_pos m c _ _ hz]
              rw [outsAt0_D m c t h0 h1 h2 h3 h4]
              unfold sout0_D_0
              iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
              iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (iblk m c 7 t) (iblk m c 8 t) (iblk m c 9 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              isplitl [HS9]; · iexact HS9
              iintro ⟨H0, H1, H2, H3, H4, H5, H6, H7, H8, H9, H10, HS0, HS1, HS2, HS3, HS4, HS5, HS6, HS7, HS8, HS9⟩
              isplitl [HS0 HS1 HS2 HS3 HS4 HS5 HS6 HS7 HS8 HS9 Hg]
              · isplitl [HS0 HS1 HS2 HS3 HS4 HS5 HS6 HS7 HS8 HS9]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  isplitl [HS6]
                  · iexact HS6
                  isplitl [HS7]
                  · iexact HS7
                  isplitl [HS8]
                  · iexact HS8
                  iexact HS9
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              iexact H10
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 544 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Setup.lean ====
/- What the four cases of the attention body share: its branch conditions over the grid, the staging and scratch
   memrefs, and the bundles the runs are stated over. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_0, e0, e1, e2]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 17) — by arithmetic of the point. -/
theorem hcond0_1 : ∀ t : Fin cfg0.N, cond0_1 (grid0.coords t) ↔ t.val % 17 = 0 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_1, e0, e1, e2]
    word_cmp
   : ∀ t : Fin grid0.N, cond0_1 (grid0.coords t) ↔ t.val % 17 = 0)

/-- The condition of the body's `scf.if` 2 (`k0_h3`), from the grid coordinates (the skeleton's scalar
    chain substituted). -/
abbrev cond0_2 (i : grid0.Coords) : Prop := k0_cond3 i = 1#1
/-- It holds at the points ≡ 2, 4, 6, 8, 10, 12 or 14 (mod 17) — decided over the grid. -/
theorem hcond0_2 : ∀ t : Fin cfg0.N, cond0_2 (grid0.coords t) ↔ (t.val % 17 = 2 ∨ t.val % 17 = 4 ∨ t.val % 17 = 6 ∨ t.val % 17 = 8 ∨ t.val % 17 = 10 ∨ t.val % 17 = 12 ∨ t.val % 17 = 14) :=
  (by decide +kernel : ∀ t : Fin grid0.N, cond0_2 (grid0.coords t) ↔ (t.val % 17 = 2 ∨ t.val % 17 = 4 ∨ t.val % 17 = 6 ∨ t.val % 17 = 8 ∨ t.val % 17 = 10 ∨ t.val % 17 = 12 ∨ t.val % 17 = 14))

/-- The condition of the body's `scf.if` 3 (`k0_h4`), from the grid coordinates (the skeleton's scalar
    chain substituted). -/
abbrev cond0_3 (i : grid0.Coords) : Prop := k0_cond4 i = 1#1
/-- It holds at the points ≡ 1, 3, 5, 7, 9, 11, 13 or 15 (mod 17) — decided over the grid. -/
theorem hcond0_3 : ∀ t : Fin cfg0.N, cond0_3 (grid0.coords t) ↔ (t.val % 17 = 1 ∨ t.val % 17 = 3 ∨ t.val % 17 = 5 ∨ t.val % 17 = 7 ∨ t.val % 17 = 9 ∨ t.val % 17 = 11 ∨ t.val % 17 = 13 ∨ t.val % 17 = 15) :=
  (by decide +kernel : ∀ t : Fin grid0.N, cond0_3 (grid0.coords t) ↔ (t.val % 17 = 1 ∨ t.val % 17 = 3 ∨ t.val % 17 = 5 ∨ t.val % 17 = 7 ∨ t.val % 17 = 9 ∨ t.val % 17 = 11 ∨ t.val % 17 = 13 ∨ t.val % 17 = 15))

/-- The condition of the body's `scf.if` 4 (`k0_h5`), from the grid coordinates (the skeleton's scalar
    chain substituted). -/
abbrev cond0_4 (i : grid0.Coords) : Prop := k0_cond5 i = 1#1
/-- It holds at the points ≡ 16 (mod 17) — by arithmetic of the point. -/
theorem hcond0_4 : ∀ t : Fin cfg0.N, cond0_4 (grid0.coords t) ↔ t.val % 17 = 16 :=
  (fun t => by
    have ht : t.val < 544 := Nat.lt_of_lt_of_eq t.isLt N_0
    have e0 : (grid0.coords t 0).val = t.val / 68 % 8 := Pipeline.Grid.coords_val t 0 (by decide) rfl
    have e1 : (grid0.coords t 1).val = t.val / 17 % 4 := Pipeline.Grid.coords_val t 1 (by decide) rfl
    have e2 : (grid0.coords t 2).val = t.val / 1 % 17 := Pipeline.Grid.coords_val t 2 (by decide) rfl
    simp only [cond0_4, k0_cond5, e0, e1, e2]
    word_cmp
   : ∀ t : Fin grid0.N, cond0_4 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Each window's current staging memref at point `t`, spelled as the pipeline passes it (`bodyAt0`), and its wholeness. -/
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x128 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x4352 .bf16 := Memref.whole cc0_scratch0
abbrev scM0_1 : Memref sig .tc .vmem S4352x256 .bf16 := Memref.whole cc0_scratch1
abbrev scM0_2 : Memref sig .tc .vmem S256x4352 .f32 := Memref.whole cc0_scratch2
abbrev scM0_3 : Memref sig .tc .vmem S256x4352 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x4352 .f32 := Memref.whole cc0_scratch6
abbrev scM0_7 : Memref sig .tc .vmem S256x4352 .f32 := Memref.whole cc0_scratch7
abbrev scM0_8 : Memref sig .tc .vmem S256x128 .f32 := Memref.whole cc0_scratch8
abbrev scM0_9 : Memref sig .tc .vmem S256x128 .f32 := Memref.whole cc0_scratch9
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- The memrefs one call of the body is given, each a whole buffer. -/
structure Mems where
  arg3 : Memref sig .tc .vmem S1x256x128 .bf16
  harg3 : arg3.IsWhole
  arg4 : Memref sig .tc .vmem S1x256x128 .bf16
  harg4 : arg4.IsWhole
  arg5 : Memref sig .tc .vmem S1x4096x128 .bf16
  harg5 : arg5.IsWhole
  arg6 : Memref sig .tc .vmem S1x256x128 .bf16
  harg6 : arg6.IsWhole
  arg7 : Memref sig .tc .vmem S1x4096x128 .bf16
  harg7 : arg7.IsWhole
  arg8 : Memref sig .tc .vmem S1x64 .f32
  harg8 : arg8.IsWhole
  arg9 : Memref sig .tc .vmem S1x64 .f32
  harg9 : arg9.IsWhole
  arg10 : Memref sig .tc .vmem S1x64 .f32
  harg10 : arg10.IsWhole
  arg11 : Memref sig .tc .vmem S1x64 .f32
  harg11 : arg11.IsWhole
  arg12 : Memref sig .tc .vmem S1x128 .f32
  harg12 : arg12.IsWhole
  arg13 : Memref sig .tc .vmem S1x256x128 .bf16
  harg13 : arg13.IsWhole
  arg14 : Memref sig .tc .vmem S128x4352 .bf16
  harg14 : arg14.IsWhole
  arg15 : Memref sig .tc .vmem S4352x256 .bf16
  harg15 : arg15.IsWhole
  arg16 : Memref sig .tc .vmem S256x4352 .f32
  harg16 : arg16.IsWhole
  arg17 : Memref sig .tc .vmem S256x4352 .f32
  harg17 : arg17.IsWhole
  arg18 : Memref sig .tc .vmem S256x128 .f32
  harg18 : arg18.IsWhole
  arg19 : Memref sig .tc .vmem S256x128 .f32
  harg19 : arg19.IsWhole
  arg20 : Memref sig .tc .vmem S256x4352 .f32
  harg20 : arg20.IsWhole
  arg21 : Memref sig .tc .vmem S256x4352 .f32
  harg21 : arg21.IsWhole
  arg22 : Memref sig .tc .vmem S256x128 .f32
  harg22 : arg22.IsWhole
  arg23 : Memref sig .tc .vmem S256x128 .f32
  harg23 : arg23.IsWhole

/-- What the ten input memrefs hold. -/
structure Ins (F : FTy → Type) where
  x0 : Vec F S1x256x128 .bf16
  x1 : Vec F S1x256x128 .bf16
  x2 : Vec F S1x4096x128 .bf16
  x3 : Vec F S1x256x128 .bf16
  x4 : Vec F S1x4096x128 .bf16
  x5 : Vec F S1x64 .f32
  x6 : Vec F S1x64 .f32
  x7 : Vec F S1x64 .f32
  x8 : Vec F S1x64 .f32
  x9 : Vec F S1x128 .f32

/-- The ten inputs' memrefs owned at their contents. -/
def insOwn (c : Dev nD) (M : Mems) (x : Ins F) : sProp 𝕄 :=
  iprop(owns (c : Thread nD τ) M.arg3 fullShare x.x0 ∗ owns (c : Thread nD τ) M.arg4 fullShare x.x1 ∗ owns (c : Thread nD τ) M.arg5 fullShare x.x2 ∗ owns (c : Thread nD τ) M.arg6 fullShare x.x3 ∗ owns (c : Thread nD τ) M.arg7 fullShare x.x4 ∗ owns (c : Thread nD τ) M.arg8 fullShare x.x5 ∗ owns (c : Thread nD τ) M.arg9 fullShare x.x6 ∗ owns (c : Thread nD τ) M.arg10 fullShare x.x7 ∗ owns (c : Thread nD τ) M.arg11 fullShare x.x8 ∗ owns (c : Thread nD τ) M.arg12 fullShare x.x9)

/-- The body on a bundle of memrefs. -/
abbrev body (i : grid0.Coords) (M : Mems) := cc0_diff_attention (F := F) i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23

/-- The memrefs the pipeline passes the body at point `t`. -/
def memsAt (t : Fin cfg0.N) : Mems :=
  ⟨ms0_0  t, hs0_0 t, ms0_1  t, hs0_1 t, ms0_2  t, hs0_2 t, ms0_3  t, hs0_3 t, ms0_4  t, hs0_4 t, ms0_5  t, hs0_5 t, ms0_6  t, hs0_6 t, ms0_7  t, hs0_7 t, ms0_8  t, hs0_8 t, ms0_9  t, hs0_9 t, ms0_10  t, hs0_10 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _⟩

end Cert.KernelIdeal.Att

end
-- ==== Proof.Vocab.lean ====
/- What the runs of the body leave, in a few words: a tile of scores against one chunk of keys, the running row
   maximum, the running weighted sum of values, and the finishing of a head's output tile. -/
module

public import proofs.«01_k».proof.Proof.Setup

@[expose] public section

set_option maxRecDepth 16384

noncomputable section

namespace Cert.KernelIdeal.Att

open Idealize.ShloMosaic Idealize.ShloMosaic.TcCoe Idealize.ShloMosaic.Tactic
open Cert.KernelIdeal.Gen

variable {F : FTy → Type} [FloatOps F]

/-- The box of the 256 columns from `256 c` of the transposed keys. -/
abbrev kBox (c : Fin 17) : Rect S128x4352 := Rect.unit ![0, 256 * c.val] S128x256.size (fun a => by
  have := c.isLt; fin_cases a <;> simp [S128x256, S128x4352]; omega)
/-- The box of the 256 columns from `256 c` of a buffer of scores. -/
abbrev sBox (c : Fin 17) : Rect S256x4352 := Rect.unit ![0, 256 * c.val] S256x256.size (fun a => by
  have := c.isLt; fin_cases a <;> simp [S256x256, S256x4352]; omega)
/-- The box of the 256 rows from `256 c` of the widened values. -/
abbrev vBox (c : Fin 17) : Rect S4352x256 := Rect.unit ![256 * c.val, 0] S256x256.size (fun a => by
  have := c.isLt; fin_cases a <;> simp [S256x256, S4352x256]; omega)

/-- The seventeen chunks of keys, in the order they are scored. -/
def chunks : List (Fin 17) := [0, 1, 2, 3, 4, 5, 6, 7, 8, 9, 10, 11, 12, 13, 14, 15, 16]

/-- The scores of a tile of queries against one chunk of keys. -/
def scores (Q : FVec F S256x128 .bf16) (k : Vec F S128x256 .bf16) : FVec F S256x256 .f32 :=
  matmul dot_S256x128_S128x256_S256x256_1_0_0_1_n_n none Q k (constant S256x256 .f32 0x00000000#32)

/-- The stores of a tile's scores against the chunks `K`, last first. -/
def scoreList (Q : FVec F S256x128 .bf16) (K : Fin 17 → Vec F S128x256 .bf16) : List (View.Piece (Elt F) S256x4352 .f32) :=
  List.ofFn fun n : Fin 17 => ⟨sBox n.rev, shapeCast S256x256 (scores Q (K n.rev)) shapeCasts_S256x256_S256x256⟩

/-- One step of the running row maximum. -/
def maxStep (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)

/-- The row maxima of a tile's scores against the chunks `K`. -/
def rowMax (Q : FVec F S256x128 .bf16) (K : Fin 17 → Vec F S128x256 .bf16) : FVec F S256x1 .f32 :=
  chunks.foldl (fun m c => maxStep m (scores Q (K c))) k0_pay6

/-- A column repeated over the lanes. -/
def wide (m : FVec F S256x1 .f32) : FVec F S256x128 .f32 :=
  shapeCast S256x128 (broadcastTo S256x128 (shapeCast S256x1 m shapeCasts_S256x1_S256x1) broadcasts_S256x1_S256x128) shapeCasts_S256x128_S256x128

/-- One step of the running weighted sum: `o` plus the weights of the scores `s` against `m`, times the values `v`. -/
def attStep (m : Vec F S256x1 .f32) (o : FVec F S256x256 .f32) (s : Vec F S256x256 .f32) (v : Vec F S256x256 .bf16) : FVec F S256x256 .f32 :=
  addf o (matmul dot_S256x256_S256x256_S256x256_1_0_0_1_n_n none
    (truncf .bf16 (exp2 (subf s (broadcastTo S256x256 m broadcasts_S256x1_S256x256))) bitsLt_bf16_f32) v (constant S256x256 .f32 0x00000000#32))

/-- The weighted sum of values over the chunks. -/
def attend (m : Vec F S256x1 .f32) (s : Fin 17 → Vec F S256x256 .f32) (v : Fin 17 → Vec F S256x256 .bf16) : FVec F S256x256 .f32 :=
  chunks.foldl (fun o c => attStep m o (s c) (v c)) (k0_pay246 (F := F))

/-- The difference of the two normalised attentions, the second weighted by `lam`. -/
def diff (lam : FVec F S1x1 .f32) (o1 o2 : FVec F S256x256 .f32) : FVec F S256x128 .f32 :=
  subf (divf (extractStridedSlice S256x128 ![0, 0] o1 slices_S256x256_o0_0_S256x128) (extractStridedSlice S256x128 ![0, 128] o1 slices_S256x256_o0_128_S256x128))
    (mulf (extractStridedSlice S256x128 ![0, 0] o2 slices_S256x256_o0_0_S256x128)
      (divf (broadcastTo S256x128 lam broadcasts_S1x1_S256x128) (extractStridedSlice S256x128 ![0, 128] o2 slices_S256x256_o0_128_S256x128)))

/-- The reciprocal root mean square of each row. -/
def rstd (o : FVec F S256x128 .f32) : FVec F S256x1 .f32 :=
  rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32)))

/-- The output tile from the row differences `o` and the gains `g`. -/
def finish (o : FVec F S256x128 .f32) (g : Vec F S1x128 .f32) : FVec F S1x256x128 .bf16 :=
  k0_pay1 (mulf o (broadcastTo S256x128 (rstd o) broadcasts_S256x1_S256x128)) g

variable (M : Mems)

/-- The query tile the body loads. -/
abbrev rdQ (x : Ins F) : Vec F S1x256x128 .bf16 := M.arg3.view.readAt (Elt F) (Rect.unit ![0, 0, 0] S1x256x128.size inb_S1x256x128_S1x256x128_0_0_0).toLoadRect (M.harg3.unread x.x0)
/-- The chunks of the transposed keys the body loads. -/
abbrev rdK (kt : Vec F S128x4352 .bf16) (n : Fin 17) : Vec F S128x256 .bf16 := M.arg14.view.readAt (Elt F) (kBox n).toLoadRect (M.harg14.unread kt)
/-- The chunks of the widened values the body loads. -/
abbrev rdV (v1 : Vec F S4352x256 .bf16) (n : Fin 17) : Vec F S256x256 .bf16 := M.arg15.view.readAt (Elt F) (vBox n).toLoadRect (M.harg15.unread v1)
/-- The difference weight the body computes. -/
abbrev rdLam (x : Ins F) : FVec F S1x1 .f32 := k0_pay416
    (M.arg8.view.readAt (Elt F) (Rect.unit ![0, 0] S1x64.size inb_S1x64_S1x64_0_0).toLoadRect (M.harg8.unread x.x5))
    (M.arg9.view.readAt (Elt F) (Rect.unit ![0, 0] S1x64.size inb_S1x64_S1x64_0_0).toLoadRect (M.harg9.unread x.x6))
    (M.arg10.view.readAt (Elt F) (Rect.unit ![0, 0] S1x64.size inb_S1x64_S1x64_0_0).toLoadRect (M.harg10.unread x.x7))
    (M.arg11.view.readAt (Elt F) (Rect.unit ![0, 0] S1x64.size inb_S1x64_S1x64_0_0).toLoadRect (M.harg11.unread x.x8))
/-- The gains the body loads. -/
abbrev rdG (x : Ins F) : Vec F S1x128 .f32 := M.arg12.view.readAt (Elt F) (Rect.unit ![0, 0] S1x128.size inb_S1x128_S1x128_0_0).toLoadRect (M.harg12.unread x.x9)

/-- The keys the body transposes, of the context and of the sequence. -/
abbrev rdKc (x : Ins F) : Vec F S1x256x128 .bf16 := M.arg4.view.readAt (Elt F) (Rect.unit ![0, 0, 0] S1x256x128.size inb_S1x256x128_S1x256x128_0_0_0).toLoadRect (M.harg4.unread x.x1)
abbrev rdKs (x : Ins F) : Vec F S1x4096x128 .bf16 := M.arg5.view.readAt (Elt F) (Rect.unit ![0, 0, 0] S1x4096x128.size inb_S1x4096x128_S1x4096x128_0_0_0).toLoadRect (M.harg5.unread x.x2)
/-- The values the body widens, of the context and of the sequence. -/
abbrev rdVc (x : Ins F) : Vec F S1x256x128 .bf16 := M.arg6.view.readAt (Elt F) (Rect.unit ![0, 0, 0] S1x256x128.size inb_S1x256x128_S1x256x128_0_0_0).toLoadRect (M.harg6.unread x.x3)
abbrev rdVs (x : Ins F) : Vec F S1x4096x128 .bf16 := M.arg7.view.readAt (Elt F) (Rect.unit ![0, 0, 0] S1x4096x128.size inb_S1x4096x128_S1x4096x128_0_0_0).toLoadRect (M.harg7.unread x.x4)

/-- The stores that transpose the keys, last first. -/
def ktList (kc : Vec F S1x256x128 .bf16) (ks : Vec F S1x4096x128 .bf16) : List (View.Piece (Elt F) S128x4352 .bf16) :=
  [⟨Rect.unit ![0, 256] S128x4096.size inb_S128x4352_S128x4096_0_256, k0_pay418 ks⟩, ⟨Rect.unit ![0, 0] S128x256.size inb_S128x4352_S128x256_0_0, k0_pay417 kc⟩]
/-- The stores that widen the values by a block of ones, last first. -/
def v1List (vc : Vec F S1x256x128 .bf16) (vs : Vec F S1x4096x128 .bf16) : List (View.Piece (Elt F) S4352x256 .bf16) :=
  [⟨Rect.unit ![0, 128] S4352x128.size inb_S4352x256_S4352x128_0_128, k0_pay421⟩, ⟨Rect.unit ![256, 0] S4096x128.size inb_S4352x256_S4096x128_256_0, k0_pay420 vs⟩,
    ⟨Rect.unit ![0, 0] S256x128.size inb_S4352x256_S256x128_0_0, k0_pay419 vc⟩]

end Cert.KernelIdeal.Att

end
-- ==== Proof.RunA.lean ====
/- The body's first point of a head: the keys and values are laid out and the first query tile is scored. -/
module

public import proofs.«01_k».proof.Proof.Setup

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (M : Mems)

set_option maxHeartbeats 4000000 in
/-- The body's first point of a head: the keys and values are laid out and the first query tile is scored. What the stores leave in each buffer they write is the list of pieces, last first; every other buffer is as found. -/
noncomputable def runA (hc0 : cond0_0 i) (hc1 : cond0_1 i) (hc2 : ¬cond0_2 i) (hc3 : ¬cond0_3 i) (hc4 : ¬cond0_4 i) (x : Ins F)  :
    { L : List (View.Piece (Elt F) S128x4352 .bf16) × List (View.Piece (Elt F) S4352x256 .bf16) × List (View.Piece (Elt F) S256x4352 .f32) × List (View.Piece (Elt F) S256x4352 .f32) × List (View.Piece (Elt F) S256x128 .f32) × List (View.Piece (Elt F) S256x128 .f32) //
      ∀ (E : Set ℕ) (K : PUnit → sProp 𝕄),
        iprop(insOwn c M x ∗ (∃ d, owns (c : Thread nD τ) M.arg13 fullShare d) ∗ (∃ d, owns (c : Thread nD τ) M.arg14 fullShare d) ∗ (∃ d, owns (c : Thread nD τ) M.arg15 fullShare d) ∗ (∃ d, owns (c : Thread nD τ) M.arg16 fullShare d) ∗ (∃ d, owns (c : Thread nD τ) M.arg17 fullShare d) ∗ (∃ d, owns (c : Thread nD τ) M.arg18 fullShare d) ∗ (∃ d, owns (c : Thread nD τ) M.arg19 fullShare d) ∗ (∃ d, owns (c : Thread nD τ) M.arg20 fullShare d) ∗ (∃ d, owns (c : Thread nD τ) M.arg21 fullShare d) ∗ (∃ d, owns (c : Thread nD τ) M.arg22 fullShare d) ∗ (∃ d, owns (c : Thread nD τ) M.arg23 fullShare d)
            ∗ (iprop(insOwn c M x ∗ (∃ d, owns (c : Thread nD τ) M.arg13 fullShare d) ∗ (∃ f, M.arg14.view.loc (c : Thread nD τ) ↦[M.arg14.view.set]{fullShare} M.arg14.view.writes (Elt F) f L.1) ∗ (∃ f, M.arg15.view.loc (c : Thread nD τ) ↦[M.arg15.view.set]{fullShare} M.arg15.view.writes (Elt F) f L.2.1) ∗ (∃ f, M.arg16.view.loc (c : Thread nD τ) ↦[M.arg16.view.set]{fullShare} M.arg16.view.writes (Elt F) f L.2.2.1) ∗ (∃ f, M.arg17.view.loc (c : Thread nD τ) ↦[M.arg17.view.set]{fullShare} M.arg17.view.writes (Elt F) f L.2.2.2.1) ∗ (∃ f, M.arg18.view.loc (c : Thread nD τ) ↦[M.arg18.view.set]{fullShare} M.arg18.view.writes (Elt F) f L.2.2.2.2.1) ∗ (∃ f, M.arg19.view.loc (c : Thread nD τ) ↦[M.arg19.view.set]{fullShare} M.arg19.view.writes (Elt F) f L.2.2.2.2.2) ∗ (∃ d, owns (c : Thread nD τ) M.arg20 fullShare d) ∗ (∃ d, owns (c : Thread nD τ) M.arg21 fullShare d) ∗ (∃ d, owns (c : Thread nD τ) M.arg22 fullShare d) ∗ (∃ d, owns (c : Thread nD τ) M.arg23 fullShare d)) -∗ K ⟨⟩))
          ⊢ wp frame (wpE (defs₀ (F := F)) Variants.none c none) E (body i M) K } := by
  refine ⟨⟨?L14, ?L15, ?L16, ?L17, ?L18, ?L19⟩, fun E K => ?run⟩
  case run =>
    unfold body insOwn
    simp only [cc0_diff_attention_eq_skeleton]; unfold cc0_diff_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part52_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d13, %g13, %hg13, G13⟩, ⟨%d14, %g14, %hg14, G14⟩, ⟨%d15, %g15, %hg15, G15⟩, ⟨%d16, %g16, %hg16, G16⟩, ⟨%d17, %g17, %hg17, G17⟩, ⟨%d18, %g18, %hg18, G18⟩, ⟨%d19, %g19, %hg19, G19⟩, ⟨%d20, %g20, %hg20, G20⟩, ⟨%d21, %g21, %hg21, G21⟩, ⟨%d22, %g22, %hg22, G22⟩, ⟨%d23, %g23, %hg23, G23⟩, Hk⟩
    obtain rfl := M.harg3.eq_unread hf0; obtain rfl := M.harg4.eq_unread hf1; obtain rfl := M.harg5.eq_unread hf2; obtain rfl := M.harg6.eq_unread hf3; obtain rfl := M.harg7.eq_unread hf4; obtain rfl := M.harg8.eq_unread hf5; obtain rfl := M.harg9.eq_unread hf6; obtain rfl := M.harg10.eq_unread hf7; obtain rfl := M.harg11.eq_unread hf8; obtain rfl := M.harg12.eq_unread hf9
    sl_exec (disch := first | sl_exact hc0 | sl_exact hc1 | sl_exact hc2 | sl_exact hc3 | sl_exact hc4)
    sl_step
    iapply Hk
    isplitl [H0 H1 H2 H3 H4 H5 H6 H7 H8 H9]
    · isplitl [H0]
      · iexists _; isplitr; · ipureintro; exact M.harg3.read_unread _
        iexact H0
      isplitl [H1]
      · iexists _; isplitr; · ipureintro; exact M.harg4.read_unread _
        iexact H1
      isplitl [H2]
      · iexists _; isplitr; · ipureintro; exact M.harg5.read_unread _
        iexact H2
      isplitl [H3]
      · iexists _; isplitr; · ipureintro; exact M.harg6.read_unread _
        iexact H3
      isplitl [H4]
      · iexists _; isplitr; · ipureintro; exact M.harg7.read_unread _
        iexact H4
      isplitl [H5]
      · iexists _; isplitr; · ipureintro; exact M.harg8.read_unread _
        iexact H5
      isplitl [H6]
      · iexists _; isplitr; · ipureintro; exact M.harg9.read_unread _
        iexact H6
      isplitl [H7]
      · iexists _; isplitr; · ipureintro; exact M.harg10.read_unread _
        iexact H7
      isplitl [H8]
      · iexists _; isplitr; · ipureintro; exact M.harg11.read_unread _
        iexact H8
      iexists _; isplitr; · ipureintro; exact M.harg12.read_unread _
      iexact H9
    isplitl [G13]
    · iexists _, _; isplitr; swap; · iexact G13
      ipureintro; rfl
    isplitl [G14]
    · iexists _; iexact G14
    isplitl [G15]
    · iexists _; iexact G15
    isplitl [G16]
    · iexists _; iexact G16
    isplitl [G17]
    · iexists _; iexact G17
    isplitl [G18]
    · iexists _; iexact G18
    isplitl [G19]
    · iexists _; iexact G19
    isplitl [G20]
    · iexists _, _; isplitr; swap; · iexact G20
      ipureintro; rfl
    isplitl [G21]
    · iexists _, _; isplitr; swap; · iexact G21
      ipureintro; rfl
    isplitl [G22]
    · iexists _, _; isplitr; swap; · iexact G22
      ipureintro; rfl
    iexists _, _; isplitr; swap; · iexact G23
    ipureintro; rfl

end Cert.KernelIdeal.Att

end
-- ==== Proof.PiecesA.lean ====
/- The pieces the body's runs leave, in the words of Vocab. -/
module

public import proofs.«01_k».proof.Proof.Vocab
public import proofs.«01_k».proof.Proof.RunA

@[expose] public section

set_option maxRecDepth 65536

noncomputable section

namespace Cert.KernelIdeal.Att

open Idealize.ShloMosaic Idealize.ShloMosaic.TcCoe Idealize.ShloMosaic.Tactic
open Cert.KernelIdeal.Gen

variable {F : FTy → Type} [FloatOps F]
variable (c : Dev nD) (i : grid0.Coords) (M : Mems)

variable (hc0 : cond0_0 i) (hc1 : cond0_1 i) (hc2 : ¬cond0_2 i) (hc3 : ¬cond0_3 i) (hc4 : ¬cond0_4 i) (x : Ins F)

set_option maxHeartbeats 4000000 in
theorem runA_kt : (runA c i M hc0 hc1 hc2 hc3 hc4 x).1.1 = ktList (rdKc M x) (rdKs M x) := rfl
set_option maxHeartbeats 4000000 in
theorem runA_v1 : (runA c i M hc0 hc1 hc2 hc3 hc4 x).1.2.1 = v1List (rdVc M x) (rdVs M x) := rfl
set_option maxHeartbeats 4000000 in
theorem runA_s1 : (runA c i M hc0 hc1 hc2 hc3 hc4 x).1.2.2.1 = scoreList (k0_pay4 (rdQ M x)) (fun n => M.arg14.view.readCov (ktList (rdKc M x) (rdKs M x)) (kBox n).toLoadRect) := rfl
set_option maxHeartbeats 4000000 in
theorem runA_s2 : (runA c i M hc0 hc1 hc2 hc3 hc4 x).1.2.2.2.1 = scoreList (k0_pay5 (rdQ M x)) (fun n => M.arg14.view.readCov (ktList (rdKc M x) (rdKs M x)) (kBox n).toLoadRect) := rfl
set_option maxHeartbeats 4000000 in
theorem runA_m1 : (runA c i M hc0 hc1 hc2 hc3 hc4 x).1.2.2.2.2.1 = [⟨Rect.unit ![0, 0] S256x128.size inb_S256x128_S256x128_0_0, wide (rowMax (k0_pay4 (rdQ M x)) (fun n => M.arg14.view.readCov (ktList (rdKc M x) (rdKs M x)) (kBox n).toLoadRect))⟩] := rfl
set_option maxHeartbeats 4000000 in
theorem runA_m2 : (runA c i M hc0 hc1 hc2 hc3 hc4 x).1.2.2.2.2.2 = [⟨Rect.unit ![0, 0] S256x128.size inb_S256x128_S256x128_0_0, wide (rowMax (k0_pay5 (rdQ M x)) (fun n => M.arg14.view.readCov (ktList (rdKc M x) (rdKs M x)) (kBox n).toLoadRect))⟩] := rfl

end Cert.KernelIdeal.Att

end
-- ==== Proof.RunB.lean ====
/- The body at an odd point: the query tile is scored into the odd buffers while the even buffers' scores attend. -/
module

public import proofs.«01_k».proof.Proof.RunA

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (M : Mems)

set_option maxHeartbeats 4000000 in
/-- The body at an odd point: the query tile is scored into the odd buffers while the even buffers' scores attend. What the stores leave in each buffer they write is the list of pieces, last first; every other buffer is as found. -/
noncomputable def runB (hc0 : ¬cond0_0 i) (hc1 : ¬cond0_1 i) (hc2 : ¬cond0_2 i) (hc3 : cond0_3 i) (hc4 : ¬cond0_4 i) (x : Ins F) (kt : Vec F S128x4352 .bf16) (v1 : Vec F S4352x256 .bf16) (s1e : Vec F S256x4352 .f32) (s2e : Vec F S256x4352 .f32) (m1e : Vec F S256x128 .f32) (m2e : Vec F S256x128 .f32) :
    { L : List (View.Piece (Elt F) S1x256x128 .bf16) × List (View.Piece (Elt F) S256x4352 .f32) × List (View.Piece (Elt F) S256x4352 .f32) × List (View.Piece (Elt F) S256x128 .f32) × List (View.Piece (Elt F) S256x128 .f32) //
      ∀ (E : Set ℕ) (K : PUnit → sProp 𝕄),
        iprop(insOwn c M x ∗ (∃ d, owns (c : Thread nD τ) M.arg13 fullShare d) ∗ owns (c : Thread nD τ) M.arg14 fullShare kt ∗ owns (c : Thread nD τ) M.arg15 fullShare v1 ∗ owns (c : Thread nD τ) M.arg16 fullShare s1e ∗ owns (c : Thread nD τ) M.arg17 fullShare s2e ∗ owns (c : Thread nD τ) M.arg18 fullShare m1e ∗ owns (c : Thread nD τ) M.arg19 fullShare m2e ∗ (∃ d, owns (c : Thread nD τ) M.arg20 fullShare d) ∗ (∃ d, owns (c : Thread nD τ) M.arg21 fullShare d) ∗ (∃ d, owns (c : Thread nD τ) M.arg22 fullShare d) ∗ (∃ d, owns (c : Thread nD τ) M.arg23 fullShare d)
            ∗ (iprop(insOwn c M x ∗ (∃ f, M.arg13.view.loc (c : Thread nD τ) ↦[M.arg13.view.set]{fullShare} M.arg13.view.writes (Elt F) f L.1) ∗ owns (c : Thread nD τ) M.arg14 fullShare kt ∗ owns (c : Thread nD τ) M.arg15 fullShare v1 ∗ owns (c : Thread nD τ) M.arg16 fullShare s1e ∗ owns (c : Thread nD τ) M.arg17 fullShare s2e ∗ owns (c : Thread nD τ) M.arg18 fullShare m1e ∗ owns (c : Thread nD τ) M.arg19 fullShare m2e ∗ (∃ f, M.arg20.view.loc (c : Thread nD τ) ↦[M.arg20.view.set]{fullShare} M.arg20.view.writes (Elt F) f L.2.1) ∗ (∃ f, M.arg21.view.loc (c : Thread nD τ) ↦[M.arg21.view.set]{fullShare} M.arg21.view.writes (Elt F) f L.2.2.1) ∗ (∃ f, M.arg22.view.loc (c : Thread nD τ) ↦[M.arg22.view.set]{fullShare} M.arg22.view.writes (Elt F) f L.2.2.2.1) ∗ (∃ f, M.arg23.view.loc (c : Thread nD τ) ↦[M.arg23.view.set]{fullShare} M.arg23.view.writes (Elt F) f L.2.2.2.2)) -∗ K ⟨⟩))
          ⊢ wp frame (wpE (defs₀ (F := F)) Variants.none c none) E (body i M) K } := by
  refine ⟨⟨?L13, ?L20, ?L21, ?L22, ?L23⟩, fun E K => ?run⟩
  case run =>
    unfold body insOwn
    simp only [cc0_diff_attention_eq_skeleton]; unfold cc0_diff_attention_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part52_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d13, %g13, %hg13, G13⟩, ⟨%g14, %hg14, G14⟩, ⟨%g15, %hg15, G15⟩, ⟨%g16, %hg16, G16⟩, ⟨%g17, %hg17, G17⟩, ⟨%g18, %hg18, G18⟩, ⟨%g19, %hg19, G19⟩, ⟨%d20, %g20, %hg20, G20⟩, ⟨%d21, %g21, %hg21, G21⟩, ⟨%d22, %g22, %hg22, G22⟩, ⟨%d23, %g23, %hg23, G23⟩, Hk⟩
    obtain rfl := M.harg3.eq_unread hf0; obtain rfl := M.harg4.eq_unread hf1; obtain rfl := M.harg5.eq_unread hf2; obtain rfl := M.harg6.eq_unread hf3; obtain rfl := M.harg7.eq_unread hf4; obtain rfl := M.harg8.eq_unread hf5; obtain rfl := M.harg9.eq_unread hf6; obtain rfl := M.harg10.eq_unread hf7; obtain rfl := M.harg11.eq_unread hf8; obtain rfl := M.harg12.eq_unread hf9; obtain rfl := M.harg14.eq_unread hg14; obtain rfl := M.harg15.eq_unread hg15; obtain rfl := M.harg16.eq_unread hg16; obtain rfl := M.harg17.eq_unread hg17; obtain rfl := M.harg18.eq_unread hg18; obtain rfl := M.harg19.eq_unread hg19
    sl_exec (disch := first | sl_exact hc0 | sl_exact hc1 | sl_exact hc2 | sl_exact hc3 | sl_exact hc4)
    sl_step
    iapply Hk
    isplitl [H0 H1 H2 H3 H4 H5 H6 H7 H8 H9]
    · isplitl [H0]
      · iexists _; isplitr; · ipureintro; exact M.harg3.read_unread _
        iexact H0
      isplitl [H1]
      · iexists _; isplitr; · ipureintro; exact M.harg4.read_unread _
        iexact H1
      isplitl [H2]
      · iexists _; isplitr; · ipureintro; exact M.harg5.read_unread _
        iexact H2
      isplitl [H3]
      · iexists _; isplitr; · ipureintro; exact M.harg6.read_unread _
        iexact H3
      isplitl [H4]
      · iexists _; isplitr; · ipureintro; exact M.harg7.read_unread _
        iexact H4
      isplitl [H5]
      · iexists _; isplitr; · ipureintro; exact M.harg8.read_unread _
        iexact H5
      isplitl [H6]
      · iexists _; isplitr; · ipureintro; exact M.harg9.read_unread _
        iexact H6
      isplitl [H7]
      · iexists _; isplitr; · ipureintro; exact M.harg10.read_unread _
        iexact H7
      isplitl [H8]
      · iexists _; isplitr; · ipureintro; exact M.harg11.read_unread _
        iexact H8
      iexists _; isplitr; · ipureintro; exact M.harg12.read_unread _
      iexact H9
    isplitl [G13]
    · iexists _; iexact G13
    isplitl [G14]
    · iexists _; isplitr; · ipureintro; exact M.harg14.read_unread _
      iexact G14
    isplitl [G15]
    · iexists _; isplitr; · ipureintro; exact M.harg15.read_unread _
      iexact G15
    isplitl [G16]
    · iexists _; isplitr; · ipureintro; exact M.harg16.read_unread _
      iexact G16
    isplitl [G17]
    · iexists _; isplitr; · ipureintro; exact M.harg17.read_unread _
      iexact G17
    isplitl [G18]
    · iexists _; isplitr; · ipureintro; exact M.harg18.read_unread _
      iexact G18
    isplitl [G19]
    · iexists _; isplitr; · ipureintro; exact M.harg19.read_unread _
      iexact G19
    isplitl [G20]
    · iexists _; iexact G20
    isplitl [G21]
    · iexists _; iexact G21
    isplitl [G22]
    · iexists _; iexact G22
    iexists _; iexact G23

end Cert.KernelIdeal.Att

end
-- ==== Proof.PiecesB.lean ====
/- The pieces the body's runs leave, in the words of Vocab. -/
module

public import proofs.«01_k».proof.Proof.Vocab
public import proofs.«01_k».proof.Proof.RunB

@[expose] public section

set_option maxRecDepth 65536

noncomputable section

namespace Cert.KernelIdeal.Att

open Idealize.ShloMosaic Idealize.ShloMosaic.TcCoe Idealize.ShloMosaic.Tactic
open Cert.KernelIdeal.Gen

variable {F : FTy → Type} [FloatOps F]
variable (c : Dev nD) (i : grid0.Coords) (M : Mems)

variable (hc0 : ¬cond0_0 i) (hc1 : ¬cond0_1 i) (hc2 : ¬cond0_2 i) (hc3 : cond0_3 i) (hc4 : ¬cond0_4 i) (x : Ins F) (kt : Vec F S128x4352 .bf16) (v1 : Vec F S4352x256 .bf16) (s1e : Vec F S256x4352 .f32) (s2e : Vec F S256x4352 .f32) (m1e : Vec F S256x128 .f32) (m2e : Vec F S256x128 .f32)

set_option maxHeartbeats 4000000 in
theorem runB_s1 : (runB c i M hc0 hc1 hc2 hc3 hc4 x kt v1 s1e s2e m1e m2e).1.2.1 = scoreList (k0_pay4 (rdQ M x)) (rdK M kt) := rfl
set_option maxHeartbeats 4000000 in
theorem runB_s2 : (runB c i M hc0 hc1 hc2 hc3 hc4 x kt v1 s1e s2e m1e m2e).1.2.2.1 = scoreList (k0_pay5 (rdQ M x)) (rdK M kt) := rfl
set_option maxHeartbeats 4000000 in
theorem runB_m1 : (runB c i M hc0 hc1 hc2 hc3 hc4 x kt v1 s1e s2e m1e m2e).1.2.2.2.1
    = [⟨Rect.unit ![0, 0] S256x128.size inb_S256x128_S256x128_0_0, wide (rowMax (k0_pay4 (rdQ M x)) (rdK M kt))⟩] := rfl
set_option maxHeartbeats 4000000 in
theorem runB_m2 : (runB c i M hc0 hc1 hc2 hc3 hc4 x kt v1 s1e s2e m1e m2e).1.2.2.2.2
    = [⟨Rect.unit ![0, 0] S256x128.size inb_S256x128_S256x128_0_0, wide (rowMax (k0_pay5 (rdQ M x)) (rdK M kt))⟩] := rfl
set_option maxHeartbeats 4000000 in
theorem runB_out : (runB c i M hc0 hc1 hc2 hc3 hc4 x kt v1 s1e s2e m1e m2e).1.1
    = [⟨Rect.unit ![0, 0, 0] S1x256x128.size inb_S1x256x128_S1x256x128_0_0_0,
        finish (diff (rdLam M x)
          (attend (M.arg18.view.readAt (Elt F) (Rect.unit (s := S256x128) ![0, 0] S256x1.size inb_S256x128_S256x1_0_0).toLoadRect (M.harg18.unread m1e))
            (fun n => M.arg16.view.readAt (Elt F) (sBox n).toLoadRect (M.harg16.unread s1e)) (rdV M v1))
          (attend (M.arg19.view.readAt (Elt F) (Rect.unit (s := S256x128) ![0, 0] S256x1.size inb_S256x128_S256x1_0_0).toLoadRect (M.harg19.unread m2e))
            (fun n => M.arg17.view.readAt (Elt F) (sBox n).toLoadRect (M.harg17.unread s2e)) (rdV M v1))) (rdG M x)⟩] := rfl

end Cert.KernelIdeal.Att

end
-- ==== Proof.RunC.lean ====
/- The body at an even point between the first and the last: the query tile is scored into the even buffers while the odd buffers' scores attend. -/
module

public import proofs.«01_k».proof.Proof.RunB

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (M : Mems)

set_option maxHeartbeats 4000000 in
/-- The body at an even point between the first and the last: the query tile is scored into the even buffers while the odd buffers' scores attend. What the stores leave in each buffer they write is the list of pieces, last first; every other buffer is as found. -/
noncomputable def runC (hc0 : ¬cond0_0 i) (hc1 : ¬cond0_1 i) (hc2 : cond0_2 i) (hc3 : ¬cond0_3 i) (hc4 : ¬cond0_4 i) (x : Ins F) (kt : Vec F S128x4352 .bf16) (v1 : Vec F S4352x256 .bf16) (s1o : Vec F S256x4352 .f32) (s2o : Vec F S256x4352 .f32) (m1o : Vec F S256x128 .f32) (m2o : Vec F S256x128 .f32) :
    { L : List (View.Piece (Elt F) S1x256x128 .bf16) × List (View.Piece (Elt F) S256x4352 .f32) × List (View.Piece (Elt F) S256x4352 .f32) × List (View.Piece (Elt F) S256x128 .f32) × List (View.Piece (Elt F) S256x128 .f32) //
      ∀ (E : Set ℕ) (K : PUnit → sProp 𝕄),
        iprop(insOwn c M x ∗ (∃ d, owns (c : Thread nD τ) M.arg13 fullShare d) ∗ owns (c : Thread nD τ) M.arg14 fullShare kt ∗ owns (c : Thread nD τ) M.arg15 fullShare v1 ∗ (∃ d, owns (c : Thread nD τ) M.arg16 fullShare d) ∗ (∃ d, owns (c : Thread nD τ) M.arg17 fullShare d) ∗ (∃ d, owns (c : Thread nD τ) M.arg18 fullShare d) ∗ (∃ d, owns (c : Thread nD τ) M.arg19 fullShare d) ∗ owns (c : Thread nD τ) M.arg20 fullShare s1o ∗ owns (c : Thread nD τ) M.arg21 fullShare s2o ∗ owns (c : Thread nD τ) M.arg22 fullShare m1o ∗ owns (c : Thread nD τ) M.arg23 fullShare m2o
            ∗ (iprop(insOwn c M x ∗ (∃ f, M.arg13.view.loc (c : Thread nD τ) ↦[M.arg13.view.set]{fullShare} M.arg13.view.writes (Elt F) f L.1) ∗ owns (c : Thread nD τ) M.arg14 fullShare kt ∗ owns (c : Thread nD τ) M.arg15 fullShare v1 ∗ (∃ f, M.arg16.view.loc (c : Thread nD τ) ↦[M.arg16.view.set]{fullShare} M.arg16.view.writes (Elt F) f L.2.1) ∗ (∃ f, M.arg17.view.loc (c : Thread nD τ) ↦[M.arg17.view.set]{fullShare} M.arg17.view.writes (Elt F) f L.2.2.1) ∗ (∃ f, M.arg18.view.loc (c : Thread nD τ) ↦[M.arg18.view.set]{fullShare} M.arg18.view.writes (Elt F) f L.2.2.2.1) ∗ (∃ f, M.arg19.view.loc (c : Thread nD τ) ↦[M.arg19.view.set]{fullShare} M.arg19.view.writes (Elt F) f L.2.2.2.2) ∗ owns (c : Thread nD τ) M.arg20 fullShare s1o ∗ owns (c : Thread nD τ) M.arg21 fullShare s2o ∗ owns (c : Thread nD τ) M.arg22 fullShare m1o ∗ owns (c : Thread nD τ) M.arg23 fullShare m2o) -∗ K ⟨⟩))
          ⊢ wp frame (wpE (defs₀ (F := F)) Variants.none c none) E (body i M) K } := by
  refine ⟨⟨?L13, ?L16, ?L17, ?L18, ?L19⟩, fun E K => ?run⟩
  case run =>
    unfold body insOwn
    simp only [cc0_diff_attention_eq_skeleton]; unfold cc0_diff_attention_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part52_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d13, %g13, %hg13, G13⟩, ⟨%g14, %hg14, G14⟩, ⟨%g15, %hg15, G15⟩, ⟨%d16, %g16, %hg16, G16⟩, ⟨%d17, %g17, %hg17, G17⟩, ⟨%d18, %g18, %hg18, G18⟩, ⟨%d19, %g19, %hg19, G19⟩, ⟨%g20, %hg20, G20⟩, ⟨%g21, %hg21, G21⟩, ⟨%g22, %hg22, G22⟩, ⟨%g23, %hg23, G23⟩, Hk⟩
    obtain rfl := M.harg3.eq_unread hf0; obtain rfl := M.harg4.eq_unread hf1; obtain rfl := M.harg5.eq_unread hf2; obtain rfl := M.harg6.eq_unread hf3; obtain rfl := M.harg7.eq_unread hf4; obtain rfl := M.harg8.eq_unread hf5; obtain rfl := M.harg9.eq_unread hf6; obtain rfl := M.harg10.eq_unread hf7; obtain rfl := M.harg11.eq_unread hf8; obtain rfl := M.harg12.eq_unread hf9; obtain rfl := M.harg14.eq_unread hg14; obtain rfl := M.harg15.eq_unread hg15; obtain rfl := M.harg20.eq_unread hg20; obtain rfl := M.harg21.eq_unread hg21; obtain rfl := M.harg22.eq_unread hg22; obtain rfl := M.harg23.eq_unread hg23
    sl_exec (disch := first | sl_exact hc0 | sl_exact hc1 | sl_exact hc2 | sl_exact hc3 | sl_exact hc4)
    sl_step
    iapply Hk
    isplitl [H0 H1 H2 H3 H4 H5 H6 H7 H8 H9]
    · isplitl [H0]
      · iexists _; isplitr; · ipureintro; exact M.harg3.read_unread _
        iexact H0
      isplitl [H1]
      · iexists _; isplitr; · ipureintro; exact M.harg4.read_unread _
        iexact H1
      isplitl [H2]
      · iexists _; isplitr; · ipureintro; exact M.harg5.read_unread _
        iexact H2
      isplitl [H3]
      · iexists _; isplitr; · ipureintro; exact M.harg6.read_unread _
        iexact H3
      isplitl [H4]
      · iexists _; isplitr; · ipureintro; exact M.harg7.read_unread _
        iexact H4
      isplitl [H5]
      · iexists _; isplitr; · ipureintro; exact M.harg8.read_unread _
        iexact H5
      isplitl [H6]
      · iexists _; isplitr; · ipureintro; exact M.harg9.read_unread _
        iexact H6
      isplitl [H7]
      · iexists _; isplitr; · ipureintro; exact M.harg10.read_unread _
        iexact H7
      isplitl [H8]
      · iexists _; isplitr; · ipureintro; exact M.harg11.read_unread _
        iexact H8
      iexists _; isplitr; · ipureintro; exact M.harg12.read_unread _
      iexact H9
    isplitl [G13]
    · iexists _; iexact G13
    isplitl [G14]
    · iexists _; isplitr; · ipureintro; exact M.harg14.read_unread _
      iexact G14
    isplitl [G15]
    · iexists _; isplitr; · ipureintro; exact M.harg15.read_unread _
      iexact G15
    isplitl [G16]
    · iexists _; iexact G16
    isplitl [G17]
    · iexists _; iexact G17
    isplitl [G18]
    · iexists _; iexact G18
    isplitl [G19]
    · iexists _; iexact G19
    isplitl [G20]
    · iexists _; isplitr; · ipureintro; exact M.harg20.read_unread _
      iexact G20
    isplitl [G21]
    · iexists _; isplitr; · ipureintro; exact M.harg21.read_unread _
      iexact G21
    isplitl [G22]
    · iexists _; isplitr; · ipureintro; exact M.harg22.read_unread _
      iexact G22
    iexists _; isplitr; · ipureintro; exact M.harg23.read_unread _
    iexact G23

end Cert.KernelIdeal.Att

end
-- ==== Proof.PiecesC.lean ====
/- The pieces the body's runs leave, in the words of Vocab. -/
module

public import proofs.«01_k».proof.Proof.Vocab
public import proofs.«01_k».proof.Proof.RunC

@[expose] public section

set_option maxRecDepth 65536

noncomputable section

namespace Cert.KernelIdeal.Att

open Idealize.ShloMosaic Idealize.ShloMosaic.TcCoe Idealize.ShloMosaic.Tactic
open Cert.KernelIdeal.Gen

variable {F : FTy → Type} [FloatOps F]
variable (c : Dev nD) (i : grid0.Coords) (M : Mems)

variable (hc0 : ¬cond0_0 i) (hc1 : ¬cond0_1 i) (hc2 : cond0_2 i) (hc3 : ¬cond0_3 i) (hc4 : ¬cond0_4 i) (x : Ins F) (kt : Vec F S128x4352 .bf16) (v1 : Vec F S4352x256 .bf16) (s1o : Vec F S256x4352 .f32) (s2o : Vec F S256x4352 .f32) (m1o : Vec F S256x128 .f32) (m2o : Vec F S256x128 .f32)

set_option maxHeartbeats 4000000 in
theorem runC_s1 : (runC c i M hc0 hc1 hc2 hc3 hc4 x kt v1 s1o s2o m1o m2o).1.2.1 = scoreList (k0_pay4 (rdQ M x)) (rdK M kt) := rfl
set_option maxHeartbeats 4000000 in
theorem runC_s2 : (runC c i M hc0 hc1 hc2 hc3 hc4 x kt v1 s1o s2o m1o m2o).1.2.2.1 = scoreList (k0_pay5 (rdQ M x)) (rdK M kt) := rfl
set_option maxHeartbeats 4000000 in
theorem runC_m1 : (runC c i M hc0 hc1 hc2 hc3 hc4 x kt v1 s1o s2o m1o m2o).1.2.2.2.1
    = [⟨Rect.unit ![0, 0] S256x128.size inb_S256x128_S256x128_0_0, wide (rowMax (k0_pay4 (rdQ M x)) (rdK M kt))⟩] := rfl
set_option maxHeartbeats 4000000 in
theorem runC_m2 : (runC c i M hc0 hc1 hc2 hc3 hc4 x kt v1 s1o s2o m1o m2o).1.2.2.2.2
    = [⟨Rect.unit ![0, 0] S256x128.size inb_S256x128_S256x128_0_0, wide (rowMax (k0_pay5 (rdQ M x)) (rdK M kt))⟩] := rfl
set_option maxHeartbeats 4000000 in
theorem runC_out : (runC c i M hc0 hc1 hc2 hc3 hc4 x kt v1 s1o s2o m1o m2o).1.1
    = [⟨Rect.unit ![0, 0, 0] S1x256x128.size inb_S1x256x128_S1x256x128_0_0_0,
        finish (diff (rdLam M x)
          (attend (M.arg22.view.readAt (Elt F) (Rect.unit (s := S256x128) ![0, 0] S256x1.size inb_S256x128_S256x1_0_0).toLoadRect (M.harg22.unread m1o))
            (fun n => M.arg20.view.readAt (Elt F) (sBox n).toLoadRect (M.harg20.unread s1o)) (rdV M v1))
          (attend (M.arg23.view.readAt (Elt F) (Rect.unit (s := S256x128) ![0, 0] S256x1.size inb_S256x128_S256x1_0_0).toLoadRect (M.harg23.unread m2o))
            (fun n => M.arg21.view.readAt (Elt F) (sBox n).toLoadRect (M.harg21.unread s2o)) (rdV M v1))) (rdG M x)⟩] := rfl

end Cert.KernelIdeal.Att

end
-- ==== Proof.RunD.lean ====
/- The body's last point of a head: the odd buffers' scores attend. -/
module

public import proofs.«01_k».proof.Proof.RunC

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (M : Mems)

set_option maxHeartbeats 4000000 in
/-- The body's last point of a head: the odd buffers' scores attend. What the stores leave in each buffer they write is the list of pieces, last first; every other buffer is as found. -/
noncomputable def runD (hc0 : ¬cond0_0 i) (hc1 : ¬cond0_1 i) (hc2 : ¬cond0_2 i) (hc3 : ¬cond0_3 i) (hc4 : cond0_4 i) (x : Ins F) (kt : Vec F S128x4352 .bf16) (v1 : Vec F S4352x256 .bf16) (s1o : Vec F S256x4352 .f32) (s2o : Vec F S256x4352 .f32) (m1o : Vec F S256x128 .f32) (m2o : Vec F S256x128 .f32) :
    { L : List (View.Piece (Elt F) S1x256x128 .bf16) //
      ∀ (E : Set ℕ) (K : PUnit → sProp 𝕄),
        iprop(insOwn c M x ∗ (∃ d, owns (c : Thread nD τ) M.arg13 fullShare d) ∗ owns (c : Thread nD τ) M.arg14 fullShare kt ∗ owns (c : Thread nD τ) M.arg15 fullShare v1 ∗ (∃ d, owns (c : Thread nD τ) M.arg16 fullShare d) ∗ (∃ d, owns (c : Thread nD τ) M.arg17 fullShare d) ∗ (∃ d, owns (c : Thread nD τ) M.arg18 fullShare d) ∗ (∃ d, owns (c : Thread nD τ) M.arg19 fullShare d) ∗ owns (c : Thread nD τ) M.arg20 fullShare s1o ∗ owns (c : Thread nD τ) M.arg21 fullShare s2o ∗ owns (c : Thread nD τ) M.arg22 fullShare m1o ∗ owns (c : Thread nD τ) M.arg23 fullShare m2o
            ∗ (iprop(insOwn c M x ∗ (∃ f, M.arg13.view.loc (c : Thread nD τ) ↦[M.arg13.view.set]{fullShare} M.arg13.view.writes (Elt F) f L) ∗ owns (c : Thread nD τ) M.arg14 fullShare kt ∗ owns (c : Thread nD τ) M.arg15 fullShare v1 ∗ (∃ d, owns (c : Thread nD τ) M.arg16 fullShare d) ∗ (∃ d, owns (c : Thread nD τ) M.arg17 fullShare d) ∗ (∃ d, owns (c : Thread nD τ) M.arg18 fullShare d) ∗ (∃ d, owns (c : Thread nD τ) M.arg19 fullShare d) ∗ owns (c : Thread nD τ) M.arg20 fullShare s1o ∗ owns (c : Thread nD τ) M.arg21 fullShare s2o ∗ owns (c : Thread nD τ) M.arg22 fullShare m1o ∗ owns (c : Thread nD τ) M.arg23 fullShare m2o) -∗ K ⟨⟩))
          ⊢ wp frame (wpE (defs₀ (F := F)) Variants.none c none) E (body i M) K } := by
  refine ⟨?L13, fun E K => ?run⟩
  case run =>
    unfold body insOwn
    simp only [cc0_diff_attention_eq_skeleton]; unfold cc0_diff_attention_skel
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d13, %g13, %hg13, G13⟩, ⟨%g14, %hg14, G14⟩, ⟨%g15, %hg15, G15⟩, ⟨%d16, %g16, %hg16, G16⟩, ⟨%d17, %g17, %hg17, G17⟩, ⟨%d18, %g18, %hg18, G18⟩, ⟨%d19, %g19, %hg19, G19⟩, ⟨%g20, %hg20, G20⟩, ⟨%g21, %hg21, G21⟩, ⟨%g22, %hg22, G22⟩, ⟨%g23, %hg23, G23⟩, Hk⟩
    obtain rfl := M.harg3.eq_unread hf0; obtain rfl := M.harg4.eq_unread hf1; obtain rfl := M.harg5.eq_unread hf2; obtain rfl := M.harg6.eq_unread hf3; obtain rfl := M.harg7.eq_unread hf4; obtain rfl := M.harg8.eq_unread hf5; obtain rfl := M.harg9.eq_unread hf6; obtain rfl := M.harg10.eq_unread hf7; obtain rfl := M.harg11.eq_unread hf8; obtain rfl := M.harg12.eq_unread hf9; obtain rfl := M.harg14.eq_unread hg14; obtain rfl := M.harg15.eq_unread hg15; obtain rfl := M.harg20.eq_unread hg20; obtain rfl := M.harg21.eq_unread hg21; obtain rfl := M.harg22.eq_unread hg22; obtain rfl := M.harg23.eq_unread hg23
    sl_exec (disch := first | sl_exact hc0 | sl_exact hc1 | sl_exact hc2 | sl_exact hc3 | sl_exact hc4)
    sl_step
    iapply Hk
    isplitl [H0 H1 H2 H3 H4 H5 H6 H7 H8 H9]
    · isplitl [H0]
      · iexists _; isplitr; · ipureintro; exact M.harg3.read_unread _
        iexact H0
      isplitl [H1]
      · iexists _; isplitr; · ipureintro; exact M.harg4.read_unread _
        iexact H1
      isplitl [H2]
      · iexists _; isplitr; · ipureintro; exact M.harg5.read_unread _
        iexact H2
      isplitl [H3]
      · iexists _; isplitr; · ipureintro; exact M.harg6.read_unread _
        iexact H3
      isplitl [H4]
      · iexists _; isplitr; · ipureintro; exact M.harg7.read_unread _
        iexact H4
      isplitl [H5]
      · iexists _; isplitr; · ipureintro; exact M.harg8.read_unread _
        iexact H5
      isplitl [H6]
      · iexists _; isplitr; · ipureintro; exact M.harg9.read_unread _
        iexact H6
      isplitl [H7]
      · iexists _; isplitr; · ipureintro; exact M.harg10.read_unread _
        iexact H7
      isplitl [H8]
      · iexists _; isplitr; · ipureintro; exact M.harg11.read_unread _
        iexact H8
      iexists _; isplitr; · ipureintro; exact M.harg12.read_unread _
      iexact H9
    isplitl [G13]
    · iexists _; iexact G13
    isplitl [G14]
    · iexists _; isplitr; · ipureintro; exact M.harg14.read_unread _
      iexact G14
    isplitl [G15]
    · iexists _; isplitr; · ipureintro; exact M.harg15.read_unread _
      iexact G15
    isplitl [G16]
    · iexists _, _; isplitr; swap; · iexact G16
      ipureintro; rfl
    isplitl [G17]
    · iexists _, _; isplitr; swap; · iexact G17
      ipureintro; rfl
    isplitl [G18]
    · iexists _, _; isplitr; swap; · iexact G18
      ipureintro; rfl
    isplitl [G19]
    · iexists _, _; isplitr; swap; · iexact G19
      ipureintro; rfl
    isplitl [G20]
    · iexists _; isplitr; · ipureintro; exact M.harg20.read_unread _
      iexact G20
    isplitl [G21]
    · iexists _; isplitr; · ipureintro; exact M.harg21.read_unread _
      iexact G21
    isplitl [G22]
    · iexists _; isplitr; · ipureintro; exact M.harg22.read_unread _
      iexact G22
    iexists _; isplitr; · ipureintro; exact M.harg23.read_unread _
    iexact G23

end Cert.KernelIdeal.Att

end
-- ==== Proof.PiecesD.lean ====
/- The pieces the body's runs leave, in the words of Vocab. -/
module

public import proofs.«01_k».proof.Proof.Vocab
public import proofs.«01_k».proof.Proof.RunD

@[expose] public section

set_option maxRecDepth 65536

noncomputable section

namespace Cert.KernelIdeal.Att

open Idealize.ShloMosaic Idealize.ShloMosaic.TcCoe Idealize.ShloMosaic.Tactic
open Cert.KernelIdeal.Gen

variable {F : FTy → Type} [FloatOps F]
variable (c : Dev nD) (i : grid0.Coords) (M : Mems)

variable (hc0 : ¬cond0_0 i) (hc1 : ¬cond0_1 i) (hc2 : ¬cond0_2 i) (hc3 : ¬cond0_3 i) (hc4 : cond0_4 i) (x : Ins F) (kt : Vec F S128x4352 .bf16) (v1 : Vec F S4352x256 .bf16) (s1o : Vec F S256x4352 .f32) (s2o : Vec F S256x4352 .f32) (m1o : Vec F S256x128 .f32) (m2o : Vec F S256x128 .f32)

set_option maxHeartbeats 4000000 in
theorem runD_out : (runD c i M hc0 hc1 hc2 hc3 hc4 x kt v1 s1o s2o m1o m2o).1
    = [⟨Rect.unit ![0, 0, 0] S1x256x128.size inb_S1x256x128_S1x256x128_0_0_0,
        finish (diff (rdLam M x)
          (attend (M.arg22.view.readAt (Elt F) (Rect.unit (s := S256x128) ![0, 0] S256x1.size inb_S256x128_S256x1_0_0).toLoadRect (M.harg22.unread m1o))
            (fun n => M.arg20.view.readAt (Elt F) (sBox n).toLoadRect (M.harg20.unread s1o)) (rdV M v1))
          (attend (M.arg23.view.readAt (Elt F) (Rect.unit (s := S256x128) ![0, 0] S256x1.size inb_S256x128_S256x1_0_0).toLoadRect (M.harg23.unread m2o))
            (fun n => M.arg21.view.readAt (Elt F) (sBox n).toLoadRect (M.harg21.unread s2o)) (rdV M v1))) (rdG M x)⟩] := rfl

end Cert.KernelIdeal.Att

end
-- ==== Proof.Clean.lean ====
/- What each of the four cases of the body leaves in each buffer, as a function of what it finds. -/
module

public import proofs.«01_k».proof.Proof.PiecesA
public import proofs.«01_k».proof.Proof.PiecesB
public import proofs.«01_k».proof.Proof.PiecesC
public import proofs.«01_k».proof.Proof.PiecesD
public import Idealize.ShloMosaic.Lib.Pipeline.Value
public import Idealize.ShloMosaic.Lib.Pipeline.ValueKit.Basic
public import Idealize.ShloMosaic.Lib.Pipeline.ValueKit.Tiles

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The contents -/

/-- The transposed keys of a head. -/
def ktOf (x : Ins F) : Vec F S128x4352 .bf16 := View.canon (ktList x.x1 x.x2)
/-- The values of a head, widened by a block of ones. -/
def v1Of (x : Ins F) : Vec F S4352x256 .bf16 := View.canon (v1List x.x3 x.x4)
/-- The scores of the masked queries `Q` against every key. -/
def sOf (Q : FVec F S256x128 .bf16) (kt : Vec F S128x4352 .bf16) : Vec F S256x4352 .f32 :=
  View.canon (scoreList Q fun n => View.ld kt (kBox n))
/-- The row maxima of those scores, repeated over the lanes. -/
def mOf (Q : FVec F S256x128 .bf16) (kt : Vec F S128x4352 .bf16) : Vec F S256x128 .f32 :=
  wide (rowMax Q fun n => View.ld kt (kBox n))
/-- The first column of a buffer of repeated row maxima. -/
def col (m : Vec F S256x128 .f32) : Vec F S256x1 .f32 := View.ld m (Rect.unit (s := S256x128) ![0, 0] S256x1.size inb_S256x128_S256x1_0_0)
/-- The weighted sum over every key, from the scores, their maxima and the widened values. -/
def attOf (s : Vec F S256x4352 .f32) (m : Vec F S256x128 .f32) (v1 : Vec F S4352x256 .bf16) : FVec F S256x256 .f32 :=
  attend (col m) (fun n => View.ld s (sBox n)) (fun n => View.ld v1 (vBox n))
/-- The output tile, from the scores of the tile. -/
def outOf (x : Ins F) (s1 s2 : Vec F S256x4352 .f32) (m1 m2 : Vec F S256x128 .f32) (v1 : Vec F S4352x256 .bf16) : Vec F S1x256x128 .bf16 :=
  finish (diff (k0_pay416 x.x5 x.x6 x.x7 x.x8) (attOf s1 m1 v1) (attOf s2 m2 v1)) x.x9

/-! ## Reads of what the memrefs hold -/

variable (M : Mems)

theorem rdQ_eq (x : Ins F) : rdQ M x = x.x0 := by
  unfold rdQ; rw [View.readAt_eq_ld, M.harg3.read_unread]; exact View.ld_unit_lit _ _ (by decide)
theorem rdKc_eq (x : Ins F) : rdKc M x = x.x1 := by
  unfold rdKc; rw [View.readAt_eq_ld, M.harg4.read_unread]; exact View.ld_unit_lit _ _ (by decide)
theorem rdKs_eq (x : Ins F) : rdKs M x = x.x2 := by
  unfold rdKs; rw [View.readAt_eq_ld, M.harg5.read_unread]; exact View.ld_unit_lit _ _ (by decide)
theorem rdVc_eq (x : Ins F) : rdVc M x = x.x3 := by
  unfold rdVc; rw [View.readAt_eq_ld, M.harg6.read_unread]; exact View.ld_unit_lit _ _ (by decide)
theorem rdVs_eq (x : Ins F) : rdVs M x = x.x4 := by
  unfold rdVs; rw [View.readAt_eq_ld, M.harg7.read_unread]; exact View.ld_unit_lit _ _ (by decide)
theorem rdLam_eq (x : Ins F) : rdLam M x = k0_pay416 x.x5 x.x6 x.x7 x.x8 := by
  unfold rdLam
  rw [View.readAt_eq_ld, M.harg8.read_unread, View.readAt_eq_ld, M.harg9.read_unread, View.readAt_eq_ld, M.harg10.read_unread, View.readAt_eq_ld, M.harg11.read_unread]
  congr 1 <;> exact View.ld_unit_lit _ _ (by decide)
theorem rdG_eq (x : Ins F) : rdG M x = x.x9 := by
  unfold rdG; rw [View.readAt_eq_ld, M.harg12.read_unread]; exact View.ld_unit_lit _ _ (by decide)
theorem rdK_eq (kt : Vec F S128x4352 .bf16) : rdK M kt = fun n => View.ld kt (kBox n) := by
  funext n; unfold rdK; rw [View.readAt_eq_ld, M.harg14.read_unread]
theorem rdV_eq (v1 : Vec F S4352x256 .bf16) : rdV M v1 = fun n => View.ld v1 (vBox n) := by
  funext n; unfold rdV; rw [View.readAt_eq_ld, M.harg15.read_unread]

/-! ## The stores cover the buffers they fill -/

omit [FloatOps F] in
theorem full_cover (w : Vec F S256x128 .f32) (y : S256x128.Idx) :
    ∃ p ∈ ([⟨Rect.unit ![0, 0] S256x128.size inb_S256x128_S256x128_0_0, w⟩] : List (View.Piece (Elt F) S256x128 .f32)), y ∈ p.1.set :=
  ⟨_, List.mem_singleton_self _, View.mem_set_unit_zero (S := S256x128) (by funext a; fin_cases a <;> rfl) inb_S256x128_S256x128_0_0 y⟩
omit [FloatOps F] in
theorem full3_cover (w : Vec F S1x256x128 .bf16) (y : S1x256x128.Idx) :
    ∃ p ∈ ([⟨Rect.unit ![0, 0, 0] S1x256x128.size inb_S1x256x128_S1x256x128_0_0_0, w⟩] : List (View.Piece (Elt F) S1x256x128 .bf16)), y ∈ p.1.set :=
  ⟨_, List.mem_singleton_self _, View.mem_set_unit_zero (S := S1x256x128) (by funext a; fin_cases a <;> rfl) inb_S1x256x128_S1x256x128_0_0_0 y⟩
theorem kt_cover (kc : Vec F S1x256x128 .bf16) (ks : Vec F S1x4096x128 .bf16) (y : S128x4352.Idx) : ∃ p ∈ ktList kc ks, y ∈ p.1.set :=
  View.cover_of_tiledBy (ktList kc ks) ![128, 256] (by sl_kernel_rfl) y
theorem v1_cover (vc : Vec F S1x256x128 .bf16) (vs : Vec F S1x4096x128 .bf16) (y : S4352x256.Idx) : ∃ p ∈ v1List vc vs, y ∈ p.1.set :=
  View.cover_of_tiledBy (v1List vc vs) ![256, 128] (by sl_kernel_rfl) y
theorem score_cover (Q : FVec F S256x128 .bf16) (K : Fin 17 → Vec F S128x256 .bf16) (y : S256x4352.Idx) : ∃ p ∈ scoreList Q K, y ∈ p.1.set :=
  View.cover_of_tiledBy (scoreList Q K) ![256, 256] (by sl_kernel_rfl) y

/-- A buffer written at covering pieces is owned at what the pieces make. -/
theorem owns_canon {S : Shape} {e : EltTy} {sp : Space} (c : Dev nD) (m : Memref sig .tc sp S e) (L : List (View.Piece (Elt F) S e))
    (h : ∀ y, ∃ p ∈ L, y ∈ p.1.set) (Y : Vec F S e) (hY : View.canon L = Y) :
    (iprop(∃ f, m.view.loc (c : Thread nD τ) ↦[m.view.set]{fullShare} m.view.writes (Elt F) f L) : sProp 𝕄)
      ⊢ owns (c : Thread nD τ) m fullShare Y := by
  subst hY
  unfold owns
  iintro ⟨%f, H⟩
  iexists _
  isplitr
  swap
  · iexact H
  ipureintro
  exact View.read_writes_eq_canon _ _ _ h

/-- The pieces of a row-maximum buffer make it. -/
theorem full_canon (w : Vec F S256x128 .f32) :
    View.canon ([⟨Rect.unit ![0, 0] S256x128.size inb_S256x128_S256x128_0_0, w⟩] : List (View.Piece (Elt F) S256x128 .f32)) = w :=
  View.canon_unit_zero (by funext a; fin_cases a <;> rfl) _ w
/-- The piece of the output tile makes it. -/
theorem full3_canon (w : Vec F S1x256x128 .bf16) :
    View.canon ([⟨Rect.unit ![0, 0, 0] S1x256x128.size inb_S1x256x128_S1x256x128_0_0_0, w⟩] : List (View.Piece (Elt F) S1x256x128 .bf16)) = w :=
  View.canon_unit_zero (by funext a; fin_cases a <;> rfl) _ w

/-- A chunk of the transposed keys read back from the stores that laid them out. -/
theorem readCov_kt (x : Ins F) :
    (fun n : Fin 17 => M.arg14.view.readCov (ktList x.x1 x.x2) (kBox n).toLoadRect) = fun n => View.ld (ktOf x) (kBox n) := by
  funext n; rw [View.readCov_eq_canon']; rfl

variable (c : Dev nD) (i : grid0.Coords)

/-- The two buffers of keys and values, at given contents and at any. -/
def keysOwn (kt : Vec F S128x4352 .bf16) (v1 : Vec F S4352x256 .bf16) : sProp 𝕄 :=
  iprop(owns (c : Thread nD τ) M.arg14 fullShare kt ∗ owns (c : Thread nD τ) M.arg15 fullShare v1)
def keysAny : sProp 𝕄 :=
  iprop((∃ d, owns (c : Thread nD τ) M.arg14 fullShare d) ∗ (∃ d, owns (c : Thread nD τ) M.arg15 fullShare d))
/-- The even score buffers, at given contents and at any. -/
def evenOwn (s1 s2 : Vec F S256x4352 .f32) (m1 m2 : Vec F S256x128 .f32) : sProp 𝕄 :=
  iprop(owns (c : Thread nD τ) M.arg16 fullShare s1 ∗ owns (c : Thread nD τ) M.arg17 fullShare s2
    ∗ owns (c : Thread nD τ) M.arg18 fullShare m1 ∗ owns (c : Thread nD τ) M.arg19 fullShare m2)
def evenAny : sProp 𝕄 :=
  iprop((∃ d, owns (c : Thread nD τ) M.arg16 fullShare d) ∗ (∃ d, owns (c : Thread nD τ) M.arg17 fullShare d)
    ∗ (∃ d, owns (c : Thread nD τ) M.arg18 fullShare d) ∗ (∃ d, owns (c : Thread nD τ) M.arg19 fullShare d))
/-- The odd score buffers, at given contents and at any. -/
def oddOwn (s1 s2 : Vec F S256x4352 .f32) (m1 m2 : Vec F S256x128 .f32) : sProp 𝕄 :=
  iprop(owns (c : Thread nD τ) M.arg20 fullShare s1 ∗ owns (c : Thread nD τ) M.arg21 fullShare s2
    ∗ owns (c : Thread nD τ) M.arg22 fullShare m1 ∗ owns (c : Thread nD τ) M.arg23 fullShare m2)
def oddAny : sProp 𝕄 :=
  iprop((∃ d, owns (c : Thread nD τ) M.arg20 fullShare d) ∗ (∃ d, owns (c : Thread nD τ) M.arg21 fullShare d)
    ∗ (∃ d, owns (c : Thread nD τ) M.arg22 fullShare d) ∗ (∃ d, owns (c : Thread nD τ) M.arg23 fullShare d))
/-- The output tile's memref, at any contents. -/
def outAny : sProp 𝕄 := iprop(∃ d, owns (c : Thread nD τ) M.arg13 fullShare d)

/-- The finished tile read from the even buffers. -/
theorem outEq_even (x : Ins F) (s1 s2 : Vec F S256x4352 .f32) (m1 m2 : Vec F S256x128 .f32) (v1 : Vec F S4352x256 .bf16) :
    finish (diff (k0_pay416 x.x5 x.x6 x.x7 x.x8)
          (attend (M.arg18.view.readAt (Elt F) (Rect.unit (s := S256x128) ![0, 0] S256x1.size inb_S256x128_S256x1_0_0).toLoadRect (M.harg18.unread m1))
            (fun n => M.arg16.view.readAt (Elt F) (sBox n).toLoadRect (M.harg16.unread s1)) (fun n => View.ld v1 (vBox n)))
          (attend (M.arg19.view.readAt (Elt F) (Rect.unit (s := S256x128) ![0, 0] S256x1.size inb_S256x128_S256x1_0_0).toLoadRect (M.harg19.unread m2))
            (fun n => M.arg17.view.readAt (Elt F) (sBox n).toLoadRect (M.harg17.unread s2)) (fun n => View.ld v1 (vBox n)))) x.x9
      = outOf x s1 s2 m1 m2 v1 := by
  simp only [View.readAt_eq_ld, M.harg16.read_unread, M.harg17.read_unread, M.harg18.read_unread, M.harg19.read_unread]
  rfl

/-- The finished tile read from the odd buffers. -/
theorem outEq_odd (x : Ins F) (s1 s2 : Vec F S256x4352 .f32) (m1 m2 : Vec F S256x128 .f32) (v1 : Vec F S4352x256 .bf16) :
    finish (diff (k0_pay416 x.x5 x.x6 x.x7 x.x8)
          (attend (M.arg22.view.readAt (Elt F) (Rect.unit (s := S256x128) ![0, 0] S256x1.size inb_S256x128_S256x1_0_0).toLoadRect (M.harg22.unread m1))
            (fun n => M.arg20.view.readAt (Elt F) (sBox n).toLoadRect (M.harg20.unread s1)) (fun n => View.ld v1 (vBox n)))
          (attend (M.arg23.view.readAt (Elt F) (Rect.unit (s := S256x128) ![0, 0] S256x1.size inb_S256x128_S256x1_0_0).toLoadRect (M.harg23.unread m2))
            (fun n => M.arg21.view.readAt (Elt F) (sBox n).toLoadRect (M.harg21.unread s2)) (fun n => View.ld v1 (vBox n)))) x.x9
      = outOf x s1 s2 m1 m2 v1 := by
  simp only [View.readAt_eq_ld, M.harg20.read_unread, M.harg21.read_unread, M.harg22.read_unread, M.harg23.read_unread]
  rfl

set_option maxHeartbeats 1000000 in
/-- A head's first point: the keys and values are laid out and the first tile of queries is scored into the even buffers. -/
theorem cleanA (hc0 : cond0_0 i) (hc1 : cond0_1 i) (hc2 : ¬cond0_2 i) (hc3 : ¬cond0_3 i) (hc4 : ¬cond0_4 i) (x : Ins F) (E : Set ℕ) (K : PUnit → sProp 𝕄) :
    iprop(insOwn c M x ∗ outAny M c ∗ keysAny M c ∗ evenAny M c ∗ oddAny M c ∗ (iprop(insOwn c M x ∗ outAny M c ∗ keysOwn M c (ktOf x) (v1Of x) ∗ evenOwn M c (sOf (k0_pay4 x.x0) (ktOf x)) (sOf (k0_pay5 x.x0) (ktOf x)) (mOf (k0_pay4 x.x0) (ktOf x)) (mOf (k0_pay5 x.x0) (ktOf x)) ∗ oddAny M c) -∗ K ⟨⟩))
      ⊢ wp frame (wpE (defs₀ (F := F)) Variants.none c none) E (body i M) K := by
  unfold outAny keysOwn keysAny evenOwn oddAny evenAny
  iintro ⟨Hi, H13, ⟨H14, H15⟩, ⟨H16, H17, H18, H19⟩, ⟨H20, H21, H22, H23⟩, Hk⟩
  iapply (runA c i M hc0 hc1 hc2 hc3 hc4 x).2
  isplitl [Hi]; · iexact Hi
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨Ri, R13, R14, R15, R16, R17, R18, R19, R20, R21, R22, R23⟩
  iapply Hk
  isplitl [Ri]; · iexact Ri
  isplitl [R13]
  · iexact R13
  isplitl [R14 R15]
  · isplitl [R14]
    · iapply (owns_canon c M.arg14 (runA c i M hc0 hc1 hc2 hc3 hc4 x).1.1 (by rw [runA_kt]; exact kt_cover _ _) _ (by rw [runA_kt, rdKc_eq, rdKs_eq]; exact rfl))
      iexact R14
    iapply (owns_canon c M.arg15 (runA c i M hc0 hc1 hc2 hc3 hc4 x).1.2.1 (by rw [runA_v1]; exact v1_cover _ _) _ (by rw [runA_v1, rdVc_eq, rdVs_eq]; exact rfl))
    iexact R15
  isplitl [R16 R17 R18 R19]
  · isplitl [R16]
    · iapply (owns_canon c M.arg16 (runA c i M hc0 hc1 hc2 hc3 hc4 x).1.2.2.1 (by rw [runA_s1]; exact score_cover _ _) _ (by rw [runA_s1, rdQ_eq, rdKc_eq, rdKs_eq, readCov_kt]; exact rfl))
      iexact R16
    isplitl [R17]
    · iapply (owns_canon c M.arg17 (runA c i M hc0 hc1 hc2 hc3 hc4 x).1.2.2.2.1 (by rw [runA_s2]; exact score_cover _ _) _ (by rw [runA_s2, rdQ_eq, rdKc_eq, rdKs_eq, readCov_kt]; exact rfl))
      iexact R17
    isplitl [R18]
    · iapply (owns_canon c M.arg18 (runA c i M hc0 hc1 hc2 hc3 hc4 x).1.2.2.2.2.1 (by rw [runA_m1]; exact full_cover _) _ (by rw [runA_m1, rdQ_eq, rdKc_eq, rdKs_eq, readCov_kt]; exact full_canon _))
      iexact R18
    iapply (owns_canon c M.arg19 (runA c i M hc0 hc1 hc2 hc3 hc4 x).1.2.2.2.2.2 (by rw [runA_m2]; exact full_cover _) _ (by rw [runA_m2, rdQ_eq, rdKc_eq, rdKs_eq, readCov_kt]; exact full_canon _))
    iexact R19
  isplitl [R20]
  · iexact R20
  isplitl [R21]
  · iexact R21
  isplitl [R22]
  · iexact R22
  iexact R23

set_option maxHeartbeats 1000000 in
/-- An odd point: the tile of queries is scored into the odd buffers, and the tile scored in the even ones is finished. -/
theorem cleanB (hc0 : ¬cond0_0 i) (hc1 : ¬cond0_1 i) (hc2 : ¬cond0_2 i) (hc3 : cond0_3 i) (hc4 : ¬cond0_4 i) (x : Ins F) (kt : Vec F S128x4352 .bf16) (v1 : Vec F S4352x256 .bf16) (s1 s2 : Vec F S256x4352 .f32) (m1 m2 : Vec F S256x128 .f32) (E : Set ℕ) (K : PUnit → sProp 𝕄) :
    iprop(insOwn c M x ∗ outAny M c ∗ keysOwn M c kt v1 ∗ evenOwn M c s1 s2 m1 m2 ∗ oddAny M c ∗ (iprop(insOwn c M x ∗ owns (c : Thread nD τ) M.arg13 fullShare (outOf x s1 s2 m1 m2 v1) ∗ keysOwn M c kt v1 ∗ evenOwn M c s1 s2 m1 m2 ∗ oddOwn M c (sOf (k0_pay4 x.x0) kt) (sOf (k0_pay5 x.x0) kt) (mOf (k0_pay4 x.x0) kt) (mOf (k0_pay5 x.x0) kt)) -∗ K ⟨⟩))
      ⊢ wp frame (wpE (defs₀ (F := F)) Variants.none c none) E (body i M) K := by
  unfold outAny keysOwn evenOwn oddOwn oddAny
  iintro ⟨Hi, H13, ⟨H14, H15⟩, ⟨H16, H17, H18, H19⟩, ⟨H20, H21, H22, H23⟩, Hk⟩
  iapply (runB c i M hc0 hc1 hc2 hc3 hc4 x kt v1 s1 s2 m1 m2).2
  isplitl [Hi]; · iexact Hi
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨Ri, R13, R14, R15, R16, R17, R18, R19, R20, R21, R22, R23⟩
  iapply Hk
  isplitl [Ri]; · iexact Ri
  isplitl [R13]
  · iapply (owns_canon c M.arg13 (runB c i M hc0 hc1 hc2 hc3 hc4 x kt v1 s1 s2 m1 m2).1.1 (by rw [runB_out]; exact full3_cover _) _ (by rw [runB_out, full3_canon, rdLam_eq, rdG_eq, rdV_eq]; exact outEq_even M _ _ _ _ _ _))
    iexact R13
  isplitl [R14 R15]
  · isplitl [R14]
    · iexact R14
    iexact R15
  isplitl [R16 R17 R18 R19]
  · isplitl [R16]
    · iexact R16
    isplitl [R17]
    · iexact R17
    isplitl [R18]
    · iexact R18
    iexact R19
  isplitl [R20]
  · iapply (owns_canon c M.arg20 (runB c i M hc0 hc1 hc2 hc3 hc4 x kt v1 s1 s2 m1 m2).1.2.1 (by rw [runB_s1]; exact score_cover _ _) _ (by rw [runB_s1, rdQ_eq, rdK_eq]; exact rfl))
    iexact R20
  isplitl [R21]
  · iapply (owns_canon c M.arg21 (runB c i M hc0 hc1 hc2 hc3 hc4 x kt v1 s1 s2 m1 m2).1.2.2.1 (by rw [runB_s2]; exact score_cover _ _) _ (by rw [runB_s2, rdQ_eq, rdK_eq]; exact rfl))
    iexact R21
  isplitl [R22]
  · iapply (owns_canon c M.arg22 (runB c i M hc0 hc1 hc2 hc3 hc4 x kt v1 s1 s2 m1 m2).1.2.2.2.1 (by rw [runB_m1]; exact full_cover _) _ (by rw [runB_m1, rdQ_eq, rdK_eq]; exact full_canon _))
    iexact R22
  iapply (owns_canon c M.arg23 (runB c i M hc0 hc1 hc2 hc3 hc4 x kt v1 s1 s2 m1 m2).1.2.2.2.2 (by rw [runB_m2]; exact full_cover _) _ (by rw [runB_m2, rdQ_eq, rdK_eq]; exact full_canon _))
  iexact R23

set_option maxHeartbeats 1000000 in
/-- An even point in the middle: the tile of queries is scored into the even buffers, and the tile scored in the odd ones is finished. -/
theorem cleanC (hc0 : ¬cond0_0 i) (hc1 : ¬cond0_1 i) (hc2 : cond0_2 i) (hc3 : ¬cond0_3 i) (hc4 : ¬cond0_4 i) (x : Ins F) (kt : Vec F S128x4352 .bf16) (v1 : Vec F S4352x256 .bf16) (s1 s2 : Vec F S256x4352 .f32) (m1 m2 : Vec F S256x128 .f32) (E : Set ℕ) (K : PUnit → sProp 𝕄) :
    iprop(insOwn c M x ∗ outAny M c ∗ keysOwn M c kt v1 ∗ evenAny M c ∗ oddOwn M c s1 s2 m1 m2 ∗ (iprop(insOwn c M x ∗ owns (c : Thread nD τ) M.arg13 fullShare (outOf x s1 s2 m1 m2 v1) ∗ keysOwn M c kt v1 ∗ evenOwn M c (sOf (k0_pay4 x.x0) kt) (sOf (k0_pay5 x.x0) kt) (mOf (k0_pay4 x.x0) kt) (mOf (k0_pay5 x.x0) kt) ∗ oddOwn M c s1 s2 m1 m2) -∗ K ⟨⟩))
      ⊢ wp frame (wpE (defs₀ (F := F)) Variants.none c none) E (body i M) K := by
  unfold outAny keysOwn evenOwn oddOwn evenAny
  iintro ⟨Hi, H13, ⟨H14, H15⟩, ⟨H16, H17, H18, H19⟩, ⟨H20, H21, H22, H23⟩, Hk⟩
  iapply (runC c i M hc0 hc1 hc2 hc3 hc4 x kt v1 s1 s2 m1 m2).2
  isplitl [Hi]; · iexact Hi
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨Ri, R13, R14, R15, R16, R17, R18, R19, R20, R21, R22, R23⟩
  iapply Hk
  isplitl [Ri]; · iexact Ri
  isplitl [R13]
  · iapply (owns_canon c M.arg13 (runC c i M hc0 hc1 hc2 hc3 hc4 x kt v1 s1 s2 m1 m2).1.1 (by rw [runC_out]; exact full3_cover _) _ (by rw [runC_out, full3_canon, rdLam_eq, rdG_eq, rdV_eq]; exact outEq_odd M _ _ _ _ _ _))
    iexact R13
  isplitl [R14 R15]
  · isplitl [R14]
    · iexact R14
    iexact R15
  isplitl [R16 R17 R18 R19]
  · isplitl [R16]
    · iapply (owns_canon c M.arg16 (runC c i M hc0 hc1 hc2 hc3 hc4 x kt v1 s1 s2 m1 m2).1.2.1 (by rw [runC_s1]; exact score_cover _ _) _ (by rw [runC_s1, rdQ_eq, rdK_eq]; exact rfl))
      iexact R16
    isplitl [R17]
    · iapply (owns_canon c M.arg17 (runC c i M hc0 hc1 hc2 hc3 hc4 x kt v1 s1 s2 m1 m2).1.2.2.1 (by rw [runC_s2]; exact score_cover _ _) _ (by rw [runC_s2, rdQ_eq, rdK_eq]; exact rfl))
      iexact R17
    isplitl [R18]
    · iapply (owns_canon c M.arg18 (runC c i M hc0 hc1 hc2 hc3 hc4 x kt v1 s1 s2 m1 m2).1.2.2.2.1 (by rw [runC_m1]; exact full_cover _) _ (by rw [runC_m1, rdQ_eq, rdK_eq]; exact full_canon _))
      iexact R18
    iapply (owns_canon c M.arg19 (runC c i M hc0 hc1 hc2 hc3 hc4 x kt v1 s1 s2 m1 m2).1.2.2.2.2 (by rw [runC_m2]; exact full_cover _) _ (by rw [runC_m2, rdQ_eq, rdK_eq]; exact full_canon _))
    iexact R19
  isplitl [R20]
  · iexact R20
  isplitl [R21]
  · iexact R21
  isplitl [R22]
  · iexact R22
  iexact R23

set_option maxHeartbeats 1000000 in
/-- A head's last point: the tile scored in the odd buffers is finished. -/
theorem cleanD (hc0 : ¬cond0_0 i) (hc1 : ¬cond0_1 i) (hc2 : ¬cond0_2 i) (hc3 : ¬cond0_3 i) (hc4 : cond0_4 i) (x : Ins F) (kt : Vec F S128x4352 .bf16) (v1 : Vec F S4352x256 .bf16) (s1 s2 : Vec F S256x4352 .f32) (m1 m2 : Vec F S256x128 .f32) (E : Set ℕ) (K : PUnit → sProp 𝕄) :
    iprop(insOwn c M x ∗ outAny M c ∗ keysOwn M c kt v1 ∗ evenAny M c ∗ oddOwn M c s1 s2 m1 m2 ∗ (iprop(insOwn c M x ∗ owns (c : Thread nD τ) M.arg13 fullShare (outOf x s1 s2 m1 m2 v1) ∗ keysOwn M c kt v1 ∗ evenAny M c ∗ oddOwn M c s1 s2 m1 m2) -∗ K ⟨⟩))
      ⊢ wp frame (wpE (defs₀ (F := F)) Variants.none c none) E (body i M) K := by
  unfold outAny keysOwn oddOwn evenAny
  iintro ⟨Hi, H13, ⟨H14, H15⟩, ⟨H16, H17, H18, H19⟩, ⟨H20, H21, H22, H23⟩, Hk⟩
  iapply (runD c i M hc0 hc1 hc2 hc3 hc4 x kt v1 s1 s2 m1 m2).2
  isplitl [Hi]; · iexact Hi
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨Ri, R13, R14, R15, R16, R17, R18, R19, R20, R21, R22, R23⟩
  iapply Hk
  isplitl [Ri]; · iexact Ri
  isplitl [R13]
  · iapply (owns_canon c M.arg13 (runD c i M hc0 hc1 hc2 hc3 hc4 x kt v1 s1 s2 m1 m2).1 (by rw [runD_out]; exact full3_cover _) _ (by rw [runD_out, full3_canon, rdLam_eq, rdG_eq, rdV_eq]; exact outEq_odd M _ _ _ _ _ _))
    iexact R13
  isplitl [R14 R15]
  · isplitl [R14]
    · iexact R14
    iexact R15
  isplitl [R16 R17 R18 R19]
  · isplitl [R16]
    · iexact R16
    isplitl [R17]
    · iexact R17
    isplitl [R18]
    · iexact R18
    iexact R19
  isplitl [R20]
  · iexact R20
  isplitl [R21]
  · iexact R21
  isplitl [R22]
  · iexact R22
  iexact R23

end Cert.KernelIdeal.Att

end
-- ==== Proof.State.lean ====
/- What each buffer holds before and after every point of the grid, and the run of the whole program from it. -/
module

public import proofs.«01_k».proof.Proof.Clean
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The output tile is written back at every point but a head's first. -/
theorem flushAt : ∀ t : Fin cfg0.N, (cfg0.win 10).flush t = decide (t.val % 17 ≠ 0) :=
  (by decide +kernel : ∀ t : Fin grid0.N, (cfg0.win 10).flush t = decide (t.val % 17 ≠ 0))
/-- The output window is idle at a head's first point. -/
theorem idleAt (t : Fin cfg0.N) (h : t.val % 17 = 0) : cfg0.idle 10 (grid0.coords t) = true := by
  have h2 := (hcond0_2 t).not.mpr (by omega)
  have h3 := (hcond0_3 t).not.mpr (by omega)
  have h4 := (hcond0_4 t).not.mpr (by omega)
  show (!(k0_cond3 (grid0.coords t) == 1#1) && !(k0_cond4 (grid0.coords t) == 1#1) && !(k0_cond5 (grid0.coords t) == 1#1)) = true
  simp only [beq_eq_false_iff_ne.mpr h2, beq_eq_false_iff_ne.mpr h3, beq_eq_false_iff_ne.mpr h4]; rfl

/-- The point before `t`. -/
def prev (t : Fin cfg0.N) : Fin cfg0.N := ⟨t.val - 1, lt_of_le_of_lt (Nat.sub_le _ _) t.isLt⟩
/-- The first point of `t`'s head. -/
def start (t : Fin cfg0.N) : Fin cfg0.N := ⟨t.val - t.val % 17, lt_of_le_of_lt (Nat.sub_le _ _) t.isLt⟩

theorem start_self (t : Fin cfg0.N) (h : t.val % 17 = 0) : start t = t := Fin.ext (by simp [start, h])
theorem start_prev (t : Fin cfg0.N) (h : t.val % 17 ≠ 0) : start (prev t) = start t := Fin.ext (by simp only [start, prev]; omega)

/-! ## The contents at a point -/

/-- The input blocks at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩
/-- The transposed keys and the widened values of `t`'s head. -/
def ktAt (c : Dev nD) (t : Fin cfg0.N) : Vec F S128x4352 .bf16 := ktOf (insAt m c (start t))
def v1At (c : Dev nD) (t : Fin cfg0.N) : Vec F S4352x256 .bf16 := v1Of (insAt m c (start t))
/-- The scores of the query tile of point `t`, by its first and its second half, and their row maxima. -/
def s1At (c : Dev nD) (t : Fin cfg0.N) : Vec F S256x4352 .f32 := sOf (k0_pay4 (insAt m c t).x0) (ktAt m c t)
def s2At (c : Dev nD) (t : Fin cfg0.N) : Vec F S256x4352 .f32 := sOf (k0_pay5 (insAt m c t).x0) (ktAt m c t)
def m1At (c : Dev nD) (t : Fin cfg0.N) : Vec F S256x128 .f32 := mOf (k0_pay4 (insAt m c t).x0) (ktAt m c t)
def m2At (c : Dev nD) (t : Fin cfg0.N) : Vec F S256x128 .f32 := mOf (k0_pay5 (insAt m c t).x0) (ktAt m c t)
/-- The output tile a point finishes: that of the query tile of the point before. -/
def outAt (c : Dev nD) (t : Fin cfg0.N) : Vec F S1x256x128 .bf16 :=
  outOf (insAt m c t) (s1At m c (prev t)) (s2At m c (prev t)) (m1At m c (prev t)) (m2At m c (prev t)) (v1At m c (prev t))

theorem ktAt_prev (c : Dev nD) (t : Fin cfg0.N) (h : t.val % 17 ≠ 0) : ktAt m c (prev t) = ktAt m c t := by unfold ktAt; rw [start_prev t h]
theorem v1At_prev (c : Dev nD) (t : Fin cfg0.N) (h : t.val % 17 ≠ 0) : v1At m c (prev t) = v1At m c t := by unfold v1At; rw [start_prev t h]

/-! ## The invariant -/

/-- The scratch buffers of a call are the same buffers at every point. -/
abbrev M0 (t : Fin cfg0.N) : Mems := memsAt t

/-- The scratch after point `t`: the head's keys and values; the scores of `t`'s query tile in the even buffers at an even
    point and in the odd ones at an odd point; after a head's last point nothing is stated of either. -/
def scrAfter (c : Dev nD) (t : Fin cfg0.N) : sProp 𝕄 :=
  if t.val % 17 = 16 then
    iprop(keysOwn (M0 t) c (ktAt m c t) (v1At m c t) ∗ evenAny (M0 t) c ∗ oddAny (M0 t) c)
  else if t.val % 17 % 2 = 0 then
    iprop(keysOwn (M0 t) c (ktAt m c t) (v1At m c t) ∗ evenOwn (M0 t) c (s1At m c t) (s2At m c t) (m1At m c t) (m2At m c t) ∗ oddAny (M0 t) c)
  else
    iprop(keysOwn (M0 t) c (ktAt m c t) (v1At m c t) ∗ evenAny (M0 t) c ∗ oddOwn (M0 t) c (s1At m c t) (s2At m c t) (m1At m c t) (m2At m c t))

/-- After an even point but a head's last, after an odd one, and after a head's last point. -/
theorem scr_even (c : Dev nD) (t : Fin cfg0.N) (h : t.val % 17 ≠ 16) (h' : t.val % 17 % 2 = 0) : scrAfter m c t =
    iprop(keysOwn (M0 t) c (ktAt m c t) (v1At m c t) ∗ evenOwn (M0 t) c (s1At m c t) (s2At m c t) (m1At m c t) (m2At m c t) ∗ oddAny (M0 t) c) := by
  unfold scrAfter; rw [if_neg h, if_pos h']
theorem scr_odd (c : Dev nD) (t : Fin cfg0.N) (h : t.val % 17 ≠ 16) (h' : ¬t.val % 17 % 2 = 0) : scrAfter m c t =
    iprop(keysOwn (M0 t) c (ktAt m c t) (v1At m c t) ∗ evenAny (M0 t) c ∗ oddOwn (M0 t) c (s1At m c t) (s2At m c t) (m1At m c t) (m2At m c t)) := by
  unfold scrAfter; rw [if_neg h, if_neg h']
theorem scr_end (c : Dev nD) (t : Fin cfg0.N) (h : t.val % 17 = 16) : scrAfter m c t =
    iprop(keysOwn (M0 t) c (ktAt m c t) (v1At m c t) ∗ evenAny (M0 t) c ∗ oddAny (M0 t) c) := by
  unfold scrAfter; rw [if_pos h]

/-- The scratch at anything. -/
def scrAny (c : Dev nD) (t : Fin cfg0.N) : sProp 𝕄 := iprop(keysAny (M0 t) c ∗ evenAny (M0 t) c ∗ oddAny (M0 t) c)

theorem keysOwn_any (M : Mems) (c : Dev nD) (kt : Vec F S128x4352 .bf16) (v1 : Vec F S4352x256 .bf16) : keysOwn M c kt v1 ⊢ keysAny M c := by
  unfold keysOwn keysAny
  iintro ⟨H1, H2⟩
  isplitl [H1]; · iexists _; iexact H1
  iexists _; iexact H2
theorem evenOwn_any (M : Mems) (c : Dev nD) (s1 s2 : Vec F S256x4352 .f32) (m1 m2 : Vec F S256x128 .f32) : evenOwn M c s1 s2 m1 m2 ⊢ evenAny M c := by
  unfold evenOwn evenAny
  iintro ⟨H1, H2, H3, H4⟩
  isplitl [H1]; · iexists _; iexact H1
  isplitl [H2]; · iexists _; iexact H2
  isplitl [H3]; · iexists _; iexact H3
  iexists _; iexact H4
theorem oddOwn_any (M : Mems) (c : Dev nD) (s1 s2 : Vec F S256x4352 .f32) (m1 m2 : Vec F S256x128 .f32) : oddOwn M c s1 s2 m1 m2 ⊢ oddAny M c := by
  unfold oddOwn oddAny
  iintro ⟨H1, H2, H3, H4⟩
  isplitl [H1]; · iexists _; iexact H1
  isplitl [H2]; · iexists _; iexact H2
  isplitl [H3]; · iexists _; iexact H3
  iexists _; iexact H4

theorem scrAfter_any (c : Dev nD) (t : Fin cfg0.N) : scrAfter m c t ⊢ scrAny (F := F) c t := by
  unfold scrAfter scrAny
  split
  · iintro ⟨H1, H2, H3⟩
    isplitl [H1]; · iapply keysOwn_any; iexact H1
    isplitl [H2]; · iexact H2
    iexact H3
  split
  · iintro ⟨H1, H2, H3⟩
    isplitl [H1]; · iapply keysOwn_any; iexact H1
    isplitl [H2]; · iapply evenOwn_any; iexact H2
    iexact H3
  · iintro ⟨H1, H2, H3⟩
    isplitl [H1]; · iapply keysOwn_any; iexact H1
    isplitl [H2]; · iexact H2
    iapply oddOwn_any; iexact H3

/-- The launch's scratch is the scratch at anything. -/
theorem PhiA_out (c : Dev nD) (t : Fin cfg0.N) : (Pipeline.ΦA spec0 c : sProp 𝕄) ⊢ iprop(scrAny c t ∗ (∃ r, prngReg c r)) := by
  rw [PhiA0_eq]; unfold scrAny keysAny evenAny oddAny
  iintro ⟨⟨H0, H1, H2, H3, H4, H5, H6, H7, H8, H9⟩, Hg⟩
  isplitl [H0 H1 H2 H3 H4 H5 H6 H7 H8 H9]
  · isplitl [H0 H1]
    · isplitl [H0]; · iexact H0
      iexact H1
    isplitl [H2 H3 H4 H5]
    · isplitl [H2]; · iexact H2
      isplitl [H3]; · iexact H3
      isplitl [H4]; · iexact H4
      iexact H5
    isplitl [H6]; · iexact H6
    isplitl [H7]; · iexact H7
    isplitl [H8]; · iexact H8
    iexact H9
  iexact Hg
theorem PhiA_in (c : Dev nD) (t : Fin cfg0.N) : (iprop(scrAny c t ∗ (∃ r, prngReg c r)) : sProp 𝕄) ⊢ Pipeline.ΦA spec0 c := by
  rw [PhiA0_eq]; unfold scrAny keysAny evenAny oddAny
  iintro ⟨⟨⟨H0, H1⟩, ⟨H2, H3, H4, H5⟩, ⟨H6, H7, H8, H9⟩⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- The invariant before position `n`. -/
def PhiS (c : Dev nD) : (n : ℕ) → n ≤ cfg0.N → sProp 𝕄
  | 0, _ => Pipeline.ΦA spec0 c
  | n + 1, hn => iprop(scrAfter m c ⟨n, hn⟩ ∗ (∃ r, prngReg c r))

theorem PhiS_pos (c : Dev nD) (t : Fin cfg0.N) (hz : t.val ≠ 0) :
    PhiS m c t.val (Nat.le_of_lt t.isLt) = iprop(scrAfter m c (prev t) ∗ (∃ r, prngReg c r)) := by
  obtain ⟨n, hn⟩ := t
  cases n with
  | zero => exact absurd rfl hz
  | succ n => rfl

/-- At any position the scratch is at something. -/
theorem PhiS_any (c : Dev nD) (t : Fin cfg0.N) : PhiS m c t.val (Nat.le_of_lt t.isLt) ⊢ iprop(scrAny (F := F) c t ∗ (∃ r, prngReg c r)) := by
  by_cases hz : t.val = 0
  · obtain ⟨n, hn⟩ := t
    obtain rfl : n = 0 := hz
    exact PhiA_out c _
  · rw [PhiS_pos m c t hz]
    iintro ⟨H, Hg⟩
    isplitl [H]
    · iapply (show scrAfter m c (prev t) ⊢ scrAny (F := F) c t from scrAfter_any m c (prev t)); iexact H
    iexact Hg

/-! ## The proof data -/

/-- The proof data of the one pipeline on core `c`: the inputs stay at their blocks, the output tile is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

/-- The inputs' memrefs at their blocks, from what the pipeline states of them. -/
theorem pre_ins (c : Dev nD) (t : Fin cfg0.N) :
    bodyPre m c t ⊢ iprop(PhiS m c t.val (Nat.le_of_lt t.isLt) ∗ (dats m 0 c).owesAt () t.castSucc ∗ insOwn c (memsAt t) (insAt m c t)
      ∗ (∃ d, owns (c : Thread nD τ) (ms0_10 t) fullShare ((dats m 0 c).before 10 t d))) := by
  unfold bodyPre insOwn
  simp only [Phi_castSucc, before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c), before0_7_of m (dats m 0 c) (A_eq m c 7) (after7 m c),
    before0_8_of m (dats m 0 c) (A_eq m c 8) (after8 m c), before0_9_of m (dats m 0 c) (A_eq m c 9) (after9 m c)]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  isplitl [HP]; · iexact HP
  isplitl [Ho]; · iexact Ho
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact H10

/-- What the pipeline asks back, from the inputs' memrefs at their blocks. -/
theorem post_ins (c : Dev nD) (t : Fin cfg0.N) :
    iprop((scrAfter m c t ∗ (∃ r, prngReg c r)) ∗ (dats m 0 c).owesAt () t.castSucc ∗ insOwn c (memsAt t) (insAt m c t) ∗ (dats m 0 c).leavesExact 10 t)
      ⊢ bodyPost m c t := by
  unfold bodyPost insOwn
  rw [show (dats m 0 c).owesAt () t.succ = (dats m 0 c).owesAt () t.castSucc from rfl]
  rw [show (dats m 0 c).Φ t.succ = iprop(scrAfter m c t ∗ (∃ r, prngReg c r)) from rfl]
  rw [show (dats m 0 c).leavesExact 0 t = owns (c : Thread nD τ) (ms0_0 t) fullShare ((dats m 0 c).after 0 t) from by
      unfold Dat.leavesExact; rw [liveAt0_0 t], after0]
  rw [show (dats m 0 c).leavesExact 1 t = owns (c : Thread nD τ) (ms0_1 t) fullShare ((dats m 0 c).after 1 t) from by
      unfold Dat.leavesExact; rw [liveAt0_1 t], after1]
  rw [show (dats m 0 c).leavesExact 2 t = owns (c : Thread nD τ) (ms0_2 t) fullShare ((dats m 0 c).after 2 t) from by
      unfold Dat.leavesExact; rw [liveAt0_2 t], after2]
  rw [show (dats m 0 c).leavesExact 3 t = owns (c : Thread nD τ) (ms0_3 t) fullShare ((dats m 0 c).after 3 t) from by
      unfold Dat.leavesExact; rw [liveAt0_3 t], after3]
  rw [show (dats m 0 c).leavesExact 4 t = owns (c : Thread nD τ) (ms0_4 t) fullShare ((dats m 0 c).after 4 t) from by
      unfold Dat.leavesExact; rw [liveAt0_4 t], after4]
  rw [show (dats m 0 c).leavesExact 5 t = owns (c : Thread nD τ) (ms0_5 t) fullShare ((dats m 0 c).after 5 t) from by
      unfold Dat.leavesExact; rw [liveAt0_5 t], after5]
  rw [show (dats m 0 c).leavesExact 6 t = owns (c : Thread nD τ) (ms0_6 t) fullShare ((dats m 0 c).after 6 t) from by
      unfold Dat.leavesExact; rw [liveAt0_6 t], after6]
  rw [show (dats m 0 c).leavesExact 7 t = owns (c : Thread nD τ) (ms0_7 t) fullShare ((dats m 0 c).after 7 t) from by
      unfold Dat.leavesExact; rw [liveAt0_7 t], after7]
  rw [show (dats m 0 c).leavesExact 8 t = owns (c : Thread nD τ) (ms0_8 t) fullShare ((dats m 0 c).after 8 t) from by
      unfold Dat.leavesExact; rw [liveAt0_8 t], after8]
  rw [show (dats m 0 c).leavesExact 9 t = owns (c : Thread nD τ) (ms0_9 t) fullShare ((dats m 0 c).after 9 t) from by
      unfold Dat.leavesExact; rw [liveAt0_9 t], after9]
  iintro ⟨HP, Ho, ⟨H0, H1, H2, H3, H4, H5, H6, H7, H8, H9⟩, H10⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- At a point but a head's first the output tile is left at `outAt`. -/
theorem leaves_out (c : Dev nD) (t : Fin cfg0.N) (h : t.val % 17 ≠ 0) :
    (dats m 0 c).leavesExact 10 t = owns (c : Thread nD τ) (ms0_10 t) fullShare (outAt m c t) := by
  have hf : (cfg0.win 10).flush t = true := by rw [flushAt]; exact decide_eq_true h
  unfold Dat.leavesExact
  rw [hf, after10]
  cases cfg0.idle 10 (cfg0.grid.coords t) <;> rfl

/-- At a head's first point the output tile is left as found, which is anything. -/
theorem leaves_idle_out (c : Dev nD) (t : Fin cfg0.N) (h : t.val % 17 = 0) :
    (dats m 0 c).leavesExact 10 t = outAny (memsAt t) c := by
  have hf : (cfg0.win 10).flush t = false := by rw [flushAt]; exact decide_eq_false (not_not.mpr h)
  rw [(dats m 0 c).leavesExact_idle 10 t (idleAt t h) hf]
  have hb : ∀ d, (dats m 0 c).before 10 t d = d := fun d => (dats m 0 c).before_out_reset 10 rfl t (by
    by_cases hz : t.val = 0
    · exact .inl hz
    · exact .inr ⟨hz, by rw [flushAt]; exact decide_eq_true (by simp only; omega)⟩) d
  simp only [hb]
  rfl

set_option maxHeartbeats 4000000 in
/-- The body at every point takes the invariant before it to the invariant after it. -/
theorem sound_body (c : Dev nD) (t : Fin cfg0.N) :
    bodyPre m c t ⊢ wp frame (wpE (defs₀ (F := F)) Variants.none c none) Set.univ (bodyAt0 t) (fun _ => bodyPost m c t) := by
  refine (pre_ins m c t).trans ?_
  show _ ⊢ wp frame (wpE (defs₀ (F := F)) Variants.none c none) Set.univ (body (grid0.coords t) (memsAt t)) (fun _ => bodyPost m c t)
  have hN : t.val < 544 := lt_of_lt_of_eq t.isLt (show cfg0.N = 544 from N_0)
  by_cases hA : t.val % 17 = 0
  · iintro ⟨HP, Ho, Hi, ⟨%d, Hd⟩⟩
    ihave HQ := (PhiS_any m c t) $$ HP
    unfold scrAny
    icases HQ with ⟨⟨Hk, He, Hd'⟩, Hg⟩
    iapply (cleanA (memsAt t) c (grid0.coords t) ((hcond0_0 t).mpr hA) ((hcond0_1 t).mpr hA) ((hcond0_2 t).not.mpr (by omega)) ((hcond0_3 t).not.mpr (by omega)) ((hcond0_4 t).not.mpr (by omega)) (insAt m c t))
    isplitl [Hi]; · iexact Hi
    isplitl [Hd]; · unfold outAny; iexists _; iexact Hd
    isplitl [Hk]; · iexact Hk
    isplitl [He]; · iexact He
    isplitl [Hd']; · iexact Hd'
    iintro ⟨Hi, Hout, Hk, He, Hd'⟩
    iapply (post_ins m c t)
    isplitl [Hk He Hd' Hg]
    · isplitl [Hk He Hd']
      · unfold scrAfter
        rw [if_neg (by omega), if_pos (by omega)]
        unfold s1At s2At m1At m2At ktAt v1At
        rw [start_self t hA]
        isplitl [Hk]; · iexact Hk
        isplitl [He]; · iexact He
        iexact Hd'
      iexact Hg
    isplitl [Ho]; · iexact Ho
    isplitl [Hi]; · iexact Hi
    rw [leaves_idle_out m c t hA]
    iexact Hout
  have hp : (prev t).val % 17 = t.val % 17 - 1 := by simp only [prev]; omega
  rw [PhiS_pos m c t (by intro h; rw [h] at hA; exact hA rfl)]
  by_cases hB : t.val % 17 % 2 = 1
  · rw [scr_even m c (prev t) (by omega) (by omega)]
    iintro ⟨⟨⟨Hk, He, Hd'⟩, Hg⟩, Ho, Hi, ⟨%d, Hd⟩⟩
    iapply (cleanB (memsAt t) c (grid0.coords t) ((hcond0_0 t).not.mpr (by omega)) ((hcond0_1 t).not.mpr (by omega)) ((hcond0_2 t).not.mpr (by omega)) ((hcond0_3 t).mpr (by omega)) ((hcond0_4 t).not.mpr (by omega)) (insAt m c t) (ktAt m c (prev t)) (v1At m c (prev t)) (s1At m c (prev t)) (s2At m c (prev t)) (m1At m c (prev t)) (m2At m c (prev t)))
    isplitl [Hi]; · iexact Hi
    isplitl [Hd]; · unfold outAny; iexists _; iexact Hd
    isplitl [Hk]; · iexact Hk
    isplitl [He]; · iexact He
    isplitl [Hd']; · iexact Hd'
    iintro ⟨Hi, Hout, Hk, He, Hd'⟩
    iapply (post_ins m c t)
    isplitl [Hk He Hd' Hg]
    · isplitl [Hk He Hd']
      · rw [scr_odd m c t (by omega) (by omega), ← ktAt_prev m c t hA, ← v1At_prev m c t hA]
        unfold s1At s2At m1At m2At
        simp only [ktAt_prev m c t hA]
        isplitl [Hk]; · iexact Hk
        isplitl [He]; · iapply evenOwn_any; iexact He
        iexact Hd'
      iexact Hg
    isplitl [Ho]; · iexact Ho
    isplitl [Hi]; · iexact Hi
    rw [leaves_out m c t hA]
    iexact Hout
  by_cases hD : t.val % 17 = 16
  · rw [scr_odd m c (prev t) (by omega) (by omega)]
    iintro ⟨⟨⟨Hk, He, Hd'⟩, Hg⟩, Ho, Hi, ⟨%d, Hd⟩⟩
    iapply (cleanD (memsAt t) c (grid0.coords t) ((hcond0_0 t).not.mpr (by omega)) ((hcond0_1 t).not.mpr (by omega)) ((hcond0_2 t).not.mpr (by omega)) ((hcond0_3 t).not.mpr (by omega)) ((hcond0_4 t).mpr (by omega)) (insAt m c t) (ktAt m c (prev t)) (v1At m c (prev t)) (s1At m c (prev t)) (s2At m c (prev t)) (m1At m c (prev t)) (m2At m c (prev t)))
    isplitl [Hi]; · iexact Hi
    isplitl [Hd]; · unfold outAny; iexists _; iexact Hd
    isplitl [Hk]; · iexact Hk
    isplitl [He]; · iexact He
    isplitl [Hd']; · iexact Hd'
    iintro ⟨Hi, Hout, Hk, He, Hd'⟩
    iapply (post_ins m c t)
    isplitl [Hk He Hd' Hg]
    · isplitl [Hk He Hd']
      · rw [scr_end m c t hD, ← ktAt_prev m c t hA, ← v1At_prev m c t hA]
        isplitl [Hk]; · iexact Hk
        isplitl [He]; · iexact He
        iapply oddOwn_any; iexact Hd'
      iexact Hg
    isplitl [Ho]; · iexact Ho
    isplitl [Hi]; · iexact Hi
    rw [leaves_out m c t hA]
    iexact Hout
  · rw [scr_odd m c (prev t) (by omega) (by omega)]
    iintro ⟨⟨⟨Hk, He, Hd'⟩, Hg⟩, Ho, Hi, ⟨%d, Hd⟩⟩
    iapply (cleanC (memsAt t) c (grid0.coords t) ((hcond0_0 t).not.mpr (by omega)) ((hcond0_1 t).not.mpr (by omega)) ((hcond0_2 t).mpr (by omega)) ((hcond0_3 t).not.mpr (by omega)) ((hcond0_4 t).not.mpr (by omega)) (insAt m c t) (ktAt m c (prev t)) (v1At m c (prev t)) (s1At m c (prev t)) (s2At m c (prev t)) (m1At m c (prev t)) (m2At m c (prev t)))
    isplitl [Hi]; · iexact Hi
    isplitl [Hd]; · unfold outAny; iexists _; iexact Hd
    isplitl [Hk]; · iexact Hk
    isplitl [He]; · iexact He
    isplitl [Hd']; · iexact Hd'
    iintro ⟨Hi, Hout, Hk, He, Hd'⟩
    iapply (post_ins m c t)
    isplitl [Hk He Hd' Hg]
    · isplitl [Hk He Hd']
      · rw [scr_even m c t (by omega) (by omega), ← ktAt_prev m c t hA, ← v1At_prev m c t hA]
        unfold s1At s2At m1At m2At
        simp only [ktAt_prev m c t hA]
        isplitl [Hk]; · iexact Hk
        isplitl [He]; · iexact He
        iapply oddOwn_any; iexact Hd'
      iexact Hg
    isplitl [Ho]; · iexact Ho
    isplitl [Hi]; · iexact Hi
    rw [leaves_out m c t hA]
    iexact Hout

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 544 := N_0
  let t : Fin cfg0.N := ⟨cfg0.N - 1, by omega⟩
  rw [show (dats m 0 c).Φ (Fin.last cfg0.N) = (dats m 0 c).Φ t.succ from congrArg _ (Fin.ext (by simp only [Fin.val_last, Fin.val_succ, t]; omega))]
  rw [show (dats m 0 c).Φ t.succ = iprop(scrAfter m c t ∗ (∃ r, prngReg c r)) from rfl]
  have h : iprop(scrAfter m c t ∗ (∃ r, prngReg c r)) ⊢ iprop(scrAny (F := F) c t ∗ (∃ r, prngReg c r)) := by
    iintro ⟨H, Hg⟩
    isplitl [H]
    · iapply scrAfter_any; iexact H
    iexact Hg
  exact h.trans (PhiA_in c t)

/-! ## The run and the frame -/

set_option backward.isDefEq.respectTransparency.types false in
/-- Every execution ends, with every window's array at what its points left in it, every other buffer as the region found it
    and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Att

end
-- ==== Proof.Post.lean ====
/- The result array, at an index, is the tile its point finishes; and the blocks a point reads, at an index. -/
module

public import proofs.«01_k».proof.Proof.State
public import Idealize.ShloMosaic.Lib.Pointwise
public import Idealize.ShloMosaic.Lib.Pipeline.ValueKit.Geometry

@[expose] public section

set_option maxRecDepth 16384

noncomputable section

namespace Cert.KernelIdeal.Att

open Idealize.ShloMosaic Idealize.ShloMosaic.TcCoe Idealize.ShloMosaic.Tactic
open Idealize.ShloMosaic.Pipeline (Dat Cfg Window)
open Cert.KernelIdeal.Gen

variable {F : FTy → Type} [FloatOps F]
variable (m : (ℓ : Loc nD τ sig) → Buf (Elt F) ℓ)

/-- The point that finishes the tile of batch `b`, head `h` and query row `s`. -/
def ptOf (b : Fin 8) (h : Fin 4) (s : Fin 4096) : Fin cfg0.N := ⟨b.val * 68 + h.val * 17 + s.val / 256 + 1, by
  have : cfg0.N = 544 := N_0
  omega⟩

theorem coord0 (t : Fin cfg0.N) : (grid0.coords t 0).val = t.val / 68 % 8 := Pipeline.Grid.coords_val t 0 (by decide) rfl
theorem coord1 (t : Fin cfg0.N) : (grid0.coords t 1).val = t.val / 17 % 4 := Pipeline.Grid.coords_val t 1 (by decide) rfl
theorem coord2 (t : Fin cfg0.N) : (grid0.coords t 2).val = t.val % 17 := by
  have h : (grid0.coords t 2).val = t.val / 1 % 17 := Pipeline.Grid.coords_val t 2 (by decide) rfl
  rwa [Nat.div_one] at h

theorem e0 : ∀ t : Fin cfg0.N, win0_0.index t = ![t.val / 68, min (t.val % 17) 15, t.val / 17 % 4] :=
  (by decide +kernel : ∀ t : Fin grid0.N, _)
theorem e1 : ∀ t : Fin cfg0.N, win0_1.index t = ![t.val / 68, 0, t.val / 17 % 4] :=
  (by decide +kernel : ∀ t : Fin grid0.N, _)
theorem e2 : ∀ t : Fin cfg0.N, win0_2.index t = ![t.val / 68, 0, t.val / 17 % 4] :=
  (by decide +kernel : ∀ t : Fin grid0.N, _)
theorem e3 : ∀ t : Fin cfg0.N, win0_3.index t = ![t.val / 68, 0, t.val / 17 % 4] :=
  (by decide +kernel : ∀ t : Fin grid0.N, _)
theorem e4 : ∀ t : Fin cfg0.N, win0_4.index t = ![t.val / 68, 0, t.val / 17 % 4] :=
  (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 68, t.val % 17 - 1, t.val / 17 % 4] :=
  (by decide +kernel : ∀ t : Fin grid0.N, _)

/-- The whole result, from the tiles the points finish. -/
def result (c : Dev nD) : Vec F S8x4096x512 .bf16 := fun i =>
  outAt m c (ptOf (i 0) ⟨(i 2).val / 128, by have := (i 2).isLt; simp [S8x4096x512] at this; omega⟩ (i 1)) (ix3 0 ⟨(i 1).val % 256, Nat.mod_lt _ (by norm_num)⟩ ⟨(i 2).val % 128, Nat.mod_lt _ (by norm_num)⟩)

/-- The result array holds, at every index, what its point's tile holds. -/
theorem arrAt_out (c : Dev nD) : (dats m 0 c).arrAt 10 cfg0.N = result m c := by
  refine (dats m 0 c).arrAt_eq_of_covers 10 _ (by decide +kernel) fun t hf y => ?_
  blk_simp
  rw [after10]
  rw [flushAt] at hf
  have hm : t.val % 17 ≠ 0 := of_decide_eq_true hf
  have hN : t.val < 544 := lt_of_lt_of_eq t.isLt N_0
  have v0 : (((win0_10.blk t).view.emb y) 0).val = t.val / 68 * 1 + (y 0).val :=
    (Window.rect_emb_val win0_10 t y 0 rfl).trans (by rw [e10]; rfl)
  have v1 : (((win0_10.blk t).view.emb y) 1).val = (t.val % 17 - 1) * 256 + (y 1).val :=
    (Window.rect_emb_val win0_10 t y 1 rfl).trans (by rw [e10]; rfl)
  have v2 : (((win0_10.blk t).view.emb y) 2).val = t.val / 17 % 4 * 128 + (y 2).val :=
    (Window.rect_emb_val win0_10 t y 2 rfl).trans (by rw [e10]; rfl)
  have y0 : (y 0).val < 1 := (y 0).isLt
  have y1 : (y 1).val < 256 := (y 1).isLt
  have y2 : (y 2).val < 128 := (y 2).isLt
  have key : ∀ (u : Fin cfg0.N) (z : S1x256x128.Idx), u = t → z = y → outAt m c t y = outAt m c u z := fun u z hu hz => by rw [hu, hz]
  refine key _ _ (Fin.ext ?_) (funext fun a => Fin.ext ?_)
  · show (((win0_10.blk t).view.emb y) 0).val * 68 + (((win0_10.blk t).view.emb y) 2).val / 128 * 17 + (((win0_10.blk t).view.emb y) 1).val / 256 + 1 = t.val
    rw [v0, v1, v2]; omega
  · fin_cases a
    · show 0 = (y 0).val
      omega
    · show (((win0_10.blk t).view.emb y) 1).val % 256 = (y 1).val
      rw [v1]; omega
    · show (((win0_10.blk t).view.emb y) 2).val % 128 = (y 2).val
      rw [v2]; omega

variable (c : Dev nD) (t : Fin cfg0.N)

/-! ## The blocks a point reads -/

theorem blk0 (r : Fin 256) (l : Fin 128) (B : Fin 8) (S : Fin 4096) (D : Fin 512) (hB : B.val = t.val / 68)
    (hS : S.val = min (t.val % 17) 15 * 256 + r.val) (hD : D.val = t.val / 17 % 4 * 128 + l.val) :
    (insAt m c t).x0 (ix3 0 r l) = m ((c : Thread nD τ).loc main_arg0) (ix3 B S D) := by
  show iblk m c 0 t (ix3 0 r l) = _
  blk_simp [iblk, V_main_arg0]
  blk_ext [e0 t]

theorem blk1 (r : Fin 256) (l : Fin 128) (B : Fin 8) (D : Fin 512) (hB : B.val = t.val / 68)
    (hD : D.val = t.val / 17 % 4 * 128 + l.val) :
    (insAt m c t).x1 (ix3 0 r l) = m ((c : Thread nD τ).loc main_arg1) (ix3 B r D) := by
  show iblk m c 1 t (ix3 0 r l) = _
  blk_simp [iblk, V_main_arg1]
  blk_ext [e1 t]

theorem blk2 (r : Fin 4096) (l : Fin 128) (B : Fin 8) (D : Fin 512) (hB : B.val = t.val / 68)
    (hD : D.val = t.val / 17 % 4 * 128 + l.val) :
    (insAt m c t).x2 (ix3 0 r l) = m ((c : Thread nD τ).loc main_arg2) (ix3 B r D) := by
  show iblk m c 2 t (ix3 0 r l) = _
  blk_simp [iblk, V_main_arg2]
  blk_ext [e2 t]

theorem blk3 (r : Fin 256) (l : Fin 128) (B : Fin 8) (D : Fin 512) (hB : B.val = t.val / 68)
    (hD : D.val = t.val / 17 % 4 * 128 + l.val) :
    (insAt m c t).x3 (ix3 0 r l) = m ((c : Thread nD τ).loc main_arg3) (ix3 B r D) := by
  show iblk m c 3 t (ix3 0 r l) = _
  blk_simp [iblk, V_main_arg3]
  blk_ext [e3 t]

theorem blk4 (r : Fin 4096) (l : Fin 128) (B : Fin 8) (D : Fin 512) (hB : B.val = t.val / 68)
    (hD : D.val = t.val / 17 % 4 * 128 + l.val) :
    (insAt m c t).x4 (ix3 0 r l) = m ((c : Thread nD τ).loc main_arg4) (ix3 B r D) := by
  show iblk m c 4 t (ix3 0 r l) = _
  blk_simp [iblk, V_main_arg4]
  blk_ext [e4 t]

theorem blk5 (l : Fin 64) : (insAt m c t).x5 (ix2 0 l) = m ((c : Thread nD τ).loc main_arg5) (ix2 0 l) := by
  show iblk m c 5 t (ix2 0 l) = _
  blk_simp [iblk]
  have he : (win0_5.blk t).view.emb (ix2 0 l) = ix2 0 l := by
    blk_ext [e5 t]
  rw [he]
  entry_read
  pointwise

theorem blk6 (l : Fin 64) : (insAt m c t).x6 (ix2 0 l) = m ((c : Thread nD τ).loc main_arg6) (ix2 0 l) := by
  show iblk m c 6 t (ix2 0 l) = _
  blk_simp [iblk]
  have he : (win0_6.blk t).view.emb (ix2 0 l) = ix2 0 l := by
    blk_ext [e6 t]
  rw [he]
  entry_read
  pointwise

theorem blk7 (l : Fin 64) : (insAt m c t).x7 (ix2 0 l) = m ((c : Thread nD τ).loc main_arg7) (ix2 0 l) := by
  show iblk m c 7 t (ix2 0 l) = _
  blk_simp [iblk]
  have he : (win0_7.blk t).view.emb (ix2 0 l) = ix2 0 l := by
    blk_ext [e7 t]
  rw [he]
  entry_read
  pointwise

theorem blk8 (l : Fin 64) : (insAt m c t).x8 (ix2 0 l) = m ((c : Thread nD τ).loc main_arg8) (ix2 0 l) := by
  show iblk m c 8 t (ix2 0 l) = _
  blk_simp [iblk]
  have he : (win0_8.blk t).view.emb (ix2 0 l) = ix2 0 l := by
    blk_ext [e8 t]
  rw [he]
  entry_read
  pointwise

theorem blk9 (l : Fin 128) : (insAt m c t).x9 (ix2 0 l) = m ((c : Thread nD τ).loc main_arg9) (ix2 0 l) := by
  show iblk m c 9 t (ix2 0 l) = _
  blk_simp [iblk]
  have he : (win0_9.blk t).view.emb (ix2 0 l) = ix2 0 l := by
    blk_ext [e9 t]
  rw [he]
  entry_read
  pointwise

end Cert.KernelIdeal.Att

end
-- ==== Proof.Pre.lean ====
/- What the precondition says of the argument arrays: no entry is infinite, so every entry is a real number. -/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Real

open Idealize.ShloMosaic Cert.Pre_finite

/-- A value whose magnitude is below infinity is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | top => simp [Ideal.cmp] at h'
  | coe r => exact ⟨r, rfl⟩

/-- An array every one of whose entries is a real number. -/
def AllReal {s : Shape} (x : s.Idx → EReal) : Prop := ∀ i, ∃ r : ℝ, x i = (r : EReal)

/-- The conjunction of the comparisons of an array's entries with infinity says they are all real numbers. -/
theorem allReal_of_reduce {s : Shape} (dims : List (Fin s.rank)) (x : s.Idx → EReal) (hb : S_.BroadcastsInDim s (![] : Fin 0 → Fin s.rank))
    (hr : s.ReducesTo dims S_) (hn : 0 < S_.numel)
    (h : Host.reduce IntOp.andi (cmpf (F := Ideal) (φ := .f32) .olt (Host.absf (F := Ideal) (φ := .f32) x)
      (broadcastInDim s ![] hb (constant (F := Ideal) S_ .f32 0x7F800000#32))) (constantI S_ 1 1#1) hr hn = fun _ => 1#1) : AllReal x := by
  intro i
  haveI : Subsingleton S_.Idx := ⟨fun a b => funext fun k => k.elim0⟩
  have := Host.reduce_andi_all _ _ hr hn (fun k => k.elim0) (congrFun h _) i
  exact real_of_lt this

variable [Cert.Pre_finite.Facts]

/-- Under the precondition every entry of the nine arrays it reads is a real number. -/
theorem allReal (x0 : FVec Ideal S8x4096x512 .bf16) (x1 : FVec Ideal S8x256x512 .bf16) (x2 : FVec Ideal S8x4096x512 .bf16)
    (x3 : FVec Ideal S8x256x512 .bf16) (x4 : FVec Ideal S8x4096x512 .bf16) (x5 x6 x7 x8 : FVec Ideal S1x64 .f32) (x9 : FVec Ideal S1x128 .f32)
    (h : Cert.Pre_finite.fn (F := Ideal) x0 x1 x2 x3 x4 x5 x6 x7 x8 x9 = fun _ => 1#1) :
    AllReal x0 ∧ AllReal x1 ∧ AllReal x2 ∧ AllReal x3 ∧ AllReal x4 ∧ AllReal x5 ∧ AllReal x6 ∧ AllReal x7 ∧ AllReal x8 := by
  have split : ∀ a b : IVec S_ 1, (andi a b = fun _ => 1#1) → (a = fun _ => 1#1) ∧ b = fun _ => 1#1 := fun a b hab =>
    ⟨funext fun i => (IntOp.andi_eq_one.mp (congrFun hab i)).1, funext fun i => (IntOp.andi_eq_one.mp (congrFun hab i)).2⟩
  unfold Cert.Pre_finite.fn Cert.Pre_finite.fn_part1 Cert.Pre_finite.fn_part2 at h
  obtain ⟨h, h8⟩ := split _ _ h
  obtain ⟨h, h7⟩ := split _ _ h
  obtain ⟨h, h6⟩ := split _ _ h
  obtain ⟨h, h5⟩ := split _ _ h
  obtain ⟨h, h4⟩ := split _ _ h
  obtain ⟨h, h3⟩ := split _ _ h
  obtain ⟨h, h2⟩ := split _ _ h
  obtain ⟨h0, h1⟩ := split _ _ h
  exact ⟨allReal_of_reduce _ _ _ _ _ h0, allReal_of_reduce _ _ _ _ _ h1, allReal_of_reduce _ _ _ _ _ h2,
    allReal_of_reduce _ _ _ _ _ h3, allReal_of_reduce _ _ _ _ _ h4, allReal_of_reduce _ _ _ _ _ h5,
    allReal_of_reduce _ _ _ _ _ h6, allReal_of_reduce _ _ _ _ _ h7, allReal_of_reduce _ _ _ _ _ h8⟩

end Cert.Real

end
-- ==== Proof.Soft.lean ====
/- The real arithmetic of a weighted mean: a shift of the exponents, the base of the exponential and the place of the
   division do not change it. -/
module

public import Idealize.ShloMosaic.PureOps.Ideal
public import Idealize.ShloMosaic.PureOps.Ideal.Laws
public import Mathlib.Analysis.SpecialFunctions.Pow.Real

@[expose] public section

noncomputable section

namespace Cert.Soft

open Idealize.ShloMosaic

variable {ι : Type} [Fintype ι]

/-- A finite sum of reals is the same sum of extended reals. -/
theorem coe_sum (f : ι → ℝ) : ((∑ j, f j : ℝ) : EReal) = ∑ j, (f j : EReal) := by
  classical
  have h : ∀ s : Finset ι, ((∑ j ∈ s, f j : ℝ) : EReal) = ∑ j ∈ s, (f j : EReal) := fun s => by
    induction s using Finset.induction_on with
    | empty => simp
    | insert a s ha ih => rw [Finset.sum_insert ha, Finset.sum_insert ha, EReal.coe_add, ih]
  exact h Finset.univ

/-- The mean of `v` weighted by the exponentials of `s`. -/
def avg (s v : ι → ℝ) : ℝ := (∑ j, Real.exp (s j) * v j) / ∑ j, Real.exp (s j)

/-- The sum of exponentials is positive. -/
theorem sum_exp_pos [Nonempty ι] (s : ι → ℝ) : 0 < ∑ j, Real.exp (s j) :=
  Finset.sum_pos (fun j _ => Real.exp_pos _) Finset.univ_nonempty

/-- A power of two whose exponent is scaled by `(log 2)⁻¹` is a natural exponential, times what the shift leaves. -/
theorem exp2_shift (s m : ℝ) :
    Ideal.exp2 (((s * (Real.log 2)⁻¹ : ℝ) : EReal) - (m : EReal)) = ((Real.exp (-(Real.log 2 * m)) * Real.exp s : ℝ) : EReal) := by
  have h2 : Real.log 2 ≠ 0 := (Real.log_pos one_lt_two).ne'
  rw [← EReal.coe_sub, Ideal.exp2_coe, show ∀ x : ℝ, Real.rpow 2 x = (2 : ℝ) ^ x from fun _ => rfl, Real.rpow_def_of_pos two_pos, ← Real.exp_add]
  congr 2
  field_simp
  ring

/-- The kernel's weighted sum. -/
theorem sum_exp2 (s v : ι → ℝ) (m : ℝ) :
    ∑ j, Ideal.exp2 (((s j * (Real.log 2)⁻¹ : ℝ) : EReal) - (m : EReal)) * (v j : EReal)
      = ((Real.exp (-(Real.log 2 * m)) * ∑ j, Real.exp (s j) * v j : ℝ) : EReal) := by
  rw [Finset.mul_sum, coe_sum]
  refine Finset.sum_congr rfl fun j _ => ?_
  rw [exp2_shift, ← EReal.coe_mul, mul_assoc]

/-- The quotient of two reals, the divisor not zero. -/
theorem div_coe_coe (x y : ℝ) (h : y ≠ 0) : Ideal.div (x : EReal) (y : EReal) = ((x / y : ℝ) : EReal) := by
  rw [Ideal.div_coe h, ← EReal.coe_mul, mul_one_div]

/-- The kernel's first normalised attention: the weighted sum over the sum of weights. -/
theorem mean_exp2 [Nonempty ι] (s v : ι → ℝ) (m : ℝ) :
    Ideal.div (∑ j, Ideal.exp2 (((s j * (Real.log 2)⁻¹ : ℝ) : EReal) - (m : EReal)) * (v j : EReal))
        (∑ j, Ideal.exp2 (((s j * (Real.log 2)⁻¹ : ℝ) : EReal) - (m : EReal)) * ((1 : ℝ) : EReal))
      = (avg s v : EReal) := by
  have hp := sum_exp_pos s
  have he := (Real.exp_pos (-(Real.log 2 * m))).ne'
  rw [sum_exp2, sum_exp2 s fun _ => 1]
  simp only [mul_one]
  rw [div_coe_coe _ _ (mul_ne_zero he hp.ne'), mul_div_mul_left _ _ he]
  rfl

/-- The kernel's second normalised attention: the weighted sum times the weight over the sum of weights. -/
theorem scaled_exp2 [Nonempty ι] (s v : ι → ℝ) (m l : ℝ) :
    (∑ j, Ideal.exp2 (((s j * (Real.log 2)⁻¹ : ℝ) : EReal) - (m : EReal)) * (v j : EReal))
        * Ideal.div (l : EReal) (∑ j, Ideal.exp2 (((s j * (Real.log 2)⁻¹ : ℝ) : EReal) - (m : EReal)) * ((1 : ℝ) : EReal))
      = ((l * avg s v : ℝ) : EReal) := by
  have hp := sum_exp_pos s
  have he := (Real.exp_pos (-(Real.log 2 * m))).ne'
  rw [sum_exp2, sum_exp2 s fun _ => 1]
  simp only [mul_one]
  rw [div_coe_coe _ _ (mul_ne_zero he hp.ne'), ← EReal.coe_mul]
  unfold avg
  congr 1
  have := hp.ne'
  field_simp

/-- One weight of the reference's softmax. -/
theorem soft_coe [Nonempty ι] (s : ι → ℝ) (M : ℝ) (j : ι) :
    Ideal.div (Ideal.exp ((s j : EReal) - (M : EReal))) (∑ i, Ideal.exp ((s i : EReal) - (M : EReal)))
      = ((Real.exp (s j) / ∑ i, Real.exp (s i) : ℝ) : EReal) := by
  have hp := sum_exp_pos s
  have he := (Real.exp_pos (-M)).ne'
  have h1 : ∀ i, Ideal.exp ((s i : EReal) - (M : EReal)) = ((Real.exp (-M) * Real.exp (s i) : ℝ) : EReal) := fun i => by
    rw [← EReal.coe_sub, Ideal.exp_coe, ← Real.exp_add]; congr 2; ring
  simp only [h1]
  rw [← coe_sum, ← Finset.mul_sum, div_coe_coe _ _ (mul_ne_zero he hp.ne'), mul_div_mul_left _ _ he]

/-- The reference's attention: values times the difference of two softmaxes. -/
theorem ref_mean [Nonempty ι] (s s' v : ι → ℝ) (M M' l : ℝ) :
    ∑ j, (v j : EReal) * (Ideal.div (Ideal.exp ((s j : EReal) - (M : EReal))) (∑ i, Ideal.exp ((s i : EReal) - (M : EReal)))
        - (l : EReal) * Ideal.div (Ideal.exp ((s' j : EReal) - (M' : EReal))) (∑ i, Ideal.exp ((s' i : EReal) - (M' : EReal))))
      = (avg s v : EReal) - ((l * avg s' v : ℝ) : EReal) := by
  simp only [soft_coe]
  simp only [← EReal.coe_mul, ← EReal.coe_sub]
  rw [← coe_sum]
  congr 1
  unfold avg
  simp only [mul_sub, Finset.sum_sub_distrib]
  congr 1
  · rw [Finset.sum_div]; exact Finset.sum_congr rfl fun j _ => by ring
  · rw [Finset.sum_div, Finset.mul_sum]; exact Finset.sum_congr rfl fun j _ => by ring

/-- The running maximum of reals, from minus infinity and over something, is a real. -/
theorem fold_max_coe {κ : Type} (t : Finset κ) (ht : t.Nonempty) (f : κ → ℝ) : ∃ M : ℝ, t.fold max ⊥ (fun k => (f k : EReal)) = (M : EReal) := by
  classical
  induction t using Finset.induction_on with
  | empty => exact absurd ht Finset.not_nonempty_empty
  | insert a t ha ih =>
    rw [Finset.fold_insert ha]
    rcases t.eq_empty_or_nonempty with rfl | h
    · exact ⟨f a, by simp⟩
    · obtain ⟨M, hM⟩ := ih h
      exact ⟨max (f a) M, by rw [hM]; exact (EReal.coe_strictMono.monotone.map_max).symm⟩

end Cert.Soft

end
-- ==== Proof.Eval.lean ====
/- What a tile of attention is at the ideal numbers, read at an index: the laid-out keys and values, the scores, the
   weighted sums, and the finishing of a tile. -/
module

public import proofs.«01_k».proof.Proof.Clean
public import proofs.«01_k».proof.Proof.Soft
public import Idealize.ShloMosaic.Lib.Pointwise
public import Idealize.ShloMosaic.Lib.IdealHost

@[expose] public section

set_option maxRecDepth 16384

noncomputable section

namespace Cert.KernelIdeal.Att

open Idealize.ShloMosaic Idealize.ShloMosaic.TcCoe Idealize.ShloMosaic.Tactic
open Cert.KernelIdeal.Gen
open scoped BigOperators

/-! ## The bit patterns the body names -/

/-- The bit pattern of one is one. -/
theorem bits_one : Ideal.ofBits .bf16 0x3F80#16 = ((1 : ℝ) : EReal) := by
  rw [Ideal.ofBits_one_bf16]; norm_cast

/-- The bit pattern of minus infinity is the least extended real. -/
theorem bits_neg_inf : Ideal.ofBits .f32 0xFF800000#32 = (⊥ : EReal) := by
  simp [Ideal.ofBits, Ideal.ieee]

/-! ## The laid-out keys and values -/

/-- Row `j` of the context and then of the sequence. -/
def cat (a : Vec Ideal S1x256x128 .bf16) (b : Vec Ideal S1x4096x128 .bf16) (j : Fin 4352) (l : Fin 128) : EReal :=
  if h : j.val < 256 then a (ix3 0 ⟨j.val, h⟩ l) else b (ix3 0 ⟨j.val - 256, by omega⟩ l)

theorem pay417_apply (v : Vec Ideal S1x256x128 .bf16) (l : Fin 128) (j : Fin 256) : k0_pay417 (F := Ideal) v (ix2 l j) = v (ix3 0 j l) := by
  pointwise [k0_pay417]
theorem pay418_apply (v : Vec Ideal S1x4096x128 .bf16) (l : Fin 128) (j : Fin 4096) : k0_pay418 (F := Ideal) v (ix2 l j) = v (ix3 0 j l) := by
  pointwise [k0_pay418]
theorem pay419_apply (v : Vec Ideal S1x256x128 .bf16) (j : Fin 256) (l : Fin 128) : k0_pay419 (F := Ideal) v (ix2 j l) = v (ix3 0 j l) := by
  pointwise [k0_pay419]
theorem pay420_apply (v : Vec Ideal S1x4096x128 .bf16) (j : Fin 4096) (l : Fin 128) : k0_pay420 (F := Ideal) v (ix2 j l) = v (ix3 0 j l) := by
  pointwise [k0_pay420]
theorem pay421_apply (j : Fin 4352) (l : Fin 128) : k0_pay421 (F := Ideal) (ix2 j l) = ((1 : ℝ) : EReal) := by
  rw [← bits_one]
  pointwise [k0_pay421]

/-- The transposed keys hold key `j` in column `j`. -/
theorem ktOf_apply (x : Ins Ideal) (l : Fin 128) (j : Fin 4352) : ktOf x (ix2 l j) = cat x.x1 x.x2 j l := by
  have hc := kt_cover x.x1 x.x2 (ix2 l j)
  unfold ktOf
  unfold ktList at hc ⊢
  canon_tiles y h using hc
  · idx_vars y
    rw [pay418_apply]
    unfold cat
    rw [dif_neg (by omega)]
    congr 1
    congr 1 <;> first | rfl | exact Fin.ext (by first | omega | (show _ = _; dsimp only; omega))
  · idx_vars y
    rw [pay417_apply]
    unfold cat
    rw [dif_pos (by omega)]
    congr 1
    congr 1 <;> first | rfl | exact Fin.ext (by first | omega | (show _ = _; dsimp only; omega))

/-- The first lanes of row `j` of the widened values hold value `j`. -/
theorem v1Of_lo (x : Ins Ideal) (j : Fin 4352) (d : Fin 128) : v1Of x (ix2 j ⟨d.val, by omega⟩) = cat x.x3 x.x4 j d := by
  have hc := v1_cover x.x3 x.x4 (ix2 j ⟨d.val, by omega⟩)
  unfold v1Of
  unfold v1List at hc ⊢
  canon_tiles y h using hc
  · exfalso; idx_vars y; omega
  · idx_vars y
    rw [pay420_apply]
    unfold cat
    rw [dif_neg (by omega)]
    congr 1
    congr 1 <;> first | rfl | exact Fin.ext (by first | omega | (show _ = _; dsimp only; omega))
  · idx_vars y
    rw [pay419_apply]
    unfold cat
    rw [dif_pos (by omega)]
    congr 1
    congr 1 <;> first | rfl | exact Fin.ext (by first | omega | (show _ = _; dsimp only; omega))

/-- The last lanes of the widened values hold ones. -/
theorem v1Of_hi (x : Ins Ideal) (j : Fin 4352) (d : Fin 128) : v1Of x (ix2 j ⟨128 + d.val, by omega⟩) = ((1 : ℝ) : EReal) := by
  have hc := v1_cover x.x3 x.x4 (ix2 j ⟨128 + d.val, by omega⟩)
  unfold v1Of
  unfold v1List at hc ⊢
  canon_tiles y h using hc
  · idx_vars y
    rw [pay421_apply]
  · exfalso; idx_vars y; omega
  · exfalso; idx_vars y; omega

/-! ## The scores -/

/-- A score is the product of a query row with a key column. -/
theorem scores_apply (Q : FVec Ideal S256x128 .bf16) (k : Vec Ideal S128x256 .bf16) (r : Fin 256) (j : Fin 256) :
    scores (F := Ideal) Q k (ix2 r j) = ∑ l : Fin 128, Q (ix2 r l) * k (ix2 l j) := by
  pointwise [scores]

/-- A chunk of the transposed keys, at an index. -/
theorem ld_k (kt : Vec Ideal S128x4352 .bf16) (n : Fin 17) (l : Fin 128) (j : Fin 256) (J : Fin 4352) (h : J.val = 256 * n.val + j.val) :
    View.ld kt (kBox n) (ix2 l j) = kt (ix2 l J) :=
  View.ld_unit_apply_of _ _ _ _ _ _ (fun a => by fin_cases a <;> simp <;> omega)
/-- A chunk of the scores, at an index. -/
theorem ld_s (s : Vec Ideal S256x4352 .f32) (n : Fin 17) (r : Fin 256) (j : Fin 256) (J : Fin 4352) (h : J.val = 256 * n.val + j.val) :
    View.ld s (sBox n) (ix2 r j) = s (ix2 r J) :=
  View.ld_unit_apply_of _ _ _ _ _ _ (fun a => by fin_cases a <;> simp <;> omega)
/-- A chunk of the widened values, at an index. -/
theorem ld_v (v : Vec Ideal S4352x256 .bf16) (n : Fin 17) (j : Fin 256) (d : Fin 256) (J : Fin 4352) (h : J.val = 256 * n.val + j.val) :
    View.ld v (vBox n) (ix2 j d) = v (ix2 J d) :=
  View.ld_unit_apply_of _ _ _ _ _ _ (fun a => by fin_cases a <;> simp <;> omega)

/-- The scores buffer holds the product of query row `r` with key `j`. -/
theorem sOf_apply (Q : FVec Ideal S256x128 .bf16) (kt : Vec Ideal S128x4352 .bf16) (r : Fin 256) (j : Fin 4352) :
    sOf (F := Ideal) Q kt (ix2 r j) = ∑ l : Fin 128, Q (ix2 r l) * kt (ix2 l j) := by
  unfold sOf scoreList
  refine View.canon_ofFn_unit_eq_of_forall (Val := Elt Ideal) (S := S256x4352) (e := .f32) (fun n : Fin 17 => ![0, 256 * n.rev.val]) S256x256.size _ _ _ _ ?_ ?_
  · refine ⟨(⟨j.val / 256, by omega⟩ : Fin 17).rev, fun a => ?_⟩
    fin_cases a
    · simp [S256x256]
    · simp only [Fin.rev_rev]; simp [S256x256]; omega
  · intro n
    tile_intro y h
    idx_vars y
    have e : ∀ w : FVec Ideal S256x256 .f32, shapeCast S256x256 w shapeCasts_S256x256_S256x256 (ix2 y0 y1) = w (ix2 y0 y1) := fun w => by pointwise
    have ha : y0 = r := Fin.ext (by omega)
    subst ha
    refine (e _).trans ((scores_apply _ _ _ _).trans (Finset.sum_congr rfl fun l _ => ?_))
    rw [ld_k kt n.rev l y1 j h1]

/-! ## The row maxima -/

theorem maxStep_apply (m : FVec Ideal S256x1 .f32) (s : FVec Ideal S256x256 .f32) (r : Fin 256) :
    maxStep (F := Ideal) m s (ix2 r 0) = max (m (ix2 r 0)) (Finset.univ.fold max ⊥ fun k : Fin 256 => s (ix2 r k)) := by
  have := bits_neg_inf
  pointwise [maxStep]
  rw [bits_neg_inf]

/-- The row maxima of real scores are real, the running maximum being real. -/
theorem fold_real (K : Fin 17 → FVec Ideal S256x256 .f32) (r : Fin 256) (hK : ∀ n j, ∃ s : ℝ, K n (ix2 r j) = (s : EReal)) :
    ∀ (L : List (Fin 17)) (m : FVec Ideal S256x1 .f32), (∃ M : ℝ, m (ix2 r 0) = (M : EReal)) →
      ∃ M : ℝ, (L.foldl (fun m c => maxStep (F := Ideal) m (K c)) m) (ix2 r 0) = (M : EReal)
  | [], _, h => h
  | c :: L, m, ⟨M, hM⟩ => by
    refine fold_real K r hK L _ ?_
    choose s hs using hK c
    obtain ⟨M', hM'⟩ := Cert.Soft.fold_max_coe (Finset.univ : Finset (Fin 256)) Finset.univ_nonempty s
    refine ⟨max M M', ?_⟩
    show maxStep (F := Ideal) m (K c) (ix2 r 0) = _
    rw [maxStep_apply, hM]
    simp only [hs, hM']
    exact (EReal.coe_strictMono.monotone.map_max).symm

theorem maxStep_first (s : FVec Ideal S256x256 .f32) (r : Fin 256) (h : ∀ j, ∃ x : ℝ, s (ix2 r j) = (x : EReal)) :
    ∃ M : ℝ, maxStep (F := Ideal) k0_pay6 s (ix2 r 0) = (M : EReal) := by
  choose x hx using h
  obtain ⟨M, hM⟩ := Cert.Soft.fold_max_coe (Finset.univ : Finset (Fin 256)) Finset.univ_nonempty x
  refine ⟨M, ?_⟩
  rw [maxStep_apply]
  simp only [hx, hM]
  have e : k0_pay6 (F := Ideal) (ix2 r 0) = (⊥ : EReal) := by
    rw [← bits_neg_inf]; pointwise [k0_pay6]
  rw [e]; exact max_eq_right bot_le

/-- The first column of the row maxima of real scores is real. -/
theorem mOf_real (Q : FVec Ideal S256x128 .bf16) (kt : Vec Ideal S128x4352 .bf16) (r : Fin 256)
    (h : ∀ j, ∃ x : ℝ, sOf (F := Ideal) Q kt (ix2 r j) = (x : EReal)) : ∃ M : ℝ, col (F := Ideal) (mOf Q kt) (ix2 r 0) = (M : EReal) := by
  have hK : ∀ n j, ∃ s : ℝ, scores (F := Ideal) Q (View.ld kt (kBox n)) (ix2 r j) = (s : EReal) := fun n j => by
    obtain ⟨x, hx⟩ := h ⟨256 * n.val + j.val, by omega⟩
    refine ⟨x, ?_⟩
    rw [← hx, sOf_apply, scores_apply]
    refine Finset.sum_congr rfl fun l _ => ?_
    rw [ld_k kt n l j ⟨256 * n.val + j.val, by omega⟩ rfl]
  have e : col (F := Ideal) (mOf Q kt) (ix2 r 0) = rowMax Q (fun n => View.ld kt (kBox n)) (ix2 r 0) := by
    have e1 : col (F := Ideal) (mOf Q kt) (ix2 r 0) = mOf Q kt (ix2 r 0) :=
      View.ld_unit_apply_of _ _ _ _ _ _ (fun a => by fin_cases a <;> simp)
    rw [e1]
    pointwise [mOf, wide]
  rw [e]
  unfold rowMax chunks
  rw [List.foldl_cons]
  exact fold_real (fun n => scores (F := Ideal) Q (View.ld kt (kBox n))) r hK [1, 2, 3, 4, 5, 6, 7, 8, 9, 10, 11, 12, 13, 14, 15, 16] _ (maxStep_first _ r (hK 0))

/-! ## The weighted sums -/

theorem attStep_apply (m : Vec Ideal S256x1 .f32) (o : FVec Ideal S256x256 .f32) (s : Vec Ideal S256x256 .f32) (v : Vec Ideal S256x256 .bf16) (r d : Fin 256) :
    attStep (F := Ideal) m o s v (ix2 r d) = o (ix2 r d) + ∑ j : Fin 256, Ideal.exp2 (s (ix2 r j) - m (ix2 r 0)) * v (ix2 j d) := by
  pointwise [attStep]
  rfl

theorem fold_att (m : Vec Ideal S256x1 .f32) (s : Fin 17 → Vec Ideal S256x256 .f32) (v : Fin 17 → Vec Ideal S256x256 .bf16) (r d : Fin 256) :
    ∀ (L : List (Fin 17)) (o : FVec Ideal S256x256 .f32),
      (L.foldl (fun o c => attStep (F := Ideal) m o (s c) (v c)) o) (ix2 r d)
        = o (ix2 r d) + (L.map fun c => ∑ j : Fin 256, Ideal.exp2 (s c (ix2 r j) - m (ix2 r 0)) * v c (ix2 j d)).sum
  | [], o => by simp
  | c :: L, o => by
    rw [List.foldl_cons, fold_att m s v r d L, attStep_apply, List.map_cons, List.sum_cons, add_assoc]

/-- The weighted sum over every key. -/
theorem attOf_apply (s : Vec Ideal S256x4352 .f32) (m : Vec Ideal S256x128 .f32) (v1 : Vec Ideal S4352x256 .bf16) (r d : Fin 256) :
    attOf (F := Ideal) s m v1 (ix2 r d) = ∑ j : Fin 4352, Ideal.exp2 (s (ix2 r j) - col m (ix2 r 0)) * v1 (ix2 j d) := by
  have e0 : k0_pay246 (F := Ideal) (ix2 r d) = (0 : EReal) := by pointwise [k0_pay246]
  have ec : chunks = List.finRange 17 := by decide
  unfold attOf attend
  rw [fold_att, e0, zero_add, ec, ← Fin.sum_univ_def]
  refine Eq.trans ?_ (Fin.sum_univ_tiles 17 256 (N := 4352) rfl fun j => Ideal.exp2 (s (ix2 r j) - col m (ix2 r 0)) * v1 (ix2 j d)).symm
  refine Finset.sum_congr rfl fun n _ => Finset.sum_congr rfl fun j _ => ?_
  have h : n.val * 256 + j.val = 256 * n.val + j.val := by omega
  have e1 := ld_s s n r j ⟨n.val * 256 + j.val, by omega⟩ h
  have e2 := ld_v v1 n j d ⟨n.val * 256 + j.val, by omega⟩ h
  exact congrArg₂ (fun a b : EReal => Ideal.exp2 (a - col m (ix2 r 0)) * b) e1 e2

/-! ## The finishing of a tile -/

theorem diff_apply (lam : FVec Ideal S1x1 .f32) (o1 o2 : FVec Ideal S256x256 .f32) (r : Fin 256) (d : Fin 128) :
    diff (F := Ideal) lam o1 o2 (ix2 r d)
      = Ideal.div (o1 (ix2 r ⟨d.val, by omega⟩)) (o1 (ix2 r ⟨128 + d.val, by omega⟩))
        - o2 (ix2 r ⟨d.val, by omega⟩) * Ideal.div (lam (ix2 0 0)) (o2 (ix2 r ⟨128 + d.val, by omega⟩)) := by
  pointwise [diff]

/-- A row `o` of differences normalised by its root mean square, times the gain, times eight tenths. -/
def norm (o : Fin 128 → EReal) (g : EReal) (d : Fin 128) : EReal :=
  o d * Ideal.rsqrt (Ideal.div (∑ l : Fin 128, o l * o l) (Ideal.ofBits .f32 0x43000000#32) + Ideal.ofBits .f32 0x358637BD#32) * g
    * Ideal.ofBits .f32 0x3F4CCCCD#32

theorem finish_apply (o : FVec Ideal S256x128 .f32) (g : Vec Ideal S1x128 .f32) (r : Fin 256) (d : Fin 128) :
    finish (F := Ideal) o g (ix3 0 r d) = norm (fun l => o (ix2 r l)) (g (ix2 0 d)) d := by
  pointwise [finish, k0_pay1, rstd, norm]

/-- The weight of the second attention. -/
def lam (a b a' b' : Fin 64 → EReal) : EReal :=
  Ideal.exp (∑ l, a l * b l) - Ideal.exp (∑ l, a' l * b' l) + Ideal.ofBits .f32 0x3E4CCCCD#32

theorem pay416_apply (a b a' b' : Vec Ideal S1x64 .f32) :
    k0_pay416 (F := Ideal) a b a' b' (ix2 0 0)
      = lam (fun l => a (ix2 0 l)) (fun l => b (ix2 0 l)) (fun l => a' (ix2 0 l)) (fun l => b' (ix2 0 l)) := by
  pointwise [k0_pay416, lam]

/-! ## The masked queries -/

theorem pay3_apply (q : Vec Ideal S1x256x128 .bf16) (r : Fin 256) (l : Fin 128) :
    k0_pay3 (F := Ideal) q (ix2 r l) = q (ix3 0 r l) := by
  pointwise [k0_pay3]

theorem pay4_apply (q : Vec Ideal S1x256x128 .bf16) (r : Fin 256) (l : Fin 128) :
    k0_pay4 (F := Ideal) q (ix2 r l) = if l.val < 64 then k0_pay3 (F := Ideal) q (ix2 r l) else 0 := by
  have h : ∀ l : Fin 128, IntOp.cmpi CmpIPredicate.slt (BitVec.ofNat 32 l.val) 64#32 = if l.val < 64 then 1#1 else 0#1 := by decide +kernel
  pointwise [k0_pay4]
  rw [h]
  split <;> rfl

theorem pay5_apply (q : Vec Ideal S1x256x128 .bf16) (r : Fin 256) (l : Fin 128) :
    k0_pay5 (F := Ideal) q (ix2 r l) = if 64 ≤ l.val then k0_pay3 (F := Ideal) q (ix2 r l) else 0 := by
  have h : ∀ l : Fin 128, IntOp.cmpi CmpIPredicate.sge (BitVec.ofNat 32 l.val) 64#32 = if 64 ≤ l.val then 1#1 else 0#1 := by decide +kernel
  pointwise [k0_pay5]
  rw [h]
  split <;> rfl

end Cert.KernelIdeal.Att

end
-- ==== Proof.Tile.lean ====
/- A tile of attention at real queries, keys and values: the normalised difference of two weighted means. -/
module

public import proofs.«01_k».proof.Proof.Eval

@[expose] public section

set_option maxRecDepth 16384

noncomputable section

namespace Cert.KernelIdeal.Att

open Idealize.ShloMosaic Idealize.ShloMosaic.TcCoe Idealize.ShloMosaic.Tactic
open Cert.KernelIdeal.Gen
open scoped BigOperators

/-- The score of a query with a key over one half of the lanes. -/
def half (o : Fin 2) (q k : Fin 128 → ℝ) : ℝ :=
  (∑ l : Fin 64, q ⟨64 * o.val + l.val, by omega⟩ * k ⟨64 * o.val + l.val, by omega⟩) * Real.log 2

variable (q : Vec Ideal S1x256x128 .bf16) (z : Ins Ideal) (r : Fin 256) (qr : Fin 128 → ℝ) (kr vr : Fin 4352 → Fin 128 → ℝ)

/-- The scores of the first half. -/
theorem s1_real (hq : ∀ l, q (ix3 0 r l) = (qr l : EReal)) (hk : ∀ j l, cat z.x1 z.x2 j l = (kr j l : EReal)) (j : Fin 4352) :
    sOf (F := Ideal) (k0_pay4 q) (ktOf z) (ix2 r j) = ((half 0 qr (kr j) * (Real.log 2)⁻¹ : ℝ) : EReal) := by
  rw [sOf_apply, Fin.sum_univ_two_halves 64 64 (by norm_num)]
  have e1 : ∀ l : Fin 64, k0_pay4 (F := Ideal) q (ix2 r ⟨l.val, by omega⟩) * ktOf z (ix2 ⟨l.val, by omega⟩ j)
      = ((qr ⟨l.val, by omega⟩ * kr j ⟨l.val, by omega⟩ : ℝ) : EReal) := fun l => by
    rw [pay4_apply, if_pos l.isLt, pay3_apply, hq, ktOf_apply, hk, ← EReal.coe_mul]
  have e2 : ∀ l : Fin 64, k0_pay4 (F := Ideal) q (ix2 r ⟨64 + l.val, by omega⟩) * ktOf z (ix2 ⟨64 + l.val, by omega⟩ j) = (0 : EReal) := fun l => by
    rw [pay4_apply, if_neg (by simp), zero_mul]
  simp only [e1, e2, Finset.sum_const_zero, add_zero]
  rw [← Cert.Soft.coe_sum]
  congr 1
  unfold half
  rw [mul_assoc, mul_inv_cancel₀ (Real.log_pos (by norm_num)).ne', mul_one]
  refine Finset.sum_congr rfl fun l _ => ?_
  simp only [Fin.val_zero, mul_zero, zero_add]

/-- The scores of the second half. -/
theorem s2_real (hq : ∀ l, q (ix3 0 r l) = (qr l : EReal)) (hk : ∀ j l, cat z.x1 z.x2 j l = (kr j l : EReal)) (j : Fin 4352) :
    sOf (F := Ideal) (k0_pay5 q) (ktOf z) (ix2 r j) = ((half 1 qr (kr j) * (Real.log 2)⁻¹ : ℝ) : EReal) := by
  rw [sOf_apply, Fin.sum_univ_two_halves 64 64 (by norm_num)]
  have e1 : ∀ l : Fin 64, k0_pay5 (F := Ideal) q (ix2 r ⟨l.val, by omega⟩) * ktOf z (ix2 ⟨l.val, by omega⟩ j) = (0 : EReal) := fun l => by
    rw [pay5_apply, if_neg (by simp), zero_mul]
  have e2 : ∀ l : Fin 64, k0_pay5 (F := Ideal) q (ix2 r ⟨64 + l.val, by omega⟩) * ktOf z (ix2 ⟨64 + l.val, by omega⟩ j)
      = ((qr ⟨64 + l.val, by omega⟩ * kr j ⟨64 + l.val, by omega⟩ : ℝ) : EReal) := fun l => by
    rw [pay5_apply, if_pos (by simp), pay3_apply, hq, ktOf_apply, hk, ← EReal.coe_mul]
  simp only [e1, e2, Finset.sum_const_zero, zero_add]
  rw [← Cert.Soft.coe_sum]
  congr 1
  unfold half
  rw [mul_assoc, mul_inv_cancel₀ (Real.log_pos (by norm_num)).ne', mul_one]
  refine Finset.sum_congr rfl fun l _ => ?_
  simp only [Fin.val_one, mul_one]

/-- A tile's result at a row and a lane, its queries, keys, values and difference weight being real. -/
theorem outOf_real (x : Ins Ideal) (L : ℝ) (hq : ∀ l, q (ix3 0 r l) = (qr l : EReal)) (hk : ∀ j l, cat z.x1 z.x2 j l = (kr j l : EReal))
    (hv : ∀ j l, cat z.x3 z.x4 j l = (vr j l : EReal)) (hL : k0_pay416 (F := Ideal) x.x5 x.x6 x.x7 x.x8 (ix2 0 0) = (L : EReal)) (d : Fin 128) :
    outOf (F := Ideal) x (sOf (k0_pay4 q) (ktOf z)) (sOf (k0_pay5 q) (ktOf z)) (mOf (k0_pay4 q) (ktOf z)) (mOf (k0_pay5 q) (ktOf z)) (v1Of z) (ix3 0 r d)
      = norm (fun l => (Cert.Soft.avg (fun j => half 0 qr (kr j)) (fun j => vr j l) : EReal)
          - ((L * Cert.Soft.avg (fun j => half 1 qr (kr j)) (fun j => vr j l) : ℝ) : EReal)) (x.x9 (ix2 0 d)) d := by
  have h1 := s1_real q z r qr kr hq hk
  have h2 := s2_real q z r qr kr hq hk
  obtain ⟨M1, hM1⟩ := mOf_real (k0_pay4 q) (ktOf z) r fun j => ⟨_, h1 j⟩
  obtain ⟨M2, hM2⟩ := mOf_real (k0_pay5 q) (ktOf z) r fun j => ⟨_, h2 j⟩
  unfold outOf
  rw [finish_apply]
  refine congrArg (fun o => norm o (x.x9 (ix2 0 d)) d) (funext fun l => ?_)
  rw [diff_apply, attOf_apply, attOf_apply, attOf_apply, attOf_apply, hM1, hM2, hL]
  simp only [h1, h2, v1Of_lo, v1Of_hi, hv]
  rw [Cert.Soft.mean_exp2, Cert.Soft.scaled_exp2]

end Cert.KernelIdeal.Att

end
-- ==== Proof.Ref.lean ====
/- The reference's result, read at an index. -/
module

public import proofs.«01_k».proof.Proof.Gen.ReferenceIdeal.Read
public import proofs.«01_k».proof.Proof.Tile
public import Idealize.ShloMosaic.Lib.Pointwise

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen Cert.ReferenceIdeal.Read
open Cert.Soft (avg)
open Cert.KernelIdeal.Att (half norm lam)
open scoped BigOperators

/-! ## Rows of real arrays -/

/-- Lane `l` of head `h`. -/
abbrev lane (h : Fin 4) (l : Fin 128) : Fin 512 := ⟨h.val * 128 + l.val, by omega⟩

/-- Row `j` of the context and then of the sequence. -/
def rcat (a : S8x256x512.Idx → ℝ) (b : S8x4096x512.Idx → ℝ) (B : Fin 8) (j : Fin 4352) (D : Fin 512) : ℝ :=
  if h : j.val < 256 then a (ix3 B ⟨j.val, h⟩ D) else b (ix3 B ⟨j.val - 256, by omega⟩ D)

/-- The query of a row and head. -/
def qrow (Q : S8x4096x512.Idx → ℝ) (B : Fin 8) (s : Fin 4096) (h : Fin 4) (l : Fin 128) : ℝ := Q (ix3 B s (lane h l))

/-- The keys (or the values) of a head. -/
def krow (a : S8x256x512.Idx → ℝ) (b : S8x4096x512.Idx → ℝ) (B : Fin 8) (h : Fin 4) (j : Fin 4352) (l : Fin 128) : ℝ := rcat a b B j (lane h l)

/-- The difference of the two weighted means of the values. -/
def att (Q : S8x4096x512.Idx → ℝ) (K1 : S8x256x512.Idx → ℝ) (K2 : S8x4096x512.Idx → ℝ) (V1 : S8x256x512.Idx → ℝ) (V2 : S8x4096x512.Idx → ℝ)
    (L : ℝ) (B : Fin 8) (s : Fin 4096) (h : Fin 4) (d : Fin 128) : EReal :=
  ((avg (fun j => half 0 (qrow Q B s h) (krow K1 K2 B h j)) (fun j => krow V1 V2 B h j d) : ℝ) : EReal)
    - ((L * avg (fun j => half 1 (qrow Q B s h) (krow K1 K2 B h j)) (fun j => krow V1 V2 B h j d) : ℝ) : EReal)

theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee]
    rw [← EReal.coe_mul]
    norm_num
  rw [h2]
  show (if (2 : ℝ) ≤ 0 then (⊥ : EReal) else ((Real.log 2 : ℝ) : EReal)) = _
  rw [if_neg (by norm_num)]

/-! ## The parameter -/

theorem v21_apply (x5 x6 x7 x8 : FVec Ideal S1x64 .f32) (i : S_.Idx) :
    val_main_v21 (F := Ideal) x5 x6 x7 x8 i
      = lam (fun l => x5 (ix2 0 l)) (fun l => x6 (ix2 0 l)) (fun l => x7 (ix2 0 l)) (fun l => x8 (ix2 0 l)) := by
  pointwise [val_main_v21, val_main_v20, val_main_v19, val_main_v18, val_main_v17, val_main_v16, val_main_v15, val_main_v14, val_main_v13,
    val_main_v12, val_main_v11, val_main_v10, val_main_cst, val_main_cst_0, val_main_cst_1, lam]

/-! ## The concatenations -/

section
variable {x1 : FVec Ideal S8x256x512 .bf16} {x2 : FVec Ideal S8x4096x512 .bf16}
  {K1 : S8x256x512.Idx → ℝ} {K2 : S8x4096x512.Idx → ℝ}

theorem cat_at (y1 : FVec Ideal S8x256x512 .f32) (y2 : FVec Ideal S8x4096x512 .f32) (h1 : ∀ i, y1 i = (K1 i : EReal)) (h2 : ∀ i, y2 i = (K2 i : EReal)) (i : S8x4352x512.Idx) :
    concatenate S8x4352x512 1 [⟨S8x256x512, y1⟩, ⟨S8x4096x512, y2⟩] concatenates_S8x256x512_S8x4096x512_S8x4352x512_d1 i
      = (rcat K1 K2 (i 0) (i 1) (i 2) : EReal) := by
  unfold rcat
  by_cases h : (i 1).val < 256
  · rw [dif_pos h, ← h1]
    refine concatenate_pair_apply_left 1 y1 y2 _ i rfl _ fun b => ?_
    fin_cases b <;> rfl
  · rw [dif_neg h, ← h2]
    refine concatenate_pair_apply_right 1 y1 y2 _ i rfl rfl _ (fun b hb => ?_) ?_
    · fin_cases b
      · rfl
      · exact absurd rfl hb
      · rfl
    · show (i 1).val - 256 + 256 = (i 1).val
      omega

theorem v4_at (h1 : ∀ i, x1 i = (K1 i : EReal)) (h2 : ∀ i, x2 i = (K2 i : EReal)) (i : S8x4352x512.Idx) :
    val_main_v4 (F := Ideal) x1 x2 i = (rcat K1 K2 (i 0) (i 1) (i 2) : EReal) := cat_at _ _ h1 h2 i

theorem v8_at (h1 : ∀ i, x1 i = (K1 i : EReal)) (h2 : ∀ i, x2 i = (K2 i : EReal)) (i : S8x4352x512.Idx) :
    val_main_v8 (F := Ideal) x1 x2 i = (rcat K1 K2 (i 0) (i 1) (i 2) : EReal) := cat_at _ _ h1 h2 i

end

/-! ## The scores -/

section
variable {x0 : FVec Ideal S8x4096x512 .bf16} {x1 : FVec Ideal S8x256x512 .bf16} {x2 : FVec Ideal S8x4096x512 .bf16}
  {Q : S8x4096x512.Idx → ℝ} {K1 : S8x256x512.Idx → ℝ} {K2 : S8x4096x512.Idx → ℝ}
  (h0 : ∀ i, x0 i = (Q i : EReal)) (h1 : ∀ i, x1 i = (K1 i : EReal)) (h2 : ∀ i, x2 i = (K2 i : EReal))

/-- The scaled score of a row with a key, over one half of a head. -/
def sc (Q : S8x4096x512.Idx → ℝ) (K1 : S8x256x512.Idx → ℝ) (K2 : S8x4096x512.Idx → ℝ) (B : Fin 8) (h : Fin 4) (o : Fin 2) (s : Fin 4096) (j : Fin 4352) : ℝ :=
  half o (qrow Q B s h) (krow K1 K2 B h j)

include h0 in
theorem v1_at (i : S8x4096x4x2x64.Idx) :
    val_main_v1 (F := Ideal) x0 i = (qrow Q (i 0) (i 1) (i 2) ⟨64 * (i 3).val + (i 4).val, by have := (i 3).isLt; have := (i 4).isLt; simp at *; omega⟩ : EReal) := by
  rw [val_main_v1_apply, val_main_v0_apply]
  refine (h0 _).trans ?_
  unfold qrow
  refine congrArg (fun z => ((Q z : ℝ) : EReal)) (funext fun a => Fin.ext ?_)
  have b0 : (i 0).val < 8 := (i 0).isLt
  have b1 : (i 1).val < 4096 := (i 1).isLt
  have b2 : (i 2).val < 4 := (i 2).isLt
  have b3 : (i 3).val < 2 := (i 3).isLt
  have b4 : (i 4).val < 64 := (i 4).isLt
  fin_cases a
  · show (((((i 0).val * 4096 + (i 1).val) * 4 + (i 2).val) * 2 + (i 3).val) * 64 + (i 4).val) / 2097152 = (i 0).val
    omega
  · show (((((i 0).val * 4096 + (i 1).val) * 4 + (i 2).val) * 2 + (i 3).val) * 64 + (i 4).val) / 512 % 4096 = (i 1).val
    omega
  · show (((((i 0).val * 4096 + (i 1).val) * 4 + (i 2).val) * 2 + (i 3).val) * 64 + (i 4).val) % 512 = (i 2).val * 128 + (64 * (i 3).val + (i 4).val)
    omega

include h1 h2 in
theorem v5_at (i : S8x4352x4x2x64.Idx) :
    val_main_v5 (F := Ideal) x1 x2 i = (krow K1 K2 (i 0) (i 2) (i 1) ⟨64 * (i 3).val + (i 4).val, by have := (i 3).isLt; have := (i 4).isLt; simp at *; omega⟩ : EReal) := by
  rw [val_main_v5_apply, v4_at h1 h2]
  unfold krow
  have b0 : (i 0).val < 8 := (i 0).isLt
  have b1 : (i 1).val < 4352 := (i 1).isLt
  have b2 : (i 2).val < 4 := (i 2).isLt
  have b3 : (i 3).val < 2 := (i 3).isLt
  have b4 : (i 4).val < 64 := (i 4).isLt
  have key : ∀ (B B' : Fin 8) (j j' : Fin 4352) (D D' : Fin 512), B = B' → j = j' → D = D' → ((rcat K1 K2 B j D : ℝ) : EReal) = (rcat K1 K2 B' j' D' : ℝ) := by
    rintro _ _ _ _ _ _ rfl rfl rfl; rfl
  refine key _ _ _ _ _ _ (Fin.ext ?_) (Fin.ext ?_) (Fin.ext ?_)
  · show (((((i 0).val * 4352 + (i 1).val) * 4 + (i 2).val) * 2 + (i 3).val) * 64 + (i 4).val) / 2228224 = (i 0).val
    omega
  · show (((((i 0).val * 4352 + (i 1).val) * 4 + (i 2).val) * 2 + (i 3).val) * 64 + (i 4).val) / 512 % 4352 = (i 1).val
    omega
  · show (((((i 0).val * 4352 + (i 1).val) * 4 + (i 2).val) * 2 + (i 3).val) * 64 + (i 4).val) % 512 = (i 2).val * 128 + (64 * (i 3).val + (i 4).val)
    omega

include h0 h1 h2 in
theorem v26_at (i : S8x4x2x4096x4352.Idx) :
    val_main_v26 (F := Ideal) x0 x1 x2 i = (sc Q K1 K2 (i 0) (i 1) (i 2) (i 3) (i 4) : EReal) := by
  rw [val_main_v26_apply, val_main_v22_apply, val_main_v25_apply, val_main_v24_apply, val_main_v23_apply, val_main_cst_2_apply]
  simp only [v1_at h0, v5_at h1 h2, ← EReal.coe_mul]
  rw [← Cert.Soft.coe_sum]
  show ((_ : ℝ) : EReal) * Ideal.log (Ideal.ofBits .f32 0x40000000#32) = _
  rw [log_two, ← EReal.coe_mul]
  rfl

include h0 h1 h2 in
/-- The greatest score of a row is a real number. -/
theorem v29_real (i : S8x4x2x4096.Idx) : ∃ M : ℝ, val_main_v29 (F := Ideal) x0 x1 x2 i = (M : EReal) := by
  rw [val_main_v29_apply, val_main_v28_apply, val_main_cst_4_apply]
  obtain ⟨M, hM⟩ : ∃ M : ℝ, val_main_v27 (F := Ideal) x0 x1 x2 i = (M : EReal) := by
    unfold val_main_v27
    have e := Host.reduce_eq_fold_single (max : EReal → EReal → EReal) (val_main_v26 (F := Ideal) x0 x1 x2) (val_main_cst_3 (F := Ideal))
      reducesTo_S8x4x2x4096x4352_S8x4x2x4096_d4 (by decide) h_S_ i
    refine Exists.imp (fun M hM => Eq.trans e hM) ?_
    have hb : val_main_cst_3 (F := Ideal) (Shape.Idx.first h_S_) = (⊥ : EReal) := Cert.KernelIdeal.Att.bits_neg_inf
    rw [hb]
    obtain ⟨M, hM⟩ := Cert.Soft.fold_max_coe (Finset.univ : Finset (Fin 4352)) Finset.univ_nonempty
      (fun k => sc Q K1 K2 _ _ _ _ _)
    refine ⟨M, Eq.trans (congrArg (fun f => Finset.fold max ⊥ f Finset.univ) (funext fun k => ?_)) hM⟩
    exact v26_at h0 h1 h2 _
  rw [hM]
  refine ⟨M, ?_⟩
  show max (Ideal.ofBits .f32 0xFF800000#32) _ = _
  rw [Cert.KernelIdeal.Att.bits_neg_inf]
  exact max_eq_right bot_le

include h0 h1 h2 in
/-- A row's softmax, up to the shift, which is a real number. -/
theorem v37_at (B : Fin 8) (h : Fin 4) (o : Fin 2) (s : Fin 4096) : ∃ M : ℝ, ∀ (i : S8x4x2x4096x4352.Idx),
    i 0 = B → i 1 = h → i 2 = o → i 3 = s →
    val_main_v37 (F := Ideal) x0 x1 x2 i
      = Ideal.div (Ideal.exp ((sc Q K1 K2 B h o s (i 4) : EReal) - (M : EReal))) (∑ k, Ideal.exp ((sc Q K1 K2 B h o s k : EReal) - (M : EReal))) := by
  obtain ⟨M, hM⟩ := v29_real h0 h1 h2 (ix4 B h o s)
  have e30 : ∀ i : S8x4x2x4096x4352.Idx, i 0 = B → i 1 = h → i 2 = o → i 3 = s →
      val_main_v33 (F := Ideal) x0 x1 x2 i = Ideal.exp ((sc Q K1 K2 B h o s (i 4) : EReal) - (M : EReal)) := by
    intro i r0 r1 r2 r3
    have e28 : val_main_v31 (F := Ideal) x0 x1 x2 i = (M : EReal) := by
      rw [val_main_v31_apply, val_main_v30_apply, ← hM]
      refine congrArg (val_main_v29 (F := Ideal) x0 x1 x2) (funext fun a => ?_)
      fin_cases a
      · exact r0
      · exact r1
      · exact r2
      · exact r3
    rw [val_main_v33_apply, val_main_v32_apply, e28, v26_at h0 h1 h2, r0, r1, r2, r3]
    rfl
  refine ⟨M, fun i r0 r1 r2 r3 => ?_⟩
  rw [val_main_v37_apply, e30 i r0 r1 r2 r3, val_main_v36_apply, val_main_v35_apply, val_main_v34_apply]
  have z : val_main_cst_5 (F := Ideal) (Shape.Idx.first h_S_) = (0 : EReal) := Ideal.ofBits_zero .f32
  rw [z, zero_add]
  refine congrArg (Ideal.div _) (Finset.sum_congr rfl fun k _ => ?_)
  exact e30 _ r0 r1 r2 r3

end

/-! ## The output -/

section
variable {x0 : FVec Ideal S8x4096x512 .bf16} {x1 : FVec Ideal S8x256x512 .bf16} {x2 : FVec Ideal S8x4096x512 .bf16}
  {x3 : FVec Ideal S8x256x512 .bf16} {x4 : FVec Ideal S8x4096x512 .bf16} {x5 x6 x7 x8 : FVec Ideal S1x64 .f32}
  {Q : S8x4096x512.Idx → ℝ} {K1 : S8x256x512.Idx → ℝ} {K2 : S8x4096x512.Idx → ℝ} {V1 : S8x256x512.Idx → ℝ} {V2 : S8x4096x512.Idx → ℝ} {L : ℝ}
  (h0 : ∀ i, x0 i = (Q i : EReal)) (h1 : ∀ i, x1 i = (K1 i : EReal)) (h2 : ∀ i, x2 i = (K2 i : EReal))
  (h3 : ∀ i, x3 i = (V1 i : EReal)) (h4 : ∀ i, x4 i = (V2 i : EReal))
  (hL : lam (fun l => x5 (ix2 0 l)) (fun l => x6 (ix2 0 l)) (fun l => x7 (ix2 0 l)) (fun l => x8 (ix2 0 l)) = (L : EReal))

include h3 h4 in
theorem v9_at (i : S8x4352x4x128.Idx) :
    val_main_v9 (F := Ideal) x3 x4 i = (krow V1 V2 (i 0) (i 2) (i 1) (i 3) : EReal) := by
  rw [val_main_v9_apply, v8_at h3 h4]
  unfold krow
  have b0 : (i 0).val < 8 := (i 0).isLt
  have b1 : (i 1).val < 4352 := (i 1).isLt
  have b2 : (i 2).val < 4 := (i 2).isLt
  have b3 : (i 3).val < 128 := (i 3).isLt
  have key : ∀ (B B' : Fin 8) (j j' : Fin 4352) (D D' : Fin 512), B = B' → j = j' → D = D' → ((rcat V1 V2 B j D : ℝ) : EReal) = (rcat V1 V2 B' j' D' : ℝ) := by
    rintro _ _ _ _ _ _ rfl rfl rfl; rfl
  refine key _ _ _ _ _ _ (Fin.ext ?_) (Fin.ext ?_) (Fin.ext ?_)
  · show ((((i 0).val * 4352 + (i 1).val) * 4 + (i 2).val) * 128 + (i 3).val) / 2228224 = (i 0).val
    omega
  · show ((((i 0).val * 4352 + (i 1).val) * 4 + (i 2).val) * 128 + (i 3).val) / 512 % 4352 = (i 1).val
    omega
  · show ((((i 0).val * 4352 + (i 1).val) * 4 + (i 2).val) * 128 + (i 3).val) % 512 = (i 2).val * 128 + (i 3).val
    omega

include h0 h1 h2 h3 h4 hL in
/-- The attention before its normalisation. -/
theorem v46_at (B : Fin 8) (s : Fin 4096) (h : Fin 4) (d : Fin 128) :
    val_main_v46 (F := Ideal) x0 x1 x2 x3 x4 x5 x6 x7 x8 (ix4 B s h d) = att Q K1 K2 V1 V2 L B s h d := by
  obtain ⟨M, hM⟩ := v37_at h0 h1 h2 B h 0 s
  obtain ⟨M', hM'⟩ := v37_at h0 h1 h2 B h 1 s
  rw [val_main_v46_apply, val_main_v45_apply]
  unfold att
  refine Eq.trans (Finset.sum_congr rfl fun k _ => ?_) (Cert.Soft.ref_mean (sc Q K1 K2 B h 0 s) (sc Q K1 K2 B h 1 s) (fun j => krow V1 V2 B h j d) M M' L)
  rw [v9_at h3 h4, val_main_v44_apply, val_main_v43_apply, val_main_v42_apply, val_main_v39_apply, val_main_v38_apply,
    val_main_v41_apply, val_main_v40_apply, v21_apply, hL]
  have b0 := B.isLt
  have b1 := h.isLt
  have b2 := s.isLt
  have b3 := k.isLt
  have q0 : (((B.val * 4 + h.val) * 4096 + s.val) * 4352 + k.val) / 71303168 = B.val := by omega
  have q1 : (((B.val * 4 + h.val) * 4096 + s.val) * 4352 + k.val) / 17825792 % 4 = h.val := by omega
  have q3 : (((B.val * 4 + h.val) * 4096 + s.val) * 4352 + k.val) / 4352 % 4096 = s.val := by omega
  have q4 : (((B.val * 4 + h.val) * 4096 + s.val) * 4352 + k.val) % 4352 = k.val := by omega
  rw [hM _ (Fin.ext q0) (Fin.ext q1) rfl (Fin.ext q3), hM' _ (Fin.ext q0) (Fin.ext q1) rfl (Fin.ext q3)]
  have g : ∀ (o : Fin 2) (N : ℝ) (k' : Fin 4352), k' = k →
      Ideal.div (Ideal.exp ((sc Q K1 K2 B h o s k' : EReal) - (N : EReal))) (∑ k, Ideal.exp ((sc Q K1 K2 B h o s k : EReal) - (N : EReal)))
        = Ideal.div (Ideal.exp ((sc Q K1 K2 B h o s k : EReal) - (N : EReal))) (∑ k, Ideal.exp ((sc Q K1 K2 B h o s k : EReal) - (N : EReal))) := by
    rintro _ _ _ rfl; rfl
  exact congrArg₂ (fun a b => ((krow V1 V2 B h k d : ℝ) : EReal) * (a - (L : EReal) * b)) (g 0 M _ (Fin.ext q4)) (g 1 M' _ (Fin.ext q4))

include h0 h1 h2 h3 h4 hL in
/-- The result, at an index. -/
theorem v64_at (x9 : FVec Ideal S1x128 .f32) (i : S8x4096x512.Idx) (B : Fin 8) (s : Fin 4096) (h : Fin 4) (d : Fin 128)
    (r0 : (i 0).val = B.val) (r1 : (i 1).val = s.val) (r2 : (i 2).val = h.val * 128 + d.val) :
    val_main_v64 (F := Ideal) x0 x1 x2 x3 x4 x5 x6 x7 x8 x9 i = norm (fun l => att Q K1 K2 V1 V2 L B s h l) (x9 (ix2 0 d)) d := by
  have b0 := B.isLt
  have b1 := h.isLt
  have b2 := s.isLt
  have b3 := d.isLt
  have e60 : idx_main_v63 i = ix4 B s h d := by
    funext a
    refine Fin.ext ?_
    fin_cases a
    · show (((i 0).val * 4096 + (i 1).val) * 512 + (i 2).val) / 2097152 = B.val
      omega
    · show (((i 0).val * 4096 + (i 1).val) * 512 + (i 2).val) / 512 % 4096 = s.val
      omega
    · show (((i 0).val * 4096 + (i 1).val) * 512 + (i 2).val) / 128 % 4 = h.val
      omega
    · show (((i 0).val * 4096 + (i 1).val) * 512 + (i 2).val) % 128 = d.val
      omega
  have e45 : ∀ j : S8x4096x4.Idx, j = ix3 B s h → val_main_v48 (F := Ideal) x0 x1 x2 x3 x4 x5 x6 x7 x8 j
      = ∑ l, att Q K1 K2 V1 V2 L B s h l * att Q K1 K2 V1 V2 L B s h l := by
    rintro _ rfl
    have z : val_main_cst_6 (F := Ideal) (Shape.Idx.first h_S_) = (0 : EReal) := Ideal.ofBits_zero .f32
    rw [val_main_v48_apply, z, zero_add]
    refine Finset.sum_congr rfl fun l _ => ?_
    have ei : idx_main_v48 (ix3 B s h) l = ix4 B s h l := by
      funext a
      fin_cases a <;> rfl
    rw [ei, val_main_v47_apply, v46_at h0 h1 h2 h3 h4 hL]
    rfl
  have e56 : val_main_v59 (F := Ideal) x9 (ix4 B s h d) = x9 (ix2 0 d) := by
    rw [val_main_v59_apply, val_main_v58_apply, val_main_v57_apply]
    refine congrArg x9 (funext fun a => Fin.ext ?_)
    fin_cases a
    · rfl
    · show d.val % 128 = d.val
      omega
  rw [val_main_v64_apply, val_main_v63_apply, e60, val_main_v62_apply, val_main_v60_apply, val_main_v56_apply, v46_at h0 h1 h2 h3 h4 hL,
    e56, val_main_v55_apply, val_main_v54_apply, val_main_v53_apply, val_main_v51_apply, val_main_v49_apply,
    e45 _ (by funext a; fin_cases a <;> rfl), val_main_v50_apply, val_main_v52_apply, val_main_v61_apply, val_main_cst_7_apply,
    val_main_cst_8_apply, val_main_cst_9_apply]
  rfl

end

/-- The parameter is a real number when its vectors are. -/
theorem lam_real (a b a' b' : Fin 64 → EReal) (ha : ∀ l, ∃ r : ℝ, a l = (r : EReal)) (hb : ∀ l, ∃ r : ℝ, b l = (r : EReal))
    (ha' : ∀ l, ∃ r : ℝ, a' l = (r : EReal)) (hb' : ∀ l, ∃ r : ℝ, b' l = (r : EReal)) : ∃ L : ℝ, lam a b a' b' = (L : EReal) := by
  choose a ea using ha
  choose b eb using hb
  choose a' ea' using ha'
  choose b' eb' using hb'
  obtain ⟨u, hu⟩ : ∃ u : ℝ, Ideal.ofBits .f32 0x3E4CCCCD#32 = (u : EReal) := by
    refine ⟨13421773 * (1 / 67108864), ?_⟩
    simp [Ideal.ofBits, Ideal.ieee]
    try norm_num
  unfold lam
  simp only [ea, eb, ea', eb', ← EReal.coe_mul, ← Cert.Soft.coe_sum, hu, Ideal.exp_coe, ← EReal.coe_sub, ← EReal.coe_add]
  exact ⟨_, rfl⟩

end Cert.ReferenceIdeal.Att

end
-- ==== Proof.Value.lean ====
/- The kernel's result is the reference's, when every query, key, value and parameter entry is a real number. -/
module

public import proofs.«01_k».proof.Proof.Post
public import proofs.«01_k».proof.Proof.Pre
public import proofs.«01_k».proof.Proof.Ref

@[expose] public section

set_option maxRecDepth 16384

noncomputable section

namespace Cert.KernelIdeal.Att

open Idealize.ShloMosaic Idealize.ShloMosaic.TcCoe Idealize.ShloMosaic.Tactic
open Cert.KernelIdeal.Gen
open Cert.Real (AllReal)
open Cert.ReferenceIdeal.Att (lane rcat qrow krow att v64_at lam_real)

variable (m : (ℓ : Loc nD τ sig) → Buf (Elt Ideal) ℓ) (c : Dev nD)

/-- The reference's result at the kernel's arguments. -/
def spec : Vec Ideal S8x4096x512 .bf16 :=
  Cert.ReferenceIdeal.Read.val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- A head's keys (or values) as the kernel finds them in its two blocks: the context's rows and then the sequence's. -/
theorem cat_real (a : Vec Ideal S1x256x128 .bf16) (b : Vec Ideal S1x4096x128 .bf16) (K1 : S8x256x512.Idx → ℝ) (K2 : S8x4096x512.Idx → ℝ)
    (B : Fin 8) (h : Fin 4) (ha : ∀ r l, a (ix3 0 r l) = (K1 (ix3 B r (lane h l)) : EReal))
    (hb : ∀ r l, b (ix3 0 r l) = (K2 (ix3 B r (lane h l)) : EReal)) (j : Fin 4352) (l : Fin 128) :
    cat a b j l = (krow K1 K2 B h j l : EReal) := by
  unfold cat krow rcat
  by_cases hj : j.val < 256
  · rw [dif_pos hj, dif_pos hj, ha]
  · rw [dif_neg hj, dif_neg hj, hb]

/-- The result array is the reference's. -/
theorem result_eq (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (r4 : AllReal (m ((c : Thread nD τ).loc main_arg4))) (r5 : AllReal (m ((c : Thread nD τ).loc main_arg5)))
    (r6 : AllReal (m ((c : Thread nD τ).loc main_arg6))) (r7 : AllReal (m ((c : Thread nD τ).loc main_arg7)))
    (r8 : AllReal (m ((c : Thread nD τ).loc main_arg8))) : result m c = spec m c := by
  funext i
  choose Q h0 using r0
  choose K1 h1 using r1
  choose K2 h2 using r2
  choose V1 h3 using r3
  choose V2 h4 using r4
  obtain ⟨L, hL⟩ := lam_real (fun l => m ((c : Thread nD τ).loc main_arg5) (ix2 0 l)) (fun l => m ((c : Thread nD τ).loc main_arg6) (ix2 0 l))
    (fun l => m ((c : Thread nD τ).loc main_arg7) (ix2 0 l)) (fun l => m ((c : Thread nD τ).loc main_arg8) (ix2 0 l))
    (fun l => r5 _) (fun l => r6 _) (fun l => r7 _) (fun l => r8 _)
  have b0 : (i 0).val < 8 := (i 0).isLt
  have b1 : (i 1).val < 4096 := (i 1).isLt
  have b2 : (i 2).val < 512 := (i 2).isLt
  have hh : (i 2).val / 128 < 4 := by omega
  have hd : (i 2).val % 128 < 128 := Nat.mod_lt _ (by norm_num)
  have hr : (i 1).val % 256 < 256 := Nat.mod_lt _ (by norm_num)
  unfold spec
  rw [v64_at h0 h1 h2 h3 h4 hL _ i (i 0) (i 1) ⟨(i 2).val / 128, hh⟩ ⟨(i 2).val % 128, hd⟩ rfl rfl (by show (i 2).val = (i 2).val / 128 * 128 + (i 2).val % 128; omega)]
  set t : Fin cfg0.N := ptOf (i 0) ⟨(i 2).val / 128, hh⟩ (i 1) with ht
  have tv : t.val = (i 0).val * 68 + (i 2).val / 128 * 17 + (i 1).val / 256 + 1 := rfl
  have pv : (prev t).val = (i 0).val * 68 + (i 2).val / 128 * 17 + (i 1).val / 256 := rfl
  have sv : (start (prev t)).val = (i 0).val * 68 + (i 2).val / 128 * 17 := by
    show (prev t).val - (prev t).val % 17 = _
    rw [pv]; omega
  refine (outOf_real (insAt m c (prev t)).x0 (insAt m c (start (prev t))) ⟨(i 1).val % 256, hr⟩ (qrow Q (i 0) (i 1) ⟨(i 2).val / 128, hh⟩)
    (krow K1 K2 (i 0) ⟨(i 2).val / 128, hh⟩) (krow V1 V2 (i 0) ⟨(i 2).val / 128, hh⟩) (insAt m c t) L (fun l => ?_) (fun j l => ?_) (fun j l => ?_) ?_
    ⟨(i 2).val % 128, hd⟩).trans ?_
  · have hl := l.isLt
    rw [blk0 m c (prev t) _ l (i 0) (i 1) (lane ⟨(i 2).val / 128, hh⟩ l) (by rw [pv]; omega) (by rw [pv]; show _ = _ + (i 1).val % 256; omega)
      (by rw [pv]; show (i 2).val / 128 * 128 + l.val = _; omega), h0]
    rfl
  · refine cat_real _ _ K1 K2 (i 0) ⟨(i 2).val / 128, hh⟩ (fun r l => ?_) (fun r l => ?_) j l
    · rw [blk1 m c (start (prev t)) r l (i 0) (lane ⟨(i 2).val / 128, hh⟩ l) (by rw [sv]; omega) (by rw [sv]; show (i 2).val / 128 * 128 + l.val = _; omega), h1]
    · rw [blk2 m c (start (prev t)) r l (i 0) (lane ⟨(i 2).val / 128, hh⟩ l) (by rw [sv]; omega) (by rw [sv]; show (i 2).val / 128 * 128 + l.val = _; omega), h2]
  · refine cat_real _ _ V1 V2 (i 0) ⟨(i 2).val / 128, hh⟩ (fun r l => ?_) (fun r l => ?_) j l
    · rw [blk3 m c (start (prev t)) r l (i 0) (lane ⟨(i 2).val / 128, hh⟩ l) (by rw [sv]; omega) (by rw [sv]; show (i 2).val / 128 * 128 + l.val = _; omega), h3]
    · rw [blk4 m c (start (prev t)) r l (i 0) (lane ⟨(i 2).val / 128, hh⟩ l) (by rw [sv]; omega) (by rw [sv]; show (i 2).val / 128 * 128 + l.val = _; omega), h4]
  · rw [pay416_apply, ← hL]
    simp only [blk5, blk6, blk7, blk8]
  · rw [blk9]
    rfl

end Cert.KernelIdeal.Att

end
-- ==== Proof.ESetup.lean ====
/- The pipeline of the expert layer's call: its arrays when the grid starts, the tables it reads ahead, its windows' blocks
   and its staging memrefs, at any float semantics. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 5, through which its contents are stated (`View.read_writes_of_cover`: the
    choice does not matter). -/
abbrev VO0_5 : View sig .tc .vmem S4096x128 .f32 := (Memref.whole cc0_stg5_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Gen

end
-- ==== Proof.ERunA.lean ====
/- The run of the expert body at a used block whose weights are taken in first. -/
module

public import proofs.«01_k».proof.Proof.ESetup

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of a table at an offset, as the body reads it. -/
abbrev tW0 (c : Dev nD) (i : grid0.Coords) (f : TbBuf0 (F := F) c tbM0_0) : Elt F .i32 :=
  View.readAt (Elt F) tbM0_0.view (Rect.unit (s := S288) (k0_off1 i) S1.size (k0_off1_inb i)).toLoadRect f (Shape.Idx.first (numel1_S1.symm ▸ Nat.one_pos))
abbrev tP0 (c : Dev nD) (i : grid0.Coords) (f : TbBuf0 (F := F) c tbM0_0) : Elt F .i32 :=
  View.readAt (Elt F) tbM0_0.view (Rect.unit (s := S288) (k0_off2 i) S1.size (k0_off2_inb i)).toLoadRect f (Shape.Idx.first (numel1_S1.symm ▸ Nat.one_pos))
abbrev tW1 (c : Dev nD) (f : TbBuf0 (F := F) c tbM0_1) : Elt F .i32 :=
  View.readAt (Elt F) tbM0_1.view (Rect.unit (s := S1) ![0] S1.size inb_S1_S1_0).toLoadRect f (Shape.Idx.first (numel1_S1.symm ▸ Nat.one_pos))

/-- The condition the weights are taken into the scratch under: the block is used, and it is the first or its expert is not the
    block before's. -/
abbrev freshW (i : grid0.Coords) (v0 v4 v8 : BitVec 32) : BitVec 1 :=
  Scalar.cmpi .ne (Scalar.extui (Scalar.andi (Scalar.cmpi .slt (BitVec.ofNat 32 (i 0).val) v0) (Scalar.ori (Scalar.cmpi .eq (BitVec.ofNat 32 (i 0).val) 0#32) (Scalar.cmpi .ne v4 v8))) : BitVec 32) 0#32

set_option maxHeartbeats 4000000 in
/-- What the body leaves at a used block whose weights it takes into the scratch: the output tile's and the two scratch buffers' pieces, last first. -/
noncomputable def eRunA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)  (xt0 : TbBuf0 (F := F) c tbM0_0) (xt1 : TbBuf0 (F := F) c tbM0_1)
    (h1 : freshW i (tW1 c xt1) (tW0 c i xt0) (tP0 c i xt0) = 1#1) (h2 : k0_cond2 i (tW1 c xt1) = 1#1) (h3 : ¬k0_cond3 i (tW1 c xt1) = 1#1) :
    { L : List (View.Piece (Elt F) S4096x128 .f32) × List (View.Piece (Elt F) S1024x2048 .bf16) × List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨(?_, ?_, ?_), fun E K => ?run⟩
  case run =>
    simp only [cc0_moe_experts_eq_skeleton]; unfold cc0_moe_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HT0]; · iexact HT0
    iexact HT1

end Cert.Kernel2Ideal.Gen

end
-- ==== Proof.ERunB.lean ====
/- The run of the expert body at a used block of the same expert as the block before. -/
module

public import proofs.«01_k».proof.Proof.ERunA

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a used block whose weights the scratch already holds: the output tile's pieces, last first. -/
noncomputable def eRunB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32) (y0 : Vec F S1024x2048 .bf16) (y1 : Vec F S1024x1024 .bf16) (xt0 : TbBuf0 (F := F) c tbM0_0) (xt1 : TbBuf0 (F := F) c tbM0_1)
    (h1 : ¬freshW i (tW1 c xt1) (tW0 c i xt0) (tP0 c i xt0) = 1#1) (h2 : k0_cond2 i (tW1 c xt1) = 1#1) (h3 : ¬k0_cond3 i (tW1 c xt1) = 1#1) :
    { L : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y0 ∗ owns (c : Thread nD τ) arg10 fullShare y1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L) ∗ owns (c : Thread nD τ) arg9 fullShare y0 ∗ owns (c : Thread nD τ) arg10 fullShare y1 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hs0; obtain rfl := harg10.eq_unread hs1
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HT0]; · iexact HT0
    iexact HT1

end Cert.Kernel2Ideal.Gen

end
-- ==== Proof.ERunC.lean ====
/- The run of the expert body at a block not used. -/
module

public import proofs.«01_k».proof.Proof.ERunB

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a block not used: the output tile's pieces, last first. -/
noncomputable def eRunC (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)  (xt0 : TbBuf0 (F := F) c tbM0_0) (xt1 : TbBuf0 (F := F) c tbM0_1)
    (h1 : ¬freshW i (tW1 c xt1) (tW0 c i xt0) (tP0 c i xt0) = 1#1) (h2 : ¬k0_cond2 i (tW1 c xt1) = 1#1) (h3 : k0_cond3 i (tW1 c xt1) = 1#1) :
    { L : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L) ∗ (∃ d, owns (c : Thread nD τ) arg9 fullShare d) ∗ (∃ d, owns (c : Thread nD τ) arg10 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HT0]; · iexact HT0
    iexact HT1

end Cert.Kernel2Ideal.Gen

end
-- ==== Proof.EClean.lean ====
/- What the expert body computes and leaves, at any float semantics. -/
module

public import proofs.«01_k».proof.Proof.ERunC
public import Idealize.ShloMosaic.Lib.Pointwise
public import Idealize.ShloMosaic.Lib.VecWindow
public import Idealize.ShloMosaic.Lib.Pipeline.ValueKit.Geometry

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The rows of a tile in its lane group `g`: every eighth row from row `g`. -/
abbrev eBox (g : Fin 8) : Rect S4096x128 := ⟨⟨![g.val, 0], S512x128.size, ![8, 1], fun a => by
  have := g.isLt; fin_cases a <;> simp [S512x128, S4096x128]; omega⟩, spos_8_1⟩

/-- The hidden layer of a block. -/
def hOf (x0 : Vec F S4096x128 .f32) (y0 : Vec F S1024x2048 .bf16) (x2 : Vec F S1x1x2048 .f32) : FVec F S512x1024 .bf16 :=
  k0_pay13 (View.ld x0 (eBox 0)) (View.ld x0 (eBox 1)) (View.ld x0 (eBox 2)) (View.ld x0 (eBox 3)) (View.ld x0 (eBox 4)) (View.ld x0 (eBox 5))
    (View.ld x0 (eBox 6)) (View.ld x0 (eBox 7)) y0 x2

/-- A block's rows put back into the tile: row `r`'s lane group `g` is the tile's row `8 r + g`. -/
def spread (Y : FVec F S512x1024 .f32) : Vec F S4096x128 .f32 := fun y =>
  Y (ix2 ⟨(y 0).val / 8, by have : (y 0).val < 4096 := (y 0).isLt; omega⟩ ⟨128 * ((y 0).val % 8) + (y 1).val, by have : (y 1).val < 128 := (y 1).isLt; omega⟩)

/-- A used block's result. -/
def outOf (x0 : Vec F S4096x128 .f32) (y0 : Vec F S1024x2048 .bf16) (x2 : Vec F S1x1x2048 .f32) (y1 : Vec F S1024x1024 .bf16) (x4 : Vec F S1x1x1024 .f32) :
    Vec F S4096x128 .f32 := spread (k0_pay3 (hOf x0 y0 x2) y1 x4)

/-- The stores of a used block's result, last first. -/
def outList (h : FVec F S512x1024 .bf16) (y1 : Vec F S1024x1024 .bf16) (x4 : Vec F S1x1x1024 .f32) : List (View.Piece (Elt F) S4096x128 .f32) :=
  [⟨eBox 7, k0_pay11 h y1 x4⟩, ⟨eBox 6, k0_pay10 h y1 x4⟩, ⟨eBox 5, k0_pay9 h y1 x4⟩, ⟨eBox 4, k0_pay8 h y1 x4⟩,
    ⟨eBox 3, k0_pay7 h y1 x4⟩, ⟨eBox 2, k0_pay6 h y1 x4⟩, ⟨eBox 1, k0_pay5 h y1 x4⟩, ⟨eBox 0, k0_pay4 h y1 x4⟩]

/-- The indices of a lane group's rows. -/
theorem eBox_val (g : Fin 8) (x : (eBox g).shape.Idx) : (((eBox g).emb x) 0).val = g.val + 8 * (x 0).val ∧ (((eBox g).emb x) 1).val = (x 1).val :=
  ⟨rfl, show 0 + 1 * (x 1).val = _ by omega⟩

/-- A slice of the rows is the lane group of the tile they spread to. -/
theorem slice_spread (Y : FVec F S512x1024 .f32) (g : Fin 8) (off : Fin 2 → Nat) (hoff : off = ![0, 128 * g.val]) (h : S512x1024.Slices off S512x128) (x : (eBox g).shape.Idx) :
    extractStridedSlice S512x128 off Y h x = spread Y ((eBox g).emb x) := by
  subst hoff
  obtain ⟨e0, e1⟩ := eBox_val g x
  have g0 := g.isLt
  have l0 : (x 0).val < 512 := (x 0).isLt
  have l1 : (x 1).val < 128 := (x 1).isLt
  unfold spread
  show Y _ = Y _
  congr 1
  funext a
  refine Fin.ext ?_
  fin_cases a
  · show 0 + (x 0).val = (((eBox g).emb x) 0).val / 8
    rw [e0]; omega
  · show 128 * g.val + (x 1).val = 128 * ((((eBox g).emb x) 0).val % 8) + (((eBox g).emb x) 1).val
    rw [e0, e1]; omega

/-- Every index lies in the lane group of its row. -/
theorem mem_eBox (y : S4096x128.Idx) (g : Fin 8) (h : (y 0).val % 8 = g.val) : y ∈ (eBox g).set := by
  have l0 : (y 0).val < 4096 := (y 0).isLt
  have l1 : (y 1).val < 128 := (y 1).isLt
  rw [LoadRect.mem_set]
  intro a
  fin_cases a
  · exact ⟨(y 0).val / 8, by show _ < 512; omega, by show (y 0).val = g.val + 8 * ((y 0).val / 8); omega⟩
  · exact ⟨(y 1).val, l1, by show (y 1).val = 0 + 1 * (y 1).val; omega⟩

theorem out_cover (h : FVec F S512x1024 .bf16) (y1 : Vec F S1024x1024 .bf16) (x4 : Vec F S1x1x1024 .f32) (y : S4096x128.Idx) :
    ∃ p ∈ outList h y1 x4, y ∈ p.1.set := by
  have hg : (y 0).val % 8 < 8 := Nat.mod_lt _ (by norm_num)
  obtain ⟨g, hgv⟩ : ∃ g : Fin 8, (y 0).val % 8 = g.val := ⟨⟨_, hg⟩, rfl⟩
  have hm := mem_eBox y g hgv
  unfold outList
  fin_cases g
  · exact ⟨⟨eBox 0, k0_pay4 h y1 x4⟩, by simp, hm⟩
  · exact ⟨⟨eBox 1, k0_pay5 h y1 x4⟩, by simp, hm⟩
  · exact ⟨⟨eBox 2, k0_pay6 h y1 x4⟩, by simp, hm⟩
  · exact ⟨⟨eBox 3, k0_pay7 h y1 x4⟩, by simp, hm⟩
  · exact ⟨⟨eBox 4, k0_pay8 h y1 x4⟩, by simp, hm⟩
  · exact ⟨⟨eBox 5, k0_pay9 h y1 x4⟩, by simp, hm⟩
  · exact ⟨⟨eBox 6, k0_pay10 h y1 x4⟩, by simp, hm⟩
  · exact ⟨⟨eBox 7, k0_pay11 h y1 x4⟩, by simp, hm⟩

/-- The stores make the rows spread over the tile. -/
theorem out_canon (h : FVec F S512x1024 .bf16) (y1 : Vec F S1024x1024 .bf16) (x4 : Vec F S1x1x1024 .f32) :
    View.canon (outList h y1 x4) = spread (k0_pay3 h y1 x4) := by
  funext y
  refine View.canon_apply_of_pieces (spread (k0_pay3 h y1 x4)) _ (fun p hp => ?_) y (out_cover h y1 x4 y)
  unfold outList at hp
  simp only [List.mem_cons, List.not_mem_nil, or_false] at hp
  rcases hp with rfl | rfl | rfl | rfl | rfl | rfl | rfl | rfl
  · exact fun x => slice_spread (k0_pay3 h y1 x4) 7 ![0, 896] rfl slices_S512x1024_o0_896_S512x128 x
  · exact fun x => slice_spread (k0_pay3 h y1 x4) 6 ![0, 768] rfl slices_S512x1024_o0_768_S512x128 x
  · exact fun x => slice_spread (k0_pay3 h y1 x4) 5 ![0, 640] rfl slices_S512x1024_o0_640_S512x128 x
  · exact fun x => slice_spread (k0_pay3 h y1 x4) 4 ![0, 512] rfl slices_S512x1024_o0_512_S512x128 x
  · exact fun x => slice_spread (k0_pay3 h y1 x4) 3 ![0, 384] rfl slices_S512x1024_o0_384_S512x128 x
  · exact fun x => slice_spread (k0_pay3 h y1 x4) 2 ![0, 256] rfl slices_S512x1024_o0_256_S512x128 x
  · exact fun x => slice_spread (k0_pay3 h y1 x4) 1 ![0, 128] rfl slices_S512x1024_o0_128_S512x128 x
  · exact fun x => slice_spread (k0_pay3 h y1 x4) 0 ![0, 0] rfl slices_S512x1024_o0_0_S512x128 x

/-- A buffer written at covering pieces is owned at what the pieces make. -/
theorem owns_canon {S : Shape} {e : EltTy} {sp : Space} (c : Dev nD) (m : Memref sig .tc sp S e) (L : List (View.Piece (Elt F) S e))
    (h : ∀ y, ∃ p ∈ L, y ∈ p.1.set) (Y : Vec F S e) (hY : View.canon L = Y) :
    (iprop(∃ f, m.view.loc (c : Thread nD τ) ↦[m.view.set]{fullShare} m.view.writes (Elt F) f L) : sProp 𝕄)
      ⊢ owns (c : Thread nD τ) m fullShare Y := by
  subst hY
  unfold owns
  iintro ⟨%f, H⟩
  iexists _
  isplitr
  swap
  · iexact H
  ipureintro
  exact View.read_writes_eq_canon _ _ _ h

variable (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32) (y0 : Vec F S1024x2048 .bf16) (y1 : Vec F S1024x1024 .bf16) (xt0 : TbBuf0 (F := F) c tbM0_0) (xt1 : TbBuf0 (F := F) c tbM0_1)

/-! ## The runs' pieces -/

theorem rd_x1 (b) : View.readAt (Elt F) arg4.view (Rect.unit (s := S1x1024x2048) ![0, 0, 0] S1x1024x2048.size b).toLoadRect (harg4.unread x1) = x1 := by
  rw [View.readAt_eq_ld, harg4.read_unread]; exact View.ld_unit_lit _ _ (by decide)
theorem rd_x2 (b) : View.readAt (Elt F) arg5.view (Rect.unit (s := S1x1x2048) ![0, 0, 0] S1x1x2048.size b).toLoadRect (harg5.unread x2) = x2 := by
  rw [View.readAt_eq_ld, harg5.read_unread]; exact View.ld_unit_lit _ _ (by decide)
theorem rd_x3 (b) : View.readAt (Elt F) arg6.view (Rect.unit (s := S1x1024x1024) ![0, 0, 0] S1x1024x1024.size b).toLoadRect (harg6.unread x3) = x3 := by
  rw [View.readAt_eq_ld, harg6.read_unread]; exact View.ld_unit_lit _ _ (by decide)
theorem rd_x4 (b) : View.readAt (Elt F) arg7.view (Rect.unit (s := S1x1x1024) ![0, 0, 0] S1x1x1024.size b).toLoadRect (harg7.unread x4) = x4 := by
  rw [View.readAt_eq_ld, harg7.read_unread]; exact View.ld_unit_lit _ _ (by decide)
theorem rd_y0 (b) : View.readAt (Elt F) arg9.view (Rect.unit (s := S1024x2048) ![0, 0] S1024x2048.size b).toLoadRect (harg9.unread y0) = y0 := by
  rw [View.readAt_eq_ld, harg9.read_unread]; exact View.ld_unit_lit _ _ (by decide)
theorem rd_y1 (b) : View.readAt (Elt F) arg10.view (Rect.unit (s := S1024x1024) ![0, 0] S1024x1024.size b).toLoadRect (harg10.unread y1) = y1 := by
  rw [View.readAt_eq_ld, harg10.read_unread]; exact View.ld_unit_lit _ _ (by decide)
theorem rd_x0 (g : Fin 8) : View.readAt (Elt F) arg3.view (eBox g).toLoadRect (harg3.unread x0) = View.ld x0 (eBox g) := by
  rw [View.readAt_eq_ld, harg3.read_unread]

/-- The hidden layer, of the rows as a run reads them. -/
def hRd (y : Vec F S1024x2048 .bf16) (b : Vec F S1x1x2048 .f32) : FVec F S512x1024 .bf16 :=
  k0_pay13 (View.readAt (Elt F) arg3.view (eBox 0).toLoadRect (harg3.unread x0)) (View.readAt (Elt F) arg3.view (eBox 1).toLoadRect (harg3.unread x0)) (View.readAt (Elt F) arg3.view (eBox 2).toLoadRect (harg3.unread x0)) (View.readAt (Elt F) arg3.view (eBox 3).toLoadRect (harg3.unread x0)) (View.readAt (Elt F) arg3.view (eBox 4).toLoadRect (harg3.unread x0)) (View.readAt (Elt F) arg3.view (eBox 5).toLoadRect (harg3.unread x0)) (View.readAt (Elt F) arg3.view (eBox 6).toLoadRect (harg3.unread x0)) (View.readAt (Elt F) arg3.view (eBox 7).toLoadRect (harg3.unread x0)) y b

theorem hRd_eq (y : Vec F S1024x2048 .bf16) (b : Vec F S1x1x2048 .f32) : hRd arg3 harg3 x0 y b = hOf x0 y b := by
  unfold hRd hOf; rw [rd_x0 arg3 harg3 x0 0, rd_x0 arg3 harg3 x0 1, rd_x0 arg3 harg3 x0 2, rd_x0 arg3 harg3 x0 3, rd_x0 arg3 harg3 x0 4, rd_x0 arg3 harg3 x0 5, rd_x0 arg3 harg3 x0 6, rd_x0 arg3 harg3 x0 7]

set_option maxHeartbeats 1000000 in
theorem pieces_A1 (h1 : freshW i (tW1 c xt1) (tW0 c i xt0) (tP0 c i xt0) = 1#1) (h2 : k0_cond2 i (tW1 c xt1) = 1#1) (h3 : ¬k0_cond3 i (tW1 c xt1) = 1#1) : (eRunA c i arg3 harg3 arg4 harg4 arg5 harg5 arg6 harg6 arg7 harg7 arg8 harg8 arg9 harg9 arg10 harg10 x0 x1 x2 x3 x4 xt0 xt1 h1 h2 h3).1.2.1
    = [⟨Rect.unit ![0, 0] S1024x2048.size inb_S1024x2048_S1024x2048_0_0, k0_pay1 x1⟩] := by
  have e : (eRunA c i arg3 harg3 arg4 harg4 arg5 harg5 arg6 harg6 arg7 harg7 arg8 harg8 arg9 harg9 arg10 harg10 x0 x1 x2 x3 x4 xt0 xt1 h1 h2 h3).1.2.1
    = [⟨Rect.unit ![0, 0] S1024x2048.size inb_S1024x2048_S1024x2048_0_0, k0_pay1 (View.readAt (Elt F) arg4.view (Rect.unit (s := S1x1024x2048) ![0, 0, 0] S1x1024x2048.size inb_S1x1024x2048_S1x1024x2048_0_0_0).toLoadRect (harg4.unread x1))⟩] := rfl
  rw [e, rd_x1]

set_option maxHeartbeats 1000000 in
theorem pieces_A2 (h1 : freshW i (tW1 c xt1) (tW0 c i xt0) (tP0 c i xt0) = 1#1) (h2 : k0_cond2 i (tW1 c xt1) = 1#1) (h3 : ¬k0_cond3 i (tW1 c xt1) = 1#1) : (eRunA c i arg3 harg3 arg4 harg4 arg5 harg5 arg6 harg6 arg7 harg7 arg8 harg8 arg9 harg9 arg10 harg10 x0 x1 x2 x3 x4 xt0 xt1 h1 h2 h3).1.2.2
    = [⟨Rect.unit ![0, 0] S1024x1024.size inb_S1024x1024_S1024x1024_0_0, k0_pay2 x3⟩] := by
  have e : (eRunA c i arg3 harg3 arg4 harg4 arg5 harg5 arg6 harg6 arg7 harg7 arg8 harg8 arg9 harg9 arg10 harg10 x0 x1 x2 x3 x4 xt0 xt1 h1 h2 h3).1.2.2
    = [⟨Rect.unit ![0, 0] S1024x1024.size inb_S1024x1024_S1024x1024_0_0, k0_pay2 (View.readAt (Elt F) arg6.view (Rect.unit (s := S1x1024x1024) ![0, 0, 0] S1x1024x1024.size inb_S1x1024x1024_S1x1024x1024_0_0_0).toLoadRect (harg6.unread x3))⟩] := rfl
  rw [e, rd_x3]

set_option maxHeartbeats 1000000 in
theorem pieces_A0 (h1 : freshW i (tW1 c xt1) (tW0 c i xt0) (tP0 c i xt0) = 1#1) (h2 : k0_cond2 i (tW1 c xt1) = 1#1) (h3 : ¬k0_cond3 i (tW1 c xt1) = 1#1) : (eRunA c i arg3 harg3 arg4 harg4 arg5 harg5 arg6 harg6 arg7 harg7 arg8 harg8 arg9 harg9 arg10 harg10 x0 x1 x2 x3 x4 xt0 xt1 h1 h2 h3).1.1
    = outList (hOf x0 (k0_pay1 x1) x2) (k0_pay2 x3) x4 := by
  have e : (eRunA c i arg3 harg3 arg4 harg4 arg5 harg5 arg6 harg6 arg7 harg7 arg8 harg8 arg9 harg9 arg10 harg10 x0 x1 x2 x3 x4 xt0 xt1 h1 h2 h3).1.1
    = outList (hRd arg3 harg3 x0 (arg9.view.readCov [⟨Rect.unit (s := S1024x2048) ![0, 0] S1024x2048.size inb_S1024x2048_S1024x2048_0_0, k0_pay1 (View.readAt (Elt F) arg4.view (Rect.unit (s := S1x1024x2048) ![0, 0, 0] S1x1024x2048.size inb_S1x1024x2048_S1x1024x2048_0_0_0).toLoadRect (harg4.unread x1))⟩] (Rect.unit (s := S1024x2048) ![0, 0] S1024x2048.size inb_S1024x2048_S1024x2048_0_0).toLoadRect) (View.readAt (Elt F) arg5.view (Rect.unit (s := S1x1x2048) ![0, 0, 0] S1x1x2048.size inb_S1x1x2048_S1x1x2048_0_0_0).toLoadRect (harg5.unread x2)))
      (arg10.view.readCov [⟨Rect.unit (s := S1024x1024) ![0, 0] S1024x1024.size inb_S1024x1024_S1024x1024_0_0, k0_pay2 (View.readAt (Elt F) arg6.view (Rect.unit (s := S1x1024x1024) ![0, 0, 0] S1x1024x1024.size inb_S1x1024x1024_S1x1024x1024_0_0_0).toLoadRect (harg6.unread x3))⟩] (Rect.unit (s := S1024x1024) ![0, 0] S1024x1024.size inb_S1024x1024_S1024x1024_0_0).toLoadRect) (View.readAt (Elt F) arg7.view (Rect.unit (s := S1x1x1024) ![0, 0, 0] S1x1x1024.size inb_S1x1x1024_S1x1x1024_0_0_0).toLoadRect (harg7.unread x4)) := rfl
  rw [e, rd_x1, rd_x2, rd_x3, rd_x4, View.readCov_full, View.readCov_full, hRd_eq]

set_option maxHeartbeats 1000000 in
theorem pieces_B (h1 : ¬freshW i (tW1 c xt1) (tW0 c i xt0) (tP0 c i xt0) = 1#1) (h2 : k0_cond2 i (tW1 c xt1) = 1#1) (h3 : ¬k0_cond3 i (tW1 c xt1) = 1#1) : (eRunB c i arg3 harg3 arg4 harg4 arg5 harg5 arg6 harg6 arg7 harg7 arg8 harg8 arg9 harg9 arg10 harg10 x0 x1 x2 x3 x4 y0 y1 xt0 xt1 h1 h2 h3).1
    = outList (hOf x0 y0 x2) y1 x4 := by
  have e : (eRunB c i arg3 harg3 arg4 harg4 arg5 harg5 arg6 harg6 arg7 harg7 arg8 harg8 arg9 harg9 arg10 harg10 x0 x1 x2 x3 x4 y0 y1 xt0 xt1 h1 h2 h3).1
    = outList (hRd arg3 harg3 x0 (View.readAt (Elt F) arg9.view (Rect.unit (s := S1024x2048) ![0, 0] S1024x2048.size inb_S1024x2048_S1024x2048_0_0).toLoadRect (harg9.unread y0)) (View.readAt (Elt F) arg5.view (Rect.unit (s := S1x1x2048) ![0, 0, 0] S1x1x2048.size inb_S1x1x2048_S1x1x2048_0_0_0).toLoadRect (harg5.unread x2))) (View.readAt (Elt F) arg10.view (Rect.unit (s := S1024x1024) ![0, 0] S1024x1024.size inb_S1024x1024_S1024x1024_0_0).toLoadRect (harg10.unread y1)) (View.readAt (Elt F) arg7.view (Rect.unit (s := S1x1x1024) ![0, 0, 0] S1x1x1024.size inb_S1x1x1024_S1x1x1024_0_0_0).toLoadRect (harg7.unread x4)) := rfl
  rw [e, rd_x2, rd_x4, rd_y0, rd_y1, hRd_eq]

theorem pieces_C (h1 : ¬freshW i (tW1 c xt1) (tW0 c i xt0) (tP0 c i xt0) = 1#1) (h2 : ¬k0_cond2 i (tW1 c xt1) = 1#1) (h3 : k0_cond3 i (tW1 c xt1) = 1#1) : (eRunC c i arg3 harg3 arg4 harg4 arg5 harg5 arg6 harg6 arg7 harg7 arg8 harg8 arg9 harg9 arg10 harg10 x0 x1 x2 x3 x4 xt0 xt1 h1 h2 h3).1
    = [⟨Rect.unit ![0, 0] S4096x128.size inb_S4096x128_S4096x128_0_0, k0_pay12⟩] := rfl

/-- One piece over a whole buffer covers it and is what it holds. -/
theorem full2_cover {n k : Nat} {e : EltTy} (b : ∀ a, (![0, 0] : Fin 2 → Nat) a + (⟨2, ![n, k]⟩ : Shape).size a ≤ (⟨2, ![n, k]⟩ : Shape).size a)
    (w : Vec F ⟨2, ![n, k]⟩ e) (y : (⟨2, ![n, k]⟩ : Shape).Idx) :
    ∃ p ∈ ([⟨Rect.unit ![0, 0] (⟨2, ![n, k]⟩ : Shape).size b, w⟩] : List (View.Piece (Elt F) ⟨2, ![n, k]⟩ e)), y ∈ p.1.set :=
  ⟨_, List.mem_singleton_self _, View.mem_set_unit_zero (by funext a; fin_cases a <;> rfl) b y⟩
theorem full2_canon {n k : Nat} {e : EltTy} (b : ∀ a, (![0, 0] : Fin 2 → Nat) a + (⟨2, ![n, k]⟩ : Shape).size a ≤ (⟨2, ![n, k]⟩ : Shape).size a)
    (w : Vec F ⟨2, ![n, k]⟩ e) :
    View.canon ([⟨Rect.unit ![0, 0] (⟨2, ![n, k]⟩ : Shape).size b, w⟩] : List (View.Piece (Elt F) ⟨2, ![n, k]⟩ e)) = w :=
  View.canon_unit_zero (by funext a; fin_cases a <;> rfl) b w

/-! ## The body's cases -/

set_option maxHeartbeats 1000000 in
/-- The first block of an expert: the weights are cast and kept, and the block is computed. -/
theorem eCleanA (h1 : freshW i (tW1 c xt1) (tW0 c i xt0) (tP0 c i xt0) = 1#1) (h2 : k0_cond2 i (tW1 c xt1) = 1#1) (h3 : ¬k0_cond3 i (tW1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf x0 (k0_pay1 x1) x2 (k0_pay2 x3) x4) ∗ owns (c : Thread nD τ) arg9 fullShare (k0_pay1 x1) ∗ owns (c : Thread nD τ) arg10 fullShare (k0_pay2 x3) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  iintro ⟨H0, H1, H2, H3, H4, H5, HS0, HS1, HT0, HT1, Hk⟩
  iapply (eRunA c i arg3 harg3 arg4 harg4 arg5 harg5 arg6 harg6 arg7 harg7 arg8 harg8 arg9 harg9 arg10 harg10 x0 x1 x2 x3 x4 xt0 xt1 h1 h2 h3).2
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  iapply Hk
  isplitl [H0]; · iexact H0
  isplitl [H1]; · iexact H1
  isplitl [H2]; · iexact H2
  isplitl [H3]; · iexact H3
  isplitl [H4]; · iexact H4
  isplitl [H5]
  · iapply (owns_canon c arg8 (eRunA c i arg3 harg3 arg4 harg4 arg5 harg5 arg6 harg6 arg7 harg7 arg8 harg8 arg9 harg9 arg10 harg10 x0 x1 x2 x3 x4 xt0 xt1 h1 h2 h3).1.1 (by rw [pieces_A0 c i arg3 harg3 arg4 harg4 arg5 harg5 arg6 harg6 arg7 harg7 arg8 harg8 arg9 harg9 arg10 harg10 x0 x1 x2 x3 x4 xt0 xt1 h1 h2 h3]; exact out_cover _ _ _) _ (by rw [pieces_A0 c i arg3 harg3 arg4 harg4 arg5 harg5 arg6 harg6 arg7 harg7 arg8 harg8 arg9 harg9 arg10 harg10 x0 x1 x2 x3 x4 xt0 xt1 h1 h2 h3]; exact out_canon _ _ _))
    iexact H5
  isplitl [HS0]
  · iapply (owns_canon c arg9 (eRunA c i arg3 harg3 arg4 harg4 arg5 harg5 arg6 harg6 arg7 harg7 arg8 harg8 arg9 harg9 arg10 harg10 x0 x1 x2 x3 x4 xt0 xt1 h1 h2 h3).1.2.1 (by rw [pieces_A1 c i arg3 harg3 arg4 harg4 arg5 harg5 arg6 harg6 arg7 harg7 arg8 harg8 arg9 harg9 arg10 harg10 x0 x1 x2 x3 x4 xt0 xt1 h1 h2 h3]; exact full2_cover _ _) _ (by rw [pieces_A1 c i arg3 harg3 arg4 harg4 arg5 harg5 arg6 harg6 arg7 harg7 arg8 harg8 arg9 harg9 arg10 harg10 x0 x1 x2 x3 x4 xt0 xt1 h1 h2 h3]; exact full2_canon _ _))
    iexact HS0
  isplitl [HS1]
  · iapply (owns_canon c arg10 (eRunA c i arg3 harg3 arg4 harg4 arg5 harg5 arg6 harg6 arg7 harg7 arg8 harg8 arg9 harg9 arg10 harg10 x0 x1 x2 x3 x4 xt0 xt1 h1 h2 h3).1.2.2 (by rw [pieces_A2 c i arg3 harg3 arg4 harg4 arg5 harg5 arg6 harg6 arg7 harg7 arg8 harg8 arg9 harg9 arg10 harg10 x0 x1 x2 x3 x4 xt0 xt1 h1 h2 h3]; exact full2_cover _ _) _ (by rw [pieces_A2 c i arg3 harg3 arg4 harg4 arg5 harg5 arg6 harg6 arg7 harg7 arg8 harg8 arg9 harg9 arg10 harg10 x0 x1 x2 x3 x4 xt0 xt1 h1 h2 h3]; exact full2_canon _ _))
    iexact HS1
  isplitl [HT0]; · iexact HT0
  iexact HT1

set_option maxHeartbeats 1000000 in
/-- A further block of an expert: computed with the weights kept. -/
theorem eCleanB (h1 : ¬freshW i (tW1 c xt1) (tW0 c i xt0) (tP0 c i xt0) = 1#1) (h2 : k0_cond2 i (tW1 c xt1) = 1#1) (h3 : ¬k0_cond3 i (tW1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y0 ∗ owns (c : Thread nD τ) arg10 fullShare y1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf x0 y0 x2 y1 x4) ∗ owns (c : Thread nD τ) arg9 fullShare y0 ∗ owns (c : Thread nD τ) arg10 fullShare y1 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  iintro ⟨H0, H1, H2, H3, H4, H5, HS0, HS1, HT0, HT1, Hk⟩
  iapply (eRunB c i arg3 harg3 arg4 harg4 arg5 harg5 arg6 harg6 arg7 harg7 arg8 harg8 arg9 harg9 arg10 harg10 x0 x1 x2 x3 x4 y0 y1 xt0 xt1 h1 h2 h3).2
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  iapply Hk
  isplitl [H0]; · iexact H0
  isplitl [H1]; · iexact H1
  isplitl [H2]; · iexact H2
  isplitl [H3]; · iexact H3
  isplitl [H4]; · iexact H4
  isplitl [H5]
  · iapply (owns_canon c arg8 (eRunB c i arg3 harg3 arg4 harg4 arg5 harg5 arg6 harg6 arg7 harg7 arg8 harg8 arg9 harg9 arg10 harg10 x0 x1 x2 x3 x4 y0 y1 xt0 xt1 h1 h2 h3).1 (by rw [pieces_B c i arg3 harg3 arg4 harg4 arg5 harg5 arg6 harg6 arg7 harg7 arg8 harg8 arg9 harg9 arg10 harg10 x0 x1 x2 x3 x4 y0 y1 xt0 xt1 h1 h2 h3]; exact out_cover _ _ _) _ (by rw [pieces_B c i arg3 harg3 arg4 harg4 arg5 harg5 arg6 harg6 arg7 harg7 arg8 harg8 arg9 harg9 arg10 harg10 x0 x1 x2 x3 x4 y0 y1 xt0 xt1 h1 h2 h3]; exact out_canon _ _ _))
    iexact H5
  isplitl [HS0]
  · iexact HS0
  isplitl [HS1]
  · iexact HS1
  isplitl [HT0]; · iexact HT0
  iexact HT1

set_option maxHeartbeats 1000000 in
/-- A block that is not used: zeros. -/
theorem eCleanC (h1 : ¬freshW i (tW1 c xt1) (tW0 c i xt0) (tP0 c i xt0) = 1#1) (h2 : ¬k0_cond2 i (tW1 c xt1) = 1#1) (h3 : k0_cond3 i (tW1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay12) ∗ (∃ d, owns (c : Thread nD τ) arg9 fullShare d) ∗ (∃ d, owns (c : Thread nD τ) arg10 fullShare d) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  iintro ⟨H0, H1, H2, H3, H4, H5, HS0, HS1, HT0, HT1, Hk⟩
  iapply (eRunC c i arg3 harg3 arg4 harg4 arg5 harg5 arg6 harg6 arg7 harg7 arg8 harg8 arg9 harg9 arg10 harg10 x0 x1 x2 x3 x4 xt0 xt1 h1 h2 h3).2
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  iapply Hk
  isplitl [H0]; · iexact H0
  isplitl [H1]; · iexact H1
  isplitl [H2]; · iexact H2
  isplitl [H3]; · iexact H3
  isplitl [H4]; · iexact H4
  isplitl [H5]
  · iapply (owns_canon c arg8 (eRunC c i arg3 harg3 arg4 harg4 arg5 harg5 arg6 harg6 arg7 harg7 arg8 harg8 arg9 harg9 arg10 harg10 x0 x1 x2 x3 x4 xt0 xt1 h1 h2 h3).1 (by rw [pieces_C c i arg3 harg3 arg4 harg4 arg5 harg5 arg6 harg6 arg7 harg7 arg8 harg8 arg9 harg9 arg10 harg10 x0 x1 x2 x3 x4 xt0 xt1 h1 h2 h3]; exact full2_cover _ _) _ (by rw [pieces_C c i arg3 harg3 arg4 harg4 arg5 harg5 arg6 harg6 arg7 harg7 arg8 harg8 arg9 harg9 arg10 harg10 x0 x1 x2 x3 x4 xt0 xt1 h1 h2 h3]; exact full2_canon _ _))
    iexact H5
  isplitl [HS0]
  · iexact HS0
  isplitl [HS1]
  · iexact HS1
  isplitl [HT0]; · iexact HT0
  iexact HT1

end Cert.Kernel2Ideal.Gen

end
-- ==== Proof.EWords.lean ====
/- The words of the tables a block reads, the conditions on them, and the blocks each point reads, at an index. -/
module

public import proofs.«01_k».proof.Proof.EClean
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ)

/-! ## The words -/

/-- The expert of block `t`, and the number of blocks used. -/
def beW (t : Fin 288) : BitVec 32 := m ((0 : Dev nD), Proc.devRef .tc main_arg1) (ix1 t)
def nuW : BitVec 32 := m ((0 : Dev nD), Proc.devRef .tc main_arg2) (ix1 0)

theorem tbl0 (y : S288.Idx) : tbl m 0 y = m ((0 : Dev nD), Proc.devRef .tc main_arg1) y := congrFun (V_main_arg1 m 0) y
theorem tbl1 (y : S1.Idx) : tbl m 1 y = m ((0 : Dev nD), Proc.devRef .tc main_arg2) y := congrFun (V_main_arg2 m 0) y

theorem coordP (t : Fin grid0.N) : (grid0.coords t 0).val = t.val := by
  have h : (grid0.coords t 0).val = t.val / 1 % 288 := Pipeline.Grid.coords_val t 0 (by decide) rfl
  rw [h, Nat.div_one, Nat.mod_eq_of_lt (lt_of_lt_of_eq t.isLt N_0)]

/-- The block before. -/
def prevT (t : Fin 288) : Fin 288 := ⟨t.val - 1, by have := t.isLt; omega⟩
abbrev bT (t : Fin grid0.N) : Fin 288 := t.cast N_0

theorem off1_eq (t : Fin grid0.N) : k0_off1 (grid0.coords t) 0 = t.val := by
  show (BitVec.ofNat 32 (grid0.coords t 0).val).toNat = _
  rw [coordP, WordCmp.toNat_ofNat_of_lt (by have := lt_of_lt_of_eq t.isLt N_0; omega)]
theorem off2_eq : ∀ t : Fin grid0.N, k0_off2 (grid0.coords t) 0 = t.val - 1 := by decide +kernel

theorem tW0_eq (c : Dev nD) (t : Fin grid0.N) : tW0 c (grid0.coords t) (tbl m 0) = beW m (bT t) := by
  refine (tbl0 m _).trans ?_
  unfold beW
  congr 1
  funext (a : Fin 1); refine Fin.ext ?_
  obtain rfl : a = 0 := Subsingleton.elim _ _
  show k0_off1 (grid0.coords t) 0 + 1 * 0 = t.val
  rw [off1_eq]; rfl
theorem tP0_eq (c : Dev nD) (t : Fin grid0.N) : tP0 c (grid0.coords t) (tbl m 0) = beW m (prevT (bT t)) := by
  refine (tbl0 m _).trans ?_
  unfold beW
  congr 1
  funext (a : Fin 1); refine Fin.ext ?_
  obtain rfl : a = 0 := Subsingleton.elim _ _
  show k0_off2 (grid0.coords t) 0 + 1 * 0 = t.val - 1
  rw [off2_eq]; rfl
theorem tW1_eq (c : Dev nD) : tW1 c (tbl m 1) = nuW m := by
  refine (tbl1 m _).trans ?_
  unfold nuW
  congr 1
  funext (a : Fin 1); refine Fin.ext ?_
  obtain rfl : a = 0 := Subsingleton.elim _ _
  rfl

/-! ## The conditions -/

/-- Whether block `t` is used. -/
def used (t : Fin 288) : Prop := (t.val : ℤ) < (nuW m).toInt
instance (t : Fin 288) : Decidable (used m t) := inferInstanceAs (Decidable (_ < _))

theorem bit_ne (b : Bool) : Scalar.cmpi .ne (Scalar.extui (BitVec.ofBool b) : BitVec 32) 0#32 = 1#1 ↔ b = true := by
  cases b <;> decide

theorem ofNat_toInt (t : Fin grid0.N) : (BitVec.ofNat 32 (grid0.coords t 0).val).toInt = (t.val : ℤ) := by
  rw [coordP, WordCmp.toInt_ofNat_of_lt (by have := lt_of_lt_of_eq t.isLt N_0; norm_num; omega)]

theorem slt_eq (t : Fin grid0.N) : Scalar.cmpi .slt (BitVec.ofNat 32 (grid0.coords t 0).val) (nuW m) = BitVec.ofBool (decide (used m (bT t))) := by
  show BitVec.ofBool (BitVec.slt _ _) = _
  unfold BitVec.slt used
  rw [ofNat_toInt]; rfl
theorem sge_eq (t : Fin grid0.N) : Scalar.cmpi .sge (BitVec.ofNat 32 (grid0.coords t 0).val) (nuW m) = BitVec.ofBool (decide (¬used m (bT t))) := by
  show BitVec.ofBool (BitVec.sle _ _) = _
  unfold BitVec.sle used
  rw [ofNat_toInt]
  congr 1
  exact decide_eq_decide.mpr not_lt.symm

theorem cond2_iff (t : Fin grid0.N) : k0_cond2 (grid0.coords t) (nuW m) = 1#1 ↔ used m (bT t) := by
  unfold k0_cond2; dsimp only; rw [slt_eq, bit_ne, decide_eq_true_iff]
theorem cond3_iff (t : Fin grid0.N) : k0_cond3 (grid0.coords t) (nuW m) = 1#1 ↔ ¬used m (bT t) := by
  unfold k0_cond3; dsimp only; rw [sge_eq, bit_ne, decide_eq_true_iff]

theorem zero_iff : ∀ t : Fin grid0.N, Scalar.cmpi .eq (BitVec.ofNat 32 (grid0.coords t 0).val) 0#32 = BitVec.ofBool (decide (t.val = 0)) := by
  decide +kernel

theorem fresh_iff (t : Fin grid0.N) (v w : BitVec 32) :
    freshW (grid0.coords t) (nuW m) v w = 1#1 ↔ used m (bT t) ∧ (t.val = 0 ∨ v ≠ w) := by
  have hne : Scalar.cmpi .ne v w = BitVec.ofBool (decide (v ≠ w)) := WordCmp.cmpi_ne_eq v w
  have ha : ∀ p q : Bool, Scalar.andi (BitVec.ofBool p) (BitVec.ofBool q) = BitVec.ofBool (p && q) := WordCmp.andi_ofBool
  have ho : ∀ p q : Bool, Scalar.ori (BitVec.ofBool p) (BitVec.ofBool q) = BitVec.ofBool (p || q) := WordCmp.ori_ofBool
  unfold freshW
  rw [slt_eq, zero_iff, hne, ho, ha, bit_ne]
  simp only [Bool.and_eq_true, Bool.or_eq_true, decide_eq_true_eq]

theorem used_prev (t : Fin 288) (h : used m t) : used m (prevT t) := by
  unfold used prevT at *; dsimp only; omega

/-! ## The index maps -/

theorem at1 (h) (n) : (tbl m).at 1 (Rect.unit (s := S1) ![0] S1.size h) n = nuW m := tW1_eq m 0
theorem at0 (t : Fin grid0.N) (n) : (tbl m).at 0 (Rect.unit (s := S288) ![(Scalar.indexCast (BitVec.ofNat 32 (grid0.coords t 0).val) : Index).toNat] S1.size (k0_off1_inb (grid0.coords t))) n = beW m (bT t) := tW0_eq m 0 t

/-- The block of rows a point reads: its own, or the last used. -/
def rowW (t : Fin 288) : BitVec 32 := Scalar.minsi (BitVec.ofNat 32 t.val) (Scalar.subi (nuW m) 1#32)

theorem tr0 (t : Fin grid0.N) : cc0_transform_0 inb_S1_S1_0 numel1_S1 (tbl m) (grid0.coords t) = ![(rowW m (bT t)).toNat, 0] := by
  unfold cc0_transform_0; dsimp only; rw [at1 m _ numel1_S1, coordP]; rfl
theorem tr1 (t : Fin grid0.N) : cc0_transform_1 k0_off1_inb numel1_S1 (tbl m) (grid0.coords t) = ![(beW m (bT t)).toNat, 0, 0] := by
  unfold cc0_transform_1; dsimp only; rw [at0 m t numel1_S1]; rfl
theorem tr2 (t : Fin grid0.N) : cc0_transform_2 k0_off1_inb numel1_S1 (tbl m) (grid0.coords t) = ![(beW m (bT t)).toNat, 0, 0] := by
  unfold cc0_transform_2; dsimp only; rw [at0 m t numel1_S1]; rfl
theorem tr3 (t : Fin grid0.N) : cc0_transform_3 k0_off1_inb numel1_S1 (tbl m) (grid0.coords t) = ![(beW m (bT t)).toNat, 0, 0] := by
  unfold cc0_transform_3; dsimp only; rw [at0 m t numel1_S1]; rfl
theorem tr4 (t : Fin grid0.N) : cc0_transform_4 k0_off1_inb numel1_S1 (tbl m) (grid0.coords t) = ![(beW m (bT t)).toNat, 0, 0] := by
  unfold cc0_transform_4; dsimp only; rw [at0 m t numel1_S1]; rfl
theorem tr5 : ∀ t : Fin grid0.N, cc0_transform_5 (grid0.coords t) = ![t.val, 0] := by decide +kernel

variable (hO : Ok m) (c : Dev nD) (t : Fin (cfgM m hO).N)

theorem ix0e : ((cfgM m hO).win 0).index t = ![(rowW m (bT t)).toNat, 0] := tr0 m t
theorem ix1e : ((cfgM m hO).win 1).index t = ![(beW m (bT t)).toNat, 0, 0] := tr1 m t
theorem ix2e : ((cfgM m hO).win 2).index t = ![(beW m (bT t)).toNat, 0, 0] := tr2 m t
theorem ix3e : ((cfgM m hO).win 3).index t = ![(beW m (bT t)).toNat, 0, 0] := tr3 m t
theorem ix4e : ((cfgM m hO).win 4).index t = ![(beW m (bT t)).toNat, 0, 0] := tr4 m t
theorem ix5e : ((cfgM m hO).win 5).index t = ![t.val, 0] := tr5 t

include hO in
/-- Where the tables are admissible every block's expert is one of the 32. -/
theorem be_lt (t : Fin 288) : (beW m t).toNat < 32 := by
  obtain ⟨h, _⟩ := hO.2.1 (grid0.coords (t.cast N_0.symm))
  have h0 := h 0
  rw [tr1] at h0
  have h1 : ((beW m t).toNat + 1) * 1 ≤ 32 := h0
  omega

/-! ## The blocks a point reads -/

theorem rdb0 (r : Fin 4096) (l : Fin 128) (R : Fin 1179648) (hR : R.val = (rowW m (bT t)).toNat * 4096 + r.val) :
    iblk m hO c 0 t (ix2 r l) = m ((c : Thread nD τ).loc main_arg0) (ix2 R l) := by
  unfold iblk
  show V m c main_arg0 ((((cfgM m hO).win 0).blk t).view.emb (ix2 r l)) = _
  rw [V_main_arg0]
  congr 1
  funext (a : Fin 2); refine Fin.ext ?_
  refine (Window.rect_emb_val ((cfgM m hO).win 0) t (ix2 r l) a rfl).trans ?_
  rw [ix0e]
  fin_cases a
  · exact hR.symm
  · show 0 * 128 + l.val = l.val
    omega

theorem rdb1 (a : Fin 1024) (b : Fin 2048) (B : Fin 32) (hB : B.val = (beW m (bT t)).toNat) :
    iblk m hO c 1 t (ix3 0 a b) = m ((c : Thread nD τ).loc main_arg3) (ix3 B a b) := by
  unfold iblk
  show V m c main_arg3 ((((cfgM m hO).win 1).blk t).view.emb (ix3 0 a b)) = _
  rw [V_main_arg3]
  congr 1
  funext (x : Fin 3); refine Fin.ext ?_
  refine (Window.rect_emb_val ((cfgM m hO).win 1) t (ix3 0 a b) x rfl).trans ?_
  rw [ix1e]
  fin_cases x
  · show (beW m (bT t)).toNat * 1 + 0 = B.val
    omega
  · show 0 * 1024 + a.val = a.val
    omega
  · show 0 * 2048 + b.val = b.val
    omega

theorem rdb3 (a : Fin 1024) (b : Fin 1024) (B : Fin 32) (hB : B.val = (beW m (bT t)).toNat) :
    iblk m hO c 3 t (ix3 0 a b) = m ((c : Thread nD τ).loc main_arg5) (ix3 B a b) := by
  unfold iblk
  show V m c main_arg5 ((((cfgM m hO).win 3).blk t).view.emb (ix3 0 a b)) = _
  rw [V_main_arg5]
  congr 1
  funext (x : Fin 3); refine Fin.ext ?_
  refine (Window.rect_emb_val ((cfgM m hO).win 3) t (ix3 0 a b) x rfl).trans ?_
  rw [ix3e]
  fin_cases x
  · show (beW m (bT t)).toNat * 1 + 0 = B.val
    omega
  · show 0 * 1024 + a.val = a.val
    omega
  · show 0 * 1024 + b.val = b.val
    omega

theorem rdb2 (b : Fin 2048) (B : Fin 32) (hB : B.val = (beW m (bT t)).toNat) :
    iblk m hO c 2 t (ix3 0 0 b) = m ((c : Thread nD τ).loc main_arg4) (ix2 B b) := by
  unfold iblk
  show V m c main_v0 ((((cfgM m hO).win 2).blk t).view.emb (ix3 0 0 b)) = _
  have he : (((cfgM m hO).win 2).blk t).view.emb (ix3 0 0 b) = (ix3 B 0 b : S32x1x2048.Idx) := by
    funext (x : Fin 3); refine Fin.ext ?_
    refine (Window.rect_emb_val ((cfgM m hO).win 2) t (ix3 0 0 b) x rfl).trans ?_
    rw [ix2e]
    fin_cases x
    · show (beW m (bT t)).toNat * 1 + 0 = B.val
      omega
    · rfl
    · show 0 * 2048 + b.val = b.val
      omega
  rw [he]
  entry_read
  pointwise

theorem rdb4 (b : Fin 1024) (B : Fin 32) (hB : B.val = (beW m (bT t)).toNat) :
    iblk m hO c 4 t (ix3 0 0 b) = m ((c : Thread nD τ).loc main_arg6) (ix2 B b) := by
  unfold iblk
  show V m c main_v1 ((((cfgM m hO).win 4).blk t).view.emb (ix3 0 0 b)) = _
  have he : (((cfgM m hO).win 4).blk t).view.emb (ix3 0 0 b) = (ix3 B 0 b : S32x1x1024.Idx) := by
    funext (x : Fin 3); refine Fin.ext ?_
    refine (Window.rect_emb_val ((cfgM m hO).win 4) t (ix3 0 0 b) x rfl).trans ?_
    rw [ix4e]
    fin_cases x
    · show (beW m (bT t)).toNat * 1 + 0 = B.val
      omega
    · rfl
    · show 0 * 1024 + b.val = b.val
      omega
  rw [he]
  entry_read
  pointwise

end Cert.Kernel2Ideal.Gen

end
-- ==== Proof.EOk.lean ====
/- Where every block's expert is one of the 32 and a block is used, every window of the expert layer lies inside its array. -/
module

public import proofs.«01_k».proof.Proof.EWords

@[expose] public section

set_option maxRecDepth 16384

noncomputable section

namespace Cert.Kernel2Ideal.Gen

open Idealize.ShloMosaic Idealize.ShloMosaic.TcCoe Idealize.ShloMosaic.Tactic

variable {F : FTy → Type} [FloatOps F]
variable (m : (ℓ : Loc nD τ sig) → Buf (Elt F) ℓ)

theorem nat_of_int (w : BitVec 32) (h : 0 ≤ w.toInt) : (w.toNat : ℤ) = w.toInt := by
  have h1 := BitVec.toInt_eq_toNat_cond w
  have h2 := w.isLt
  split at h1 <;> omega

theorem be_nat (t : Fin 288) (h : 0 ≤ (beW m t).toInt ∧ (beW m t).toInt < 32) : (beW m t).toNat < 32 := by
  have := nat_of_int _ h.1
  omega

/-- The row block a point reads: its own where it is used, the last used block's otherwise. -/
theorem row_val (hn : 1 ≤ (nuW m).toInt) (t : Fin 288) : (rowW m t).toNat = min t.val ((nuW m).toInt.toNat - 1) := by
  have h1 := nat_of_int (nuW m) (by omega)
  have h2 := t.isLt
  have h3 := (nuW m).isLt
  have h31 : (nuW m).toInt < 2 ^ 31 := by have := @BitVec.toInt_lt 32 (nuW m); simpa using this
  have hs : (Scalar.subi (nuW m) 1#32).toNat = (nuW m).toNat - 1 := by
    show (nuW m - 1#32).toNat = _
    rw [BitVec.toNat_sub]
    show (2 ^ 32 - 1 + (nuW m).toNat) % 2 ^ 32 = _
    omega
  have hsi : (Scalar.subi (nuW m) 1#32).toInt = (nuW m).toInt - 1 := by
    rw [BitVec.toInt_eq_toNat_of_lt (by rw [hs]; omega), hs]; omega
  have ht : (BitVec.ofNat 32 t.val).toInt = (t.val : ℤ) := WordCmp.toInt_ofNat_of_lt (by norm_num; omega)
  have hm : rowW m t = if BitVec.slt (BitVec.ofNat 32 t.val) (Scalar.subi (nuW m) 1#32) then BitVec.ofNat 32 t.val else Scalar.subi (nuW m) 1#32 := rfl
  rw [hm]
  unfold BitVec.slt
  rw [hsi, ht]
  by_cases hc : (t.val : ℤ) < (nuW m).toInt - 1
  · rw [if_pos (decide_eq_true hc), WordCmp.toNat_ofNat_of_lt (by omega)]; omega
  · rw [if_neg (by rw [decide_eq_false hc]; exact Bool.false_ne_true), hs]; omega

theorem row_lt (hn : 1 ≤ (nuW m).toInt) (t : Fin 288) : (rowW m t).toNat < 288 := by
  have := t.isLt
  rw [row_val m hn]; omega
theorem row_used (hn : 1 ≤ (nuW m).toInt) (t : Fin 288) (hu : used m t) : (rowW m t).toNat = t.val := by
  unfold used at hu
  rw [row_val m hn]; omega

/-- The grid's points are its coordinates. -/
theorem coords_onto (i : grid0.Coords) : ∃ t : Fin grid0.N, grid0.coords t = i := by
  refine ⟨(i 0 : Fin 288).cast N_0.symm, ?_⟩
  funext a
  obtain rfl : a = 0 := Subsingleton.elim (α := Fin 1) _ _
  exact Fin.ext (coordP _)

/-- Every window lies inside its array. -/
theorem ok (hb : ∀ t : Fin 288, 0 ≤ (beW m t).toInt ∧ (beW m t).toInt < 32) (hn : 1 ≤ (nuW m).toInt) : Ok m := by
  refine ⟨fun i => ?_, fun i => ?_, fun i => ?_, fun i => ?_, fun i => ?_⟩
  all_goals obtain ⟨t, rfl⟩ := coords_onto i
  all_goals have hr := row_lt m hn (bT t)
  all_goals have he := be_nat m (bT t) (hb (bT t))
  all_goals refine ⟨fun a => ?_, .inl rfl⟩
  · rw [tr0]
    fin_cases a
    · show ((rowW m (bT t)).toNat + 1) * 4096 ≤ 1179648
      omega
    · show (0 + 1) * 128 ≤ 128
      omega
  · rw [tr1]
    fin_cases a
    · show ((beW m (bT t)).toNat + 1) * 1 ≤ 32
      omega
    · show (0 + 1) * 1024 ≤ 1024
      omega
    · show (0 + 1) * 2048 ≤ 2048
      omega
  · rw [tr2]
    fin_cases a
    · show ((beW m (bT t)).toNat + 1) * 1 ≤ 32
      omega
    · show (0 + 1) * 1 ≤ 1
      omega
    · show (0 + 1) * 2048 ≤ 2048
      omega
  · rw [tr3]
    fin_cases a
    · show ((beW m (bT t)).toNat + 1) * 1 ≤ 32
      omega
    · show (0 + 1) * 1024 ≤ 1024
      omega
    · show (0 + 1) * 1024 ≤ 1024
      omega
  · rw [tr4]
    fin_cases a
    · show ((beW m (bT t)).toNat + 1) * 1 ≤ 32
      omega
    · show (0 + 1) * 1 ≤ 1
      omega
    · show (0 + 1) * 1024 ≤ 1024
      omega

end Cert.Kernel2Ideal.Gen

end
-- ==== Proof.EState.lean ====
/- What each buffer holds before and after every point of the expert layer's grid, and the run of the whole program from it. -/
module

public import proofs.«01_k».proof.Proof.EWords

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The weights at a point -/

section
variable (hO : Ok m) (c : Dev nD) (t : Fin (cfgM m hO).N)

/-- The expert of block `t`. -/
def beF (t : Fin 288) : Fin 32 := ⟨(beW m t).toNat, be_lt m hO t⟩

/-- The blocks a point reads. -/
def x0At : Vec F S4096x128 .f32 := iblk m hO c 0 t
def x1At : Vec F S1x1024x2048 .f32 := iblk m hO c 1 t
def x2At : Vec F S1x1x2048 .f32 := iblk m hO c 2 t
def x3At : Vec F S1x1024x1024 .f32 := iblk m hO c 3 t
def x4At : Vec F S1x1x1024 .f32 := iblk m hO c 4 t

theorem x1At_eq : x1At m hO c t = fun y => m ((c : Thread nD τ).loc main_arg3) (ix3 (beF m hO (bT t)) (y 1) (y 2)) := by
  funext y
  have h : y = ix3 0 (y 1) (y 2) := by
    funext (a : Fin 3); fin_cases a
    · exact Subsingleton.elim (α := Fin 1) _ _
    · rfl
    · rfl
  conv_lhs => rw [h]
  exact rdb1 m hO c t _ _ _ rfl
theorem x3At_eq : x3At m hO c t = fun y => m ((c : Thread nD τ).loc main_arg5) (ix3 (beF m hO (bT t)) (y 1) (y 2)) := by
  funext y
  have h : y = ix3 0 (y 1) (y 2) := by
    funext (a : Fin 3); fin_cases a
    · exact Subsingleton.elim (α := Fin 1) _ _
    · rfl
    · rfl
  conv_lhs => rw [h]
  exact rdb3 m hO c t _ _ _ rfl

/-- The weights kept after block `t`. -/
def k1At : Vec F S1024x2048 .bf16 := k0_pay1 (x1At m hO c t)
def k2At : Vec F S1024x1024 .bf16 := k0_pay2 (x3At m hO c t)

/-- The tile block `t` leaves. -/
def outAt : Vec F S4096x128 .f32 :=
  if used m (bT t) then outOf (x0At m hO c t) (k1At m hO c t) (x2At m hO c t) (k2At m hO c t) (x4At m hO c t) else k0_pay12

/-- The point before. -/
def prevP : Fin (cfgM m hO).N := ⟨t.val - 1, lt_of_le_of_lt (Nat.sub_le _ _) t.isLt⟩

theorem x1At_prev (h : beW m (bT t) = beW m (prevT (bT t))) : x1At m hO c (prevP m hO t) = x1At m hO c t := by
  rw [x1At_eq, x1At_eq]
  have : beF m hO (bT (prevP m hO t)) = beF m hO (bT t) := Fin.ext (show (beW m (prevT (bT t))).toNat = (beW m (bT t)).toNat by rw [h])
  rw [this]
theorem x3At_prev (h : beW m (bT t) = beW m (prevT (bT t))) : x3At m hO c (prevP m hO t) = x3At m hO c t := by
  rw [x3At_eq, x3At_eq]
  have : beF m hO (bT (prevP m hO t)) = beF m hO (bT t) := Fin.ext (show (beW m (prevT (bT t))).toNat = (beW m (bT t)).toNat by rw [h])
  rw [this]

/-! ## The invariant -/

/-- The scratch at anything, and at given weights. -/
def scrAny (c : Dev nD) : sProp 𝕄 := iprop((∃ d, owns (c : Thread nD τ) scM0_0 fullShare d) ∗ (∃ d, owns (c : Thread nD τ) scM0_1 fullShare d))
def scrOwn (c : Dev nD) (y0 : Vec F S1024x2048 .bf16) (y1 : Vec F S1024x1024 .bf16) : sProp 𝕄 :=
  iprop(owns (c : Thread nD τ) scM0_0 fullShare y0 ∗ owns (c : Thread nD τ) scM0_1 fullShare y1)

theorem scrOwn_any (c : Dev nD) (y0 : Vec F S1024x2048 .bf16) (y1 : Vec F S1024x1024 .bf16) : scrOwn c y0 y1 ⊢ scrAny (F := F) c := by
  unfold scrOwn scrAny
  iintro ⟨H0, H1⟩
  isplitl [H0]; · iexists _; iexact H0
  iexists _; iexact H1

/-- The scratch after block `t`: a used block's weights. -/
def scrAfter : sProp 𝕄 := if used m (bT t) then scrOwn c (k1At m hO c t) (k2At m hO c t) else scrAny c

theorem scrAfter_any : scrAfter m hO c t ⊢ scrAny (F := F) c := by
  unfold scrAfter
  split
  · exact scrOwn_any c _ _
  · exact .rfl

/-- The invariant before position `n`: the scratch, and the tables' halves. -/
def PhiS (hO : Ok m) (c : Dev nD) : (n : ℕ) → n ≤ (cfgM m hO).N → sProp 𝕄
  | 0, _ => iprop((scrAny c ∗ (∃ r, prngReg c r)) ∗ (tbPt0 c tbM0_0 (tbl m 0) ∗ tbPt0 c tbM0_1 (tbl m 1)))
  | n + 1, hn => iprop((scrAfter m hO c ⟨n, hn⟩ ∗ (∃ r, prngReg c r)) ∗ (tbPt0 c tbM0_0 (tbl m 0) ∗ tbPt0 c tbM0_1 (tbl m 1)))

theorem PhiS_pos (hz : t.val ≠ 0) :
    PhiS m hO c t.val (Nat.le_of_lt t.isLt) = iprop((scrAfter m hO c (prevP m hO t) ∗ (∃ r, prngReg c r)) ∗ (tbPt0 c tbM0_0 (tbl m 0) ∗ tbPt0 c tbM0_1 (tbl m 1))) := by
  obtain ⟨n, hn⟩ := t
  cases n with
  | zero => exact absurd rfl hz
  | succ n => rfl

/-- At any position the scratch is at something. -/
theorem PhiS_any : (n : ℕ) → (hn : n ≤ (cfgM m hO).N) →
    (PhiS m hO c n hn ⊢ iprop((scrAny (F := F) c ∗ (∃ r, prngReg c r)) ∗ (tbPt0 c tbM0_0 (tbl m 0) ∗ tbPt0 c tbM0_1 (tbl m 1))))
  | 0, _ => .rfl
  | n + 1, hn => by
    unfold PhiS
    iintro ⟨⟨H, Hg⟩, HT⟩
    isplitl [H Hg]
    · isplitl [H]
      · iapply (scrAfter_any m hO c ⟨n, hn⟩); iexact H
      iexact Hg
    iexact HT

theorem PhiA_scr (c : Dev nD) : (iprop(Pipeline.ΦA spec0 c ∗ Pipeline.ΦT pre0 (tbl m) c) : sProp 𝕄)
    = iprop((scrAny (F := F) c ∗ (∃ r, prngReg c r)) ∗ (tbPt0 c tbM0_0 (tbl m 0) ∗ tbPt0 c tbM0_1 (tbl m 1))) := by
  rw [PhiA0_eq, PhiT0_eq]; rfl

end

/-! ## The proof data -/

/-- The proof data of the one pipeline on core `c`: the inputs stay at their blocks, the output tile is `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by dsimp only [dats]
theorem Phi_castSucc (hO : Ok m) (c : Dev nD) (t : Fin (cfgM m hO).N) : (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = x0At m hO c t :=
  before0_0_of m hO (dats m hO 0 c) (A_eq m hO c 0) (after0_0 m hO c) t d
theorem before0_1 (hO : Ok m) (c : Dev nD) (t : Fin (cfgM m hO).N) (d) : (dats m hO 0 c).before 1 t d = x1At m hO c t :=
  before0_1_of m hO (dats m hO 0 c) (A_eq m hO c 1) (after0_1 m hO c) t d
theorem before0_2 (hO : Ok m) (c : Dev nD) (t : Fin (cfgM m hO).N) (d) : (dats m hO 0 c).before 2 t d = x2At m hO c t :=
  before0_2_of m hO (dats m hO 0 c) (A_eq m hO c 2) (after0_2 m hO c) t d
theorem before0_3 (hO : Ok m) (c : Dev nD) (t : Fin (cfgM m hO).N) (d) : (dats m hO 0 c).before 3 t d = x3At m hO c t :=
  before0_3_of m hO (dats m hO 0 c) (A_eq m hO c 3) (after0_3 m hO c) t d
theorem before0_4 (hO : Ok m) (c : Dev nD) (t : Fin (cfgM m hO).N) (d) : (dats m hO 0 c).before 4 t d = x4At m hO c t :=
  before0_4_of m hO (dats m hO 0 c) (A_eq m hO c 4) (after0_4 m hO c) t d

/-! ## The body at every point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t)

theorem leaves0 (hO : Ok m) (c : Dev nD) (t : Fin (cfgM m hO).N) : (dats m hO 0 c).leavesExact 0 t = owns (c : Thread nD τ) (ms0_0 m hO t) fullShare (x0At m hO c t) := rfl
theorem leaves1 (hO : Ok m) (c : Dev nD) (t : Fin (cfgM m hO).N) : (dats m hO 0 c).leavesExact 1 t = owns (c : Thread nD τ) (ms0_1 m hO t) fullShare (x1At m hO c t) := rfl
theorem leaves2 (hO : Ok m) (c : Dev nD) (t : Fin (cfgM m hO).N) : (dats m hO 0 c).leavesExact 2 t = owns (c : Thread nD τ) (ms0_2 m hO t) fullShare (x2At m hO c t) := rfl
theorem leaves3 (hO : Ok m) (c : Dev nD) (t : Fin (cfgM m hO).N) : (dats m hO 0 c).leavesExact 3 t = owns (c : Thread nD τ) (ms0_3 m hO t) fullShare (x3At m hO c t) := rfl
theorem leaves4 (hO : Ok m) (c : Dev nD) (t : Fin (cfgM m hO).N) : (dats m hO 0 c).leavesExact 4 t = owns (c : Thread nD τ) (ms0_4 m hO t) fullShare (x4At m hO c t) := rfl
theorem leaves5 (hO : Ok m) (c : Dev nD) (t : Fin (cfgM m hO).N) : (dats m hO 0 c).leavesExact 5 t = owns (c : Thread nD τ) (ms0_5 m hO t) fullShare (outAt m hO c t) := by
  have hf : ((cfgM m hO).win 5).flush t = true := flush0_5 (adm m hO) t
  unfold Dat.leavesExact
  rw [hf, after0_5]
  cases (cfgM m hO).idle 5 ((cfgM m hO).grid.coords t) <;> rfl

/-- What the body holds at point `t` with the scratch `S`, and the output at `O`. -/
def bodyMid (hO : Ok m) (c : Dev nD) (t : Fin (cfgM m hO).N) (S O : sProp 𝕄) : sProp 𝕄 :=
  iprop(((S ∗ (∃ r, prngReg c r)) ∗ (tbPt0 c tbM0_0 (tbl m 0) ∗ tbPt0 c tbM0_1 (tbl m 1))) ∗ (dats m hO 0 c).owesAt () t.castSucc
    ∗ owns (c : Thread nD τ) (ms0_0 m hO t) fullShare (x0At m hO c t)
    ∗ owns (c : Thread nD τ) (ms0_1 m hO t) fullShare (x1At m hO c t)
    ∗ owns (c : Thread nD τ) (ms0_2 m hO t) fullShare (x2At m hO c t)
    ∗ owns (c : Thread nD τ) (ms0_3 m hO t) fullShare (x3At m hO c t)
    ∗ owns (c : Thread nD τ) (ms0_4 m hO t) fullShare (x4At m hO c t)
    ∗ O)

theorem pre_mid (hO : Ok m) (c : Dev nD) (t : Fin (cfgM m hO).N) (S : sProp 𝕄)
    (h : PhiS m hO c t.val (Nat.le_of_lt t.isLt) ⊢ iprop((S ∗ (∃ r, prngReg c r)) ∗ (tbPt0 c tbM0_0 (tbl m 0) ∗ tbPt0 c tbM0_1 (tbl m 1)))) :
    bodyPre m hO c t ⊢ bodyMid m hO c t S (iprop(∃ d, owns (c : Thread nD τ) (ms0_5 m hO t) fullShare d)) := by
  unfold bodyPre bodyMid
  simp only [Phi_castSucc, before0_0, before0_1, before0_2, before0_3, before0_4]
  iintro ⟨HP, Ho, ⟨%d0, H0⟩, ⟨%d1, H1⟩, ⟨%d2, H2⟩, ⟨%d3, H3⟩, ⟨%d4, H4⟩, ⟨%d5, H5⟩⟩
  isplitl [HP]; · iapply h; iexact HP
  isplitl [Ho]; · iexact Ho
  isplitl [H0]; · iexact H0
  isplitl [H1]; · iexact H1
  isplitl [H2]; · iexact H2
  isplitl [H3]; · iexact H3
  isplitl [H4]; · iexact H4
  iexists _; iexact H5

theorem mid_post (hO : Ok m) (c : Dev nD) (t : Fin (cfgM m hO).N) :
    bodyMid m hO c t (scrAfter m hO c t) (owns (c : Thread nD τ) (ms0_5 m hO t) fullShare (outAt m hO c t)) ⊢ bodyPost m hO c t := by
  unfold bodyPost bodyMid
  rw [leaves0, leaves1, leaves2, leaves3, leaves4, leaves5]
  exact .rfl

set_option maxHeartbeats 2000000 in
/-- The body at every point takes the invariant before it to the invariant after it. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases hu : used m (bT t)
  · have h2 : k0_cond2 (grid0.coords t) (tW1 c (tbl m 1)) = 1#1 := by rw [tW1_eq]; exact (cond2_iff m t).mpr hu
    have h3 : ¬k0_cond3 (grid0.coords t) (tW1 c (tbl m 1)) = 1#1 := by rw [tW1_eq, cond3_iff]; exact not_not.mpr hu
    by_cases h1 : freshW (grid0.coords t) (tW1 c (tbl m 1)) (tW0 c (grid0.coords t) (tbl m 0)) (tP0 c (grid0.coords t) (tbl m 0)) = 1#1
    · refine (pre_mid m hO c t (scrAny c) (PhiS_any m hO c _ _)).trans ?_
      unfold bodyMid scrAny
      iintro ⟨⟨⟨⟨HS0, HS1⟩, Hg⟩, ⟨HT0, HT1⟩⟩, Ho, H0, H1, H2, H3, H4, H5⟩
      iapply (eCleanA c (grid0.coords t) _ _ _ _ _ _ _ _ _ _ _ _ _ _ _ _ (x0At m hO c t) (x1At m hO c t) (x2At m hO c t) (x3At m hO c t) (x4At m hO c t) (tbl m 0) (tbl m 1) h1 h2 h3)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      iapply (mid_post m hO c t)
      unfold bodyMid scrAfter scrOwn outAt k1At k2At
      rw [if_pos hu, if_pos hu]
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · have h1' := h1
      rw [tW1_eq, tW0_eq, tP0_eq, fresh_iff] at h1'
      have hz : t.val ≠ 0 := fun h => h1' ⟨hu, .inl h⟩
      have he : beW m (bT t) = beW m (prevT (bT t)) := by
        by_contra h
        exact h1' ⟨hu, .inr h⟩
      have hup : used m (bT (prevP m hO t)) := used_prev m (bT t) hu
      have hs : PhiS m hO c t.val (Nat.le_of_lt t.isLt) = iprop((scrOwn c (k1At m hO c t) (k2At m hO c t) ∗ (∃ r, prngReg c r)) ∗ (tbPt0 c tbM0_0 (tbl m 0) ∗ tbPt0 c tbM0_1 (tbl m 1))) := by
        rw [PhiS_pos m hO c t hz]
        unfold scrAfter k1At k2At
        rw [if_pos hup, x1At_prev m hO c t he, x3At_prev m hO c t he]
      refine (pre_mid m hO c t (scrOwn c (k1At m hO c t) (k2At m hO c t)) (by rw [hs])).trans ?_
      unfold bodyMid scrOwn
      iintro ⟨⟨⟨⟨HS0, HS1⟩, Hg⟩, ⟨HT0, HT1⟩⟩, Ho, H0, H1, H2, H3, H4, H5⟩
      iapply (eCleanB c (grid0.coords t) _ _ _ _ _ _ _ _ _ _ _ _ _ _ _ _ (x0At m hO c t) (x1At m hO c t) (x2At m hO c t) (x3At m hO c t) (x4At m hO c t) (k1At m hO c t) (k2At m hO c t) (tbl m 0) (tbl m 1) h1 h2 h3)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      iapply (mid_post m hO c t)
      unfold bodyMid scrAfter scrOwn outAt
      rw [if_pos hu, if_pos hu]
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · have h2 : ¬k0_cond2 (grid0.coords t) (tW1 c (tbl m 1)) = 1#1 := by rw [tW1_eq, cond2_iff]; exact hu
    have h3 : k0_cond3 (grid0.coords t) (tW1 c (tbl m 1)) = 1#1 := by rw [tW1_eq]; exact (cond3_iff m t).mpr hu
    have h1 : ¬freshW (grid0.coords t) (tW1 c (tbl m 1)) (tW0 c (grid0.coords t) (tbl m 0)) (tP0 c (grid0.coords t) (tbl m 0)) = 1#1 := by
      rw [tW1_eq, fresh_iff]; exact fun h => hu h.1
    refine (pre_mid m hO c t (scrAny c) (PhiS_any m hO c _ _)).trans ?_
    unfold bodyMid scrAny
    iintro ⟨⟨⟨⟨HS0, HS1⟩, Hg⟩, ⟨HT0, HT1⟩⟩, Ho, H0, H1, H2, H3, H4, H5⟩
    iapply (eCleanC c (grid0.coords t) _ _ _ _ _ _ _ _ _ _ _ _ _ _ _ _ (x0At m hO c t) (x1At m hO c t) (x2At m hO c t) (x3At m hO c t) (x4At m hO c t) (tbl m 0) (tbl m 1) h1 h2 h3)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    iapply (mid_post m hO c t)
    unfold bodyMid scrAfter scrAny outAt
    rw [if_neg hu, if_neg hu]
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact sound_body m hO c t

/-! ## The run and the frame -/

set_option backward.isDefEq.respectTransparency.types false in
/-- Every run ends with the arrays at what the proof data say, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      rw [show (dats m hO 0 c).Φ 0 = PhiS m hO c 0 (Nat.zero_le _) from rfl]
      rw [PhiA_scr m c]
      exact .rfl)
    (hout := fun c => by
      refine (PhiS_any m hO c _ (le_refl (cfgM m hO).N)).trans ?_
      rw [PhiA0_eq]
      unfold scrAny
      iintro ⟨H, _⟩
      iexact H)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged and every semaphore ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO)) ((θ_run defs _ _).mono (fun _ h => h.2) (run_main_quiescent m ρ hO))

end Cert.Kernel2Ideal.Gen

end
-- ==== Proof.EPre.lean ====
/- What the expert layer's precondition says of the two tables: every block's expert is one of the 32, and a block is used. -/
module

public import proofs.«01_k».proof.Defs
public import proofs.«01_k».proof.Proof.Gen.Pre_routed
public import Idealize.ShloMosaic.Lib.Pointwise
public import Idealize.ShloMosaic.Lib.ReduceAll

@[expose] public section

set_option maxRecDepth 16384

noncomputable section

namespace Cert.Routed

open Idealize.ShloMosaic Cert.Pre_routed

theorem sge_one {x y : BitVec 32} (h : IntOp.cmpi .sge x y = 1#1) : y.toInt ≤ x.toInt := by
  have h' : BitVec.ofBool (BitVec.sle y x) = 1#1 := h
  unfold BitVec.sle at h'
  by_contra hc
  rw [decide_eq_false hc] at h'
  exact absurd h' (by decide)
theorem slt_one {x y : BitVec 32} (h : IntOp.cmpi .slt x y = 1#1) : x.toInt < y.toInt := by
  have h' : BitVec.ofBool (BitVec.slt x y) = 1#1 := h
  unfold BitVec.slt at h'
  by_contra hc
  rw [decide_eq_false hc] at h'
  exact absurd h' (by decide)

variable {F : FTy → Type} [FloatOps F] [Cert.Pre_routed.Facts]

/-- Under the precondition a block's expert is between 0 and 31 and the number of blocks used is at least 1. -/
theorem words (x0 : FVec F S1179648x128 .f32) (x1 : IVec S288 32) (x2 : IVec S1 32) (x3 : FVec F S32x1024x2048 .f32) (x4 : FVec F S32x2048 .f32)
    (x5 : FVec F S32x1024x1024 .f32) (x6 : FVec F S32x1024 .f32) (h : Cert.Pre_routed.fn (F := F) x0 x1 x2 x3 x4 x5 x6 = fun _ => 1#1) :
    (∀ t : Fin 288, 0 ≤ (x1 (ix1 t)).toInt ∧ (x1 (ix1 t)).toInt < 32) ∧ 1 ≤ (x2 (ix1 0)).toInt := by
  have split : ∀ a b : IVec S_ 1, (andi a b = fun _ => 1#1) → (a = fun _ => 1#1) ∧ b = fun _ => 1#1 := fun a b hab =>
    ⟨funext fun i => (IntOp.andi_eq_one.mp (congrFun hab i)).1, funext fun i => (IntOp.andi_eq_one.mp (congrFun hab i)).2⟩
  unfold Cert.Pre_routed.fn at h
  obtain ⟨ha, hn⟩ := split _ _ h
  haveI : Subsingleton S_.Idx := ⟨fun a b => funext fun k => k.elim0⟩
  constructor
  · intro t
    have := Host.reduce_andi_all _ _ _ _ (fun k => k.elim0) (congrFun ha _) (ix1 t)
    obtain ⟨h1, h2⟩ := IntOp.andi_eq_one.mp this
    exact ⟨sge_one (y := 0#32) h1, slt_one (y := 32#32) h2⟩
  · have h0 := congrFun hn (fun k => k.elim0)
    have h1 : (1#32).toInt ≤ (shapeCast S_ x2 Cert.Pre_routed.Facts.shapeCasts_S1_S_ (fun k => k.elim0)).toInt := sge_one (y := 1#32) h0
    haveI : Subsingleton S1.Idx := ⟨fun a b => funext fun (k : Fin 1) => by
      obtain rfl : k = 0 := Subsingleton.elim _ _
      exact Subsingleton.elim (α := Fin 1) _ _⟩
    have h2 : shapeCast S_ x2 Cert.Pre_routed.Facts.shapeCasts_S1_S_ (fun k => k.elim0) = x2 (ix1 0) := congrArg x2 (Subsingleton.elim _ _)
    rw [h2] at h1
    exact h1

end Cert.Routed

end
-- ==== Proof.EPost.lean ====
/- The expert layer's result array, at an index, is the tile of the index's block. -/
module

public import proofs.«01_k».proof.Proof.EState
public import proofs.«01_k».proof.Proof.EOk
public import Idealize.ShloMosaic.Lib.Pipeline.ValueKit.Geometry

@[expose] public section

set_option maxRecDepth 16384

noncomputable section

namespace Cert.Kernel2Ideal.Gen

open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ) (hO : Ok m) (c : Dev nD)

/-- The point of block `n`. -/
def ptOf (n : Fin 288) : Fin (cfgM m hO).N := n.cast N_0.symm

/-- The whole result, from the tiles of the blocks. -/
def result : Vec F S1179648x128 .f32 := fun i =>
  outAt m hO c (ptOf m hO ⟨(i 0).val / 4096, by have : (i 0).val < 1179648 := (i 0).isLt; omega⟩)
    (ix2 ⟨(i 0).val % 4096, Nat.mod_lt _ (by norm_num)⟩ (i 1))

/-- The tiles cover the array. -/
theorem covers5 : ((cfgM m hO).win 5).Covers := by
  refine ⟨fun a => ?_, fun β => ⟨⟨(β (0 : Fin 2)).val, ?_⟩, flush0_5 (adm m hO) _, fun a => ⟨?_, Or.inl rfl⟩⟩⟩
  · fin_cases a
    · show 0 < 4096
      omega
    · show 0 < 128
      omega
  · have h : (β (0 : Fin 2)).val < (1179648 + 4096 - 1) / 4096 := (β (0 : Fin 2)).isLt
    exact lt_of_lt_of_eq (show (β (0 : Fin 2)).val < 288 by omega) N_0.symm
  · rw [ix5e]
    fin_cases a
    · rfl
    · have h : (β (1 : Fin 2)).val < (128 + 128 - 1) / 128 := (β (1 : Fin 2)).isLt
      show 0 = (β (1 : Fin 2)).val
      omega

theorem out_blk (t : Fin (cfgM m hO).N) (y : S4096x128.Idx) (z : S1179648x128.Idx) (h0 : (z 0).val = t.val * 4096 + (y 0).val)
    (h1 : (z 1).val = 0 * 128 + (y 1).val) : outAt m hO c t y = result m hO c z := by
  have y0 : (y 0).val < 4096 := (y 0).isLt
  have key : ∀ (u : Fin (cfgM m hO).N) (z : S4096x128.Idx), u = t → z = y → outAt m hO c t y = outAt m hO c u z := fun u z hu hz => by rw [hu, hz]
  refine key _ _ (Fin.ext ?_) (funext fun a => Fin.ext ?_)
  · show (z 0).val / 4096 = t.val
    omega
  · fin_cases a
    · show (z 0).val % 4096 = (y 0).val
      omega
    · show (z 1).val = (y 1).val
      omega

/-- The result array holds, at every index, what its block's tile holds. -/
theorem arrAt_out : (dats m hO 0 c).arrAt 5 (cfgM m hO).N = result m hO c := by
  refine (dats m hO 0 c).arrAt_eq_of_covers 5 _ (covers5 m hO) fun t hf y => ?_
  rw [after0_5]
  exact out_blk m hO c t y ((((cfgM m hO).win 5).blk t).view.emb y)
    ((Window.rect_emb_val ((cfgM m hO).win 5) t y (0 : Fin 2) rfl).trans (by rw [ix5e]; rfl))
    ((Window.rect_emb_val ((cfgM m hO).win 5) t y (1 : Fin 2) rfl).trans (by rw [ix5e]; rfl))

end Cert.Kernel2Ideal.Gen

end
-- ==== Proof.EVal.lean ====
/- The expert layer at the ideal numbers: one row through one expert's two products, and the kernel's tile of it, read at an index. -/
module

public import proofs.«01_k».proof.Proof.EClean
public import Idealize.ShloMosaic.Lib.Pointwise
public import Idealize.ShloMosaic.Lib.IdealHost

@[expose] public section

set_option maxRecDepth 16384

noncomputable section

namespace Cert.Moe

open Idealize.ShloMosaic
open scoped BigOperators

/-- The gated activation of a gate and a linear part. -/
def act (g l : EReal) : EReal :=
  (min (Ideal.ofBits .f32 0x40E00000#32) (max (Ideal.ofBits .f32 0xC0E00000#32) l) + Ideal.ofBits .f32 0x3F800000#32)
    * (min g (Ideal.ofBits .f32 0x40E00000#32)
      * Ideal.logistic (Ideal.ofBits .f32 0x3FD9DB23#32 * min g (Ideal.ofBits .f32 0x40E00000#32)))

/-- A row's product with a column, and the column's bias. -/
def lin {n k : ℕ} (X : Fin k → EReal) (W : Fin k → Fin n → EReal) (b : Fin n → EReal) (j : Fin n) : EReal := (∑ i : Fin k, X i * W i j) + b j

/-- A row's hidden layer. -/
def hid (X : Fin 1024 → EReal) (W : Fin 1024 → Fin 2048 → EReal) (b : Fin 2048 → EReal) (e : Fin 1024) : EReal :=
  act (lin X W b ⟨e.val, by omega⟩) (lin X W b ⟨1024 + e.val, by omega⟩)

/-- A row through an expert. -/
def row (X : Fin 1024 → EReal) (W : Fin 1024 → Fin 2048 → EReal) (b : Fin 2048 → EReal) (W' : Fin 1024 → Fin 1024 → EReal) (b' : Fin 1024 → EReal)
    (d : Fin 1024) : EReal := lin (hid X W b) W' b' d

end Cert.Moe

namespace Cert.Kernel2Ideal.Gen

open Idealize.ShloMosaic Idealize.ShloMosaic.TcCoe Idealize.ShloMosaic.Tactic
open Cert.Moe
open scoped BigOperators

theorem pay1_apply (v : Vec Ideal S1x1024x2048 .f32) (a : Fin 1024) (b : Fin 2048) : k0_pay1 (F := Ideal) v (ix2 a b) = v (ix3 0 a b) := by
  pointwise [k0_pay1]
theorem pay2_apply (v : Vec Ideal S1x1024x1024 .f32) (a : Fin 1024) (b : Fin 1024) : k0_pay2 (F := Ideal) v (ix2 a b) = v (ix3 0 a b) := by
  pointwise [k0_pay2]
theorem pay12_apply (i : S4096x128.Idx) : k0_pay12 (F := Ideal) i = (0 : EReal) := by
  rw [← Ideal.ofBits_zero .f32]
  pointwise [k0_pay12]

theorem pay3_apply (h : FVec Ideal S512x1024 .bf16) (w : Vec Ideal S1024x1024 .bf16) (b : Vec Ideal S1x1x1024 .f32) (r : Fin 512) (d : Fin 1024) :
    k0_pay3 (F := Ideal) h w b (ix2 r d) = lin (fun e => h (ix2 r e)) (fun e d => w (ix2 e d)) (fun d => b (ix3 0 0 d)) d := by
  unfold lin
  pointwise [k0_pay3]

/-- A block's row: its lane groups side by side. -/
theorem lanes_apply (x0 : Vec Ideal S4096x128 .f32) (r : Fin 512) (k : Fin 1024) (hc) :
    concatenate S512x1024 1 [⟨S512x128, View.ld x0 (eBox 0)⟩, ⟨S512x128, View.ld x0 (eBox 1)⟩, ⟨S512x128, View.ld x0 (eBox 2)⟩, ⟨S512x128, View.ld x0 (eBox 3)⟩,
      ⟨S512x128, View.ld x0 (eBox 4)⟩, ⟨S512x128, View.ld x0 (eBox 5)⟩, ⟨S512x128, View.ld x0 (eBox 6)⟩, ⟨S512x128, View.ld x0 (eBox 7)⟩] hc (ix2 r k)
      = x0 (ix2 ⟨8 * r.val + k.val / 128, by omega⟩ ⟨k.val % 128, Nat.mod_lt _ (by norm_num)⟩) := by
  have hk := k.isLt
  have pc : ∀ (g : Fin 8) (l : Fin 128), k.val = 128 * g.val + l.val →
      View.ld x0 (eBox g) (ix2 r l) = x0 (ix2 ⟨8 * r.val + k.val / 128, by omega⟩ ⟨k.val % 128, Nat.mod_lt _ (by norm_num)⟩) := by
    intro g l hg
    have := g.isLt
    have := l.isLt
    obtain ⟨e0, e1⟩ := eBox_val g (ix2 r l)
    show x0 ((eBox g).emb (ix2 r l)) = _
    congr 1
    funext a
    refine Fin.ext ?_
    fin_cases a
    · refine e0.trans ?_
      show g.val + 8 * r.val = 8 * r.val + k.val / 128
      omega
    · refine e1.trans ?_
      show l.val = k.val % 128
      omega
  have hd : k.val / 128 < 8 := by omega
  obtain ⟨g, hg⟩ : ∃ g : Fin 8, g.val = k.val / 128 := ⟨⟨_, hd⟩, rfl⟩
  have hkl : k.val = 128 * g.val + k.val % 128 := by omega
  rw [← pc g ⟨k.val % 128, Nat.mod_lt _ (by norm_num)⟩ hkl]
  have hoff : ∀ b : Fin 2, b ≠ 1 → ((ix2 r (⟨k.val % 128, Nat.mod_lt _ (by norm_num)⟩ : Fin 128) : S512x128.Idx) b).val = ((ix2 r k : S512x1024.Idx) b).val := by
    intro b hb
    fin_cases b
    · rfl
    · exact absurd rfl hb
  fin_cases g
  · exact concatenate_apply_piece (t := S512x1024) 1 _ hc (ix2 r k) 0 (by show 0 < 8; omega) S512x128 (View.ld x0 (eBox 0)) rfl rfl 0 rfl (ix2 r _) hoff (by show 0 + k.val % 128 = k.val; have h : 0 = k.val / 128 := hg; omega)
  · exact concatenate_apply_piece (t := S512x1024) 1 _ hc (ix2 r k) 1 (by show 1 < 8; omega) S512x128 (View.ld x0 (eBox 1)) rfl rfl 128 rfl (ix2 r _) hoff (by show 128 + k.val % 128 = k.val; have h : 1 = k.val / 128 := hg; omega)
  · exact concatenate_apply_piece (t := S512x1024) 1 _ hc (ix2 r k) 2 (by show 2 < 8; omega) S512x128 (View.ld x0 (eBox 2)) rfl rfl 256 rfl (ix2 r _) hoff (by show 256 + k.val % 128 = k.val; have h : 2 = k.val / 128 := hg; omega)
  · exact concatenate_apply_piece (t := S512x1024) 1 _ hc (ix2 r k) 3 (by show 3 < 8; omega) S512x128 (View.ld x0 (eBox 3)) rfl rfl 384 rfl (ix2 r _) hoff (by show 384 + k.val % 128 = k.val; have h : 3 = k.val / 128 := hg; omega)
  · exact concatenate_apply_piece (t := S512x1024) 1 _ hc (ix2 r k) 4 (by show 4 < 8; omega) S512x128 (View.ld x0 (eBox 4)) rfl rfl 512 rfl (ix2 r _) hoff (by show 512 + k.val % 128 = k.val; have h : 4 = k.val / 128 := hg; omega)
  · exact concatenate_apply_piece (t := S512x1024) 1 _ hc (ix2 r k) 5 (by show 5 < 8; omega) S512x128 (View.ld x0 (eBox 5)) rfl rfl 640 rfl (ix2 r _) hoff (by show 640 + k.val % 128 = k.val; have h : 5 = k.val / 128 := hg; omega)
  · exact concatenate_apply_piece (t := S512x1024) 1 _ hc (ix2 r k) 6 (by show 6 < 8; omega) S512x128 (View.ld x0 (eBox 6)) rfl rfl 768 rfl (ix2 r _) hoff (by show 768 + k.val % 128 = k.val; have h : 6 = k.val / 128 := hg; omega)
  · exact concatenate_apply_piece (t := S512x1024) 1 _ hc (ix2 r k) 7 (by show 7 < 8; omega) S512x128 (View.ld x0 (eBox 7)) rfl rfl 896 rfl (ix2 r _) hoff (by show 896 + k.val % 128 = k.val; have h : 7 = k.val / 128 := hg; omega)

/-- The hidden layer of a block's row. -/
theorem hOf_apply (x0 : Vec Ideal S4096x128 .f32) (w : Vec Ideal S1024x2048 .bf16) (b : Vec Ideal S1x1x2048 .f32) (r : Fin 512) (e : Fin 1024) :
    hOf x0 w b (ix2 r e) = hid (fun k => x0 (ix2 ⟨8 * r.val + k.val / 128, by omega⟩ ⟨k.val % 128, Nat.mod_lt _ (by norm_num)⟩))
      (fun k j => w (ix2 k j)) (fun j => b (ix3 0 0 j)) e := by
  unfold hOf hid act lin k0_pay13
  simp only [← lanes_apply x0 r _ concatenates_S512x128_S512x128_S512x128_S512x128_S512x128_S512x128_S512x128_S512x128_S512x1024_d1]
  generalize concatenate S512x1024 1 _ _ = X
  pointwise

end Cert.Kernel2Ideal.Gen

end
-- ==== Proof.ERef.lean ====
/- The expert layer's reference, read at an index: a used block's row goes through its block's expert, every other row is zero. -/
module

public import proofs.«01_k».proof.Proof.Gen.Reference2Ideal.Read
public import proofs.«01_k».proof.Proof.EVal
public import Idealize.ShloMosaic.Lib.Routing.Ops

@[expose] public section

set_option maxRecDepth 16384

noncomputable section

namespace Cert.Reference2Ideal.Moe

open Idealize.ShloMosaic Idealize.ShloMosaic.TcCoe Idealize.ShloMosaic.Tactic
open Cert.Reference2Ideal Cert.Reference2Ideal.Gen Cert.Reference2Ideal.Read
open Cert.Moe
open scoped BigOperators

/-- `table[idx]` over the matrices of a table: where `idx` holds at `(c, 0)` a matrix number below the table's length, the result's matrix `c` is that one. -/
theorem gather_slab {α : Type} {nb A B n : ℕ} (wf : GatherDims.WF ⟨3, ![nb, A, B]⟩ ⟨2, ![n, 1]⟩ ⟨3, ![n, A, B]⟩ [1, 2] [0] [] [0] [] 1 ![1, A, B])
    (x : (⟨3, ![nb, A, B]⟩ : Shape).Idx → α) (idx : IVec ⟨2, ![n, 1]⟩ 32) (c : Fin n) (a : Fin A) (b : Fin B) (e : Fin nb)
    (he : (idx (ix2 c (0 : Fin 1))).toInt = e.val) :
    Host.gather (⟨[1, 2], [0], [], [], [0], 1, ![1, A, B], wf⟩ : GatherDims ⟨3, ![nb, A, B]⟩ ⟨2, ![n, 1]⟩ ⟨3, ![n, A, B]⟩) x idx (ix3 c a b) = x (ix3 e a b) := by
  set d : GatherDims ⟨3, ![nb, A, B]⟩ ⟨2, ![n, 1]⟩ ⟨3, ![n, A, B]⟩ := ⟨[1, 2], [0], [], [], [0], 1, ![1, A, B], wf⟩ with hd
  unfold Host.gather
  refine congrArg x (funext fun (y : Fin 3) => Fin.ext ?_)
  show d.start (ix3 c a b) idx y + d.batchCoord (ix3 c a b) y + d.offCoord (ix3 c a b) y = _
  rw [d.batchCoord_eq_zero _ _ (List.not_mem_nil), Nat.add_zero]
  have hy : y = 0 ∨ y = 1 ∨ y = 2 := by fin_cases y <;> simp
  rcases hy with rfl | rfl | rfl
  · rw [d.offCoord_eq_zero _ _ (fun h => ((d.mem_sKept _).mp h).1 (List.mem_singleton.mpr rfl)), Nat.add_zero]
    unfold GatherDims.start
    rw [dif_pos (show (0 : Fin 3) ∈ d.startIndexMap from List.mem_singleton.mpr rfl)]
    have hsi : d.siIdx (ix3 c a b) ⟨List.idxOf (0 : Fin 3) d.startIndexMap, List.idxOf_lt_length_iff.2 (List.mem_singleton.mpr rfl)⟩ = ix2 c (0 : Fin 1) := by
      funext (z : Fin 2); refine Fin.ext ?_
      match z with
      | ⟨0, _⟩ => rfl
      | ⟨1, _⟩ => rfl
    show min (idx (d.siIdx (ix3 c a b) ⟨List.idxOf (0 : Fin 3) d.startIndexMap, _⟩)).toInt.toNat (nb - 1) = e.val
    rw [hsi, he]
    have := e.isLt
    omega
  · unfold GatherDims.start GatherDims.offCoord
    rw [dif_neg (show (1 : Fin 3) ∉ d.startIndexMap from (by decide : (1 : Fin 3) ∉ ([0] : List (Fin 3)))), Nat.zero_add,
      dif_pos (show (1 : Fin 3) ∈ d.sKept from (d.mem_sKept _).mpr ⟨(by decide : (1 : Fin 3) ∉ ([0] : List (Fin 3))), List.not_mem_nil⟩)]
    rfl
  · unfold GatherDims.start GatherDims.offCoord
    rw [dif_neg (show (2 : Fin 3) ∉ d.startIndexMap from (by decide : (2 : Fin 3) ∉ ([0] : List (Fin 3)))), Nat.zero_add,
      dif_pos (show (2 : Fin 3) ∈ d.sKept from (d.mem_sKept _).mpr ⟨(by decide : (2 : Fin 3) ∉ ([0] : List (Fin 3))), List.not_mem_nil⟩)]
    rfl

/-- A number that is not negative is its own index. -/
theorem wrap (w : BitVec 32) (h : 0 ≤ w.toInt) : Scalar.select (IntOp.cmpi .slt w 0#32) (IntOp.addi w 32#32) w = w := by
  have hz : IntOp.cmpi .slt w 0#32 = 0#1 := by
    show BitVec.ofBool (BitVec.slt w 0#32) = 0#1
    unfold BitVec.slt
    rw [decide_eq_false (show ¬w.toInt < (0#32).toInt from not_lt.mpr h)]
    rfl
  rw [hz]; rfl

theorem int_nat (w : BitVec 32) (h : 0 ≤ w.toInt) : w.toInt = (w.toNat : ℤ) := by
  have h1 := BitVec.toInt_eq_toNat_cond w
  have h2 := w.isLt
  split at h1 <;> omega

/-- Row `r` of block `n`. -/
def xrow (x0 : FVec Ideal S1179648x128 .f32) (n : Fin 288) (r : Fin 512) (k : Fin 1024) : EReal :=
  x0 (ix2 ⟨((n.val * 512 + r.val) * 1024 + k.val) / 128, by omega⟩ ⟨((n.val * 512 + r.val) * 1024 + k.val) % 128, by omega⟩)

section
variable (x0 : FVec Ideal S1179648x128 .f32) (x1 : IVec S288 32) (x2 : IVec S1 32) (x3 : FVec Ideal S32x1024x2048 .f32) (x4 : FVec Ideal S32x2048 .f32)
  (x5 : FVec Ideal S32x1024x1024 .f32) (x6 : FVec Ideal S32x1024 .f32) (n : Fin 288) (e : Fin 32) (hs : 0 ≤ (x1 (ix1 n)).toInt) (he : (x1 (ix1 n)).toNat = e.val)

include hs in
theorem v6_at : val_main_v6 (F := Ideal) x1 (ix2 n 0) = x1 (ix1 n) := by
  have hi : idx_main_v6 (ix2 n 0) = ix1 n := by
    funext (z : Fin 1)
    obtain rfl : z = 0 := Subsingleton.elim _ _
    rfl
  rw [val_main_v6_apply, val_main_v5_apply, val_main_v4_apply, val_main_v2_apply, hi, val_main_v1_apply, val_main_v3_apply, val_main_c_apply, val_main_c_0_apply]
  exact wrap _ hs
include hs in
theorem v14_at : val_main_v14 (F := Ideal) x1 (ix2 n 0) = x1 (ix1 n) := by
  have hi : idx_main_v14 (ix2 n 0) = ix1 n := by
    funext (z : Fin 1)
    obtain rfl : z = 0 := Subsingleton.elim _ _
    rfl
  rw [val_main_v14_apply, val_main_v13_apply, val_main_v12_apply, val_main_v10_apply, hi, val_main_v9_apply, val_main_v11_apply, val_main_c_1_apply, val_main_c_2_apply]
  exact wrap _ hs
include hs in
theorem v41_at : val_main_v41 (F := Ideal) x1 (ix2 n 0) = x1 (ix1 n) := by
  have hi : idx_main_v41 (ix2 n 0) = ix1 n := by
    funext (z : Fin 1)
    obtain rfl : z = 0 := Subsingleton.elim _ _
    rfl
  rw [val_main_v41_apply, val_main_v40_apply, val_main_v39_apply, val_main_v37_apply, hi, val_main_v36_apply, val_main_v38_apply, val_main_c_9_apply, val_main_c_10_apply]
  exact wrap _ hs
include hs in
theorem v49_at : val_main_v49 (F := Ideal) x1 (ix2 n 0) = x1 (ix1 n) := by
  have hi : idx_main_v49 (ix2 n 0) = ix1 n := by
    funext (z : Fin 1)
    obtain rfl : z = 0 := Subsingleton.elim _ _
    rfl
  rw [val_main_v49_apply, val_main_v48_apply, val_main_v47_apply, val_main_v45_apply, hi, val_main_v44_apply, val_main_v46_apply, val_main_c_11_apply, val_main_c_12_apply]
  exact wrap _ hs

include hs he in
theorem v7_at (k : Fin 1024) (j : Fin 2048) : val_main_v7 (F := Ideal) x1 x3 (ix3 n k j) = x3 (ix3 e k j) := by
  unfold val_main_v7
  exact gather_slab _ x3 _ n k j e (by rw [v6_at x1 n hs, int_nat _ hs, he])
include hs he in
theorem v42_at (k : Fin 1024) (j : Fin 1024) : val_main_v42 (F := Ideal) x1 x5 (ix3 n k j) = x5 (ix3 e k j) := by
  unfold val_main_v42
  exact gather_slab _ x5 _ n k j e (by rw [v41_at x1 n hs, int_nat _ hs, he])
include hs he in
theorem v15_at (j : Fin 2048) : val_main_v15 (F := Ideal) x1 x4 (ix2 n j) = x4 (ix2 e j) := by
  unfold val_main_v15
  exact Routing.gather_row (nb := 32) (B := 2048) (n := 288) _ rfl rfl rfl rfl rfl x4 _ n j e
    ((v14_at x1 n hs).trans (by rw [← he, BitVec.ofNat_toNat]; exact (BitVec.setWidth_eq _).symm)) (by norm_num)
include hs he in
theorem v50_at (j : Fin 1024) : val_main_v50 (F := Ideal) x1 x6 (ix2 n j) = x6 (ix2 e j) := by
  unfold val_main_v50
  exact Routing.gather_row (nb := 32) (B := 1024) (n := 288) _ rfl rfl rfl rfl rfl x6 _ n j e
    ((v49_at x1 n hs).trans (by rw [← he, BitVec.ofNat_toNat]; exact (BitVec.setWidth_eq _).symm)) (by norm_num)

theorem v0_at (r : Fin 512) (k : Fin 1024) : val_main_v0 (F := Ideal) x0 (ix3 n r k) = xrow x0 n r k := by
  rw [val_main_v0_apply]
  unfold xrow
  congr 1
  funext (a : Fin 2)
  fin_cases a <;> rfl

include hs he in
theorem v18_at (r : Fin 512) (j : Fin 2048) : val_main_v18 (F := Ideal) x0 x1 x3 x4 (ix3 n r j)
    = lin (xrow x0 n r) (fun k j => x3 (ix3 e k j)) (fun j => x4 (ix2 e j)) j := by
  rw [val_main_v18_apply, val_main_v8_apply, val_main_v17_apply, val_main_v16_apply]
  unfold lin
  refine congrArg₂ (· + ·) (Finset.sum_congr rfl fun k _ => congrArg₂ (· * ·) ?_ ?_) ?_
  · refine Eq.trans (congrArg _ ?_) (v0_at x0 n r k)
    funext (a : Fin 3); fin_cases a <;> rfl
  · refine Eq.trans (congrArg _ ?_) (v7_at x1 x3 n e hs he k j)
    funext (a : Fin 3); fin_cases a <;> rfl
  · refine Eq.trans (congrArg _ ?_) (v15_at x1 x4 n e hs he j)
    funext (a : Fin 2); fin_cases a <;> rfl

include hs he in
theorem v35_at (r : Fin 512) (j : Fin 1024) : val_main_v35 (F := Ideal) x0 x1 x3 x4 (ix3 n r j)
    = hid (xrow x0 n r) (fun k j => x3 (ix3 e k j)) (fun j => x4 (ix2 e j)) j := by
  have hg : val_main_v19 (F := Ideal) x0 x1 x3 x4 (ix3 n r j) = lin (xrow x0 n r) (fun k j => x3 (ix3 e k j)) (fun j => x4 (ix2 e j)) ⟨j.val, by omega⟩ := by
    rw [val_main_v19_apply, ← v18_at x0 x1 x3 x4 n e hs he r]
    congr 1
    funext (a : Fin 3); fin_cases a <;> rfl
  have hl : val_main_v20 (F := Ideal) x0 x1 x3 x4 (ix3 n r j) = lin (xrow x0 n r) (fun k j => x3 (ix3 e k j)) (fun j => x4 (ix2 e j)) ⟨1024 + j.val, by omega⟩ := by
    rw [val_main_v20_apply, ← v18_at x0 x1 x3 x4 n e hs he r]
    congr 1
    funext (a : Fin 3); fin_cases a <;> rfl
  unfold hid
  rw [← hg, ← hl]
  generalize hG : val_main_v19 (F := Ideal) x0 x1 x3 x4 (ix3 n r j) = G
  generalize hL : val_main_v20 (F := Ideal) x0 x1 x3 x4 (ix3 n r j) = L
  rw [val_main_v35_apply, val_main_v34_apply, val_main_v32_apply, val_main_v31_apply, val_main_v29_apply, val_main_v27_apply, val_main_v26_apply, val_main_v25_apply,
    val_main_v23_apply, val_main_v22_apply, val_main_call0_v2_apply, hG, hL, val_main_v33_apply, val_main_v30_apply, val_main_v28_apply, val_main_v24_apply,
    val_main_v21_apply, val_main_call0_v4_apply, val_main_call0_v1_apply, val_main_call0_v3_apply, val_main_call0_v0_apply, val_main_cst_8_apply,
    val_main_cst_7_apply, val_main_cst_6_apply, val_main_cst_5_apply, val_main_cst_4_apply, val_main_cst_3_apply, val_main_cst_apply]
  unfold act Ideal.logistic
  have h1 : (1 : EReal) = Ideal.ofBits .f32 0x3F800000#32 := Ideal.ofBits_one_f32.symm
  rw [h1]
  rfl

include hs he in
theorem v53_at (r : Fin 512) (d : Fin 1024) : val_main_v53 (F := Ideal) x0 x1 x3 x4 x5 x6 (ix3 n r d)
    = row (xrow x0 n r) (fun k j => x3 (ix3 e k j)) (fun j => x4 (ix2 e j)) (fun k j => x5 (ix3 e k j)) (fun j => x6 (ix2 e j)) d := by
  rw [val_main_v53_apply, val_main_v43_apply, val_main_v52_apply, val_main_v51_apply]
  unfold row
  unfold lin
  refine congrArg₂ (· + ·) (Finset.sum_congr rfl fun k _ => congrArg₂ (· * ·) ?_ ?_) ?_
  · refine Eq.trans (congrArg _ ?_) (v35_at x0 x1 x3 x4 n e hs he r k)
    funext (a : Fin 3); fin_cases a <;> rfl
  · refine Eq.trans (congrArg _ ?_) (v42_at x1 x5 n e hs he k d)
    funext (a : Fin 3); fin_cases a <;> rfl
  · refine Eq.trans (congrArg _ ?_) (v50_at x1 x6 n e hs he d)
    funext (a : Fin 2); fin_cases a <;> rfl

/-- The reference marks the blocks below the number used. -/
theorem used_at (r : Fin 512) (d : Fin 1024) : val_main_call1_v1 (F := Ideal) x2 (ix3 n r d) = BitVec.ofBool (decide ((n.val : ℤ) < (x2 (ix1 0)).toInt)) := by
  have h55 : ∀ z : S_.Idx, val_main_v55 (F := Ideal) x2 z = x2 (ix1 0) := fun z => by
    haveI : Subsingleton S1.Idx := ⟨fun a b => funext fun (k : Fin 1) => by
      obtain rfl : k = 0 := Subsingleton.elim _ _
      exact Subsingleton.elim (α := Fin 1) _ _⟩
    exact congrArg x2 (Subsingleton.elim _ _)
  rw [val_main_call1_v1_apply, val_main_v58_apply, val_main_v57_apply, val_main_v54_apply, val_main_v56_apply, h55]
  show BitVec.ofBool (BitVec.slt (BitVec.ofNat 32 n.val) _) = _
  unfold BitVec.slt
  rw [WordCmp.toInt_ofNat_of_lt (by have := n.isLt; norm_num; omega)]

/-- The reference's result at an index. -/
theorem v60_at (i : S1179648x128.Idx) (r : Fin 512) (d : Fin 1024) (hi : (i 0).val * 128 + (i 1).val = (n.val * 512 + r.val) * 1024 + d.val)
    (he : (n.val : ℤ) < (x2 (ix1 0)).toInt → 0 ≤ (x1 (ix1 n)).toInt ∧ (x1 (ix1 n)).toNat = e.val) :
    val_main_v60 (F := Ideal) x0 x1 x2 x3 x4 x5 x6 i = if (n.val : ℤ) < (x2 (ix1 0)).toInt
      then row (xrow x0 n r) (fun k j => x3 (ix3 e k j)) (fun j => x4 (ix2 e j)) (fun k j => x5 (ix3 e k j)) (fun j => x6 (ix2 e j)) d else 0 := by
  have hix : idx_main_v60 i = (ix3 n r d : S288x512x1024.Idx) := by
    have := r.isLt
    have := d.isLt
    funext (a : Fin 3); refine Fin.ext ?_
    fin_cases a
    · show ((i 0).val * 128 + (i 1).val) / 524288 = n.val
      omega
    · show ((i 0).val * 128 + (i 1).val) / 1024 % 512 = r.val
      omega
    · show ((i 0).val * 128 + (i 1).val) % 1024 = d.val
      omega
  rw [val_main_v60_apply, hix, val_main_v59_apply, used_at]
  by_cases hu : (n.val : ℤ) < (x2 (ix1 0)).toInt
  · rw [if_pos hu, decide_eq_true hu, ← v53_at x0 x1 x3 x4 x5 x6 n e (he hu).1 (he hu).2 r d]
    rfl
  · rw [if_neg hu, decide_eq_false hu, ← Ideal.ofBits_zero .f32]
    rw [val_main_call1_v2_apply, val_main_call1_v0_apply, val_main_cst_13_apply]
    rfl

end

end Cert.Reference2Ideal.Moe

end
-- ==== Proof.EValue.lean ====
/- The expert layer's result is its reference's, where every block's expert is one of the 32 and a block is used. -/
module

public import proofs.«01_k».proof.Proof.EPost
public import proofs.«01_k».proof.Proof.ERef

@[expose] public section

set_option maxRecDepth 16384

noncomputable section

namespace Cert.Kernel2Ideal.Gen

open Idealize.ShloMosaic Idealize.ShloMosaic.TcCoe Idealize.ShloMosaic.Tactic
open Cert.Moe
open Cert.Reference2Ideal.Moe (xrow v60_at)

variable (m : (ℓ : Loc nD τ sig) → Buf (Elt Ideal) ℓ) (c : Dev nD)

/-- The reference's result at the kernel's arguments. -/
def spec : Vec Ideal S1179648x128 .f32 :=
  Cert.Reference2Ideal.Read.val_main_v60 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- A tile's entry, from what the blocks' entries are. -/
theorem outOf_of (x0 : Vec Ideal S4096x128 .f32) (y0 : Vec Ideal S1024x2048 .f32) (x2 : Vec Ideal S1x1x2048 .f32) (w1 : Vec Ideal S1024x1024 .f32)
    (x4 : Vec Ideal S1x1x1024 .f32) (y : S4096x128.Idx) (r : Fin 512) (d : Fin 1024) (hr : (y 0).val / 8 = r.val)
    (hd : 128 * ((y 0).val % 8) + (y 1).val = d.val) (X : Fin 1024 → EReal) (W : Fin 1024 → Fin 2048 → EReal) (b : Fin 2048 → EReal)
    (W' : Fin 1024 → Fin 1024 → EReal) (b' : Fin 1024 → EReal)
    (hX : ∀ (k : Fin 1024), x0 (ix2 ⟨8 * r.val + k.val / 128, by have := r.isLt; have := k.isLt; omega⟩ ⟨k.val % 128, Nat.mod_lt _ (by norm_num)⟩) = X k)
    (h1 : ∀ k j, y0 (ix2 k j) = W k j) (h2 : ∀ j, x2 (ix3 0 0 j) = b j) (h3 : ∀ k j, w1 (ix2 k j) = W' k j) (h4 : ∀ j, x4 (ix3 0 0 j) = b' j) :
    outOf x0 y0 x2 w1 x4 y = row X W b W' b' d := by
  obtain rfl : X = _ := funext fun k => (hX k).symm
  obtain rfl : W = _ := funext fun k => funext fun j => (h1 k j).symm
  obtain rfl : b = _ := funext fun j => (h2 j).symm
  obtain rfl : W' = _ := funext fun k => funext fun j => (h3 k j).symm
  obtain rfl : b' = _ := funext fun j => (h4 j).symm
  have hy : outOf x0 y0 x2 w1 x4 y = k0_pay3 (hOf x0 y0 x2) w1 x4 (ix2 r d) := by
    unfold outOf spread
    refine congrArg _ ?_
    have e0 : (⟨(y 0).val / 8, by have : (y 0).val < 4096 := (y 0).isLt; omega⟩ : Fin 512) = r := Fin.ext hr
    have e1 : (⟨128 * ((y 0).val % 8) + (y 1).val, by have : (y 1).val < 128 := (y 1).isLt; omega⟩ : Fin 1024) = d := Fin.ext hd
    exact congrArg₂ ix2 e0 e1
  rw [hy, pay3_apply]
  unfold row
  refine congrArg (fun H => lin H _ _ d) (funext fun e => ?_)
  exact hOf_apply _ _ _ _ e

/-- A used block's tile, at an index, is the row through the block's expert. -/
theorem outOf_at (hO : Ok m) (hn : 1 ≤ (nuW m).toInt) (t : Fin (cfgM m hO).N) (hu : used m (bT t)) (y : S4096x128.Idx) :
    outOf (x0At m hO c t) (k1At m hO c t) (x2At m hO c t) (k2At m hO c t) (x4At m hO c t) y
      = row (xrow (m ((c : Thread nD τ).loc main_arg0)) (bT t) ⟨(y 0).val / 8, by have : (y 0).val < 4096 := (y 0).isLt; omega⟩)
          (fun k j => m ((c : Thread nD τ).loc main_arg3) (ix3 (beF m hO (bT t)) k j)) (fun j => m ((c : Thread nD τ).loc main_arg4) (ix2 (beF m hO (bT t)) j))
          (fun k j => m ((c : Thread nD τ).loc main_arg5) (ix3 (beF m hO (bT t)) k j)) (fun j => m ((c : Thread nD τ).loc main_arg6) (ix2 (beF m hO (bT t)) j))
          ⟨128 * ((y 0).val % 8) + (y 1).val, by have : (y 1).val < 128 := (y 1).isLt; omega⟩ := by
  have y0 : (y 0).val < 4096 := (y 0).isLt
  have y1 : (y 1).val < 128 := (y 1).isLt
  have hr := row_used m hn (bT t) hu
  refine outOf_of (x0At m hO c t) (k1At m hO c t) (x2At m hO c t) (k2At m hO c t) (x4At m hO c t) y ⟨(y 0).val / 8, by omega⟩
    ⟨128 * ((y 0).val % 8) + (y 1).val, by omega⟩ rfl rfl _ _ _ _ _ (fun k => ?_)
    (fun k j => (pay1_apply _ k j).trans (rdb1 m hO c t k j (beF m hO (bT t)) rfl))
    (fun j => rdb2 m hO c t j (beF m hO (bT t)) rfl)
    (fun k j => (pay2_apply _ k j).trans (rdb3 m hO c t k j (beF m hO (bT t)) rfl))
    (fun j => rdb4 m hO c t j (beF m hO (bT t)) rfl)
  have hk := k.isLt
  have ht := (bT t).isLt
  refine (rdb0 m hO c t _ _ ⟨(bT t).val * 4096 + (8 * ((y 0).val / 8) + k.val / 128), by omega⟩ (by rw [hr])).trans ?_
  unfold xrow
  refine congrArg _ ?_
  congr 1
  · refine Fin.ext ?_
    show (bT t).val * 4096 + (8 * ((y 0).val / 8) + k.val / 128) = (((bT t).val * 512 + (y 0).val / 8) * 1024 + k.val) / 128
    omega
  · refine Fin.ext ?_
    show k.val % 128 = (((bT t).val * 512 + (y 0).val / 8) * 1024 + k.val) % 128
    omega

/-- The result array is the reference's. -/
theorem result_eq (hb : ∀ t : Fin 288, 0 ≤ (beW m t).toInt ∧ (beW m t).toInt < 32) (hn : 1 ≤ (nuW m).toInt) (hO : Ok m) : result m hO c = spec m c := by
  funext i
  have b0 : (i 0).val < 1179648 := (i 0).isLt
  have b1 : (i 1).val < 128 := (i 1).isLt
  obtain rfl : c = 0 := Subsingleton.elim _ _
  have hN : (i 0).val / 4096 < 288 := by omega
  unfold spec
  rw [v60_at (m (((0 : Dev nD) : Thread nD τ).loc main_arg0)) (m (((0 : Dev nD) : Thread nD τ).loc main_arg1)) _ _ _ _ _ ⟨(i 0).val / 4096, hN⟩
    (beF m hO ⟨(i 0).val / 4096, hN⟩) i ⟨(i 0).val % 4096 / 8, by omega⟩
    ⟨128 * ((i 0).val % 4096 % 8) + (i 1).val, by omega⟩
    (by show (i 0).val * 128 + (i 1).val = ((i 0).val / 4096 * 512 + (i 0).val % 4096 / 8) * 1024 + (128 * ((i 0).val % 4096 % 8) + (i 1).val); omega)
    (fun _ => ⟨(hb ⟨(i 0).val / 4096, hN⟩).1, rfl⟩)]
  unfold result outAt
  by_cases hu : used m ⟨(i 0).val / 4096, hN⟩
  · have hu' : used m (bT (ptOf m hO ⟨(i 0).val / 4096, hN⟩)) := hu
    rw [if_pos hu', outOf_at m 0 hO hn _ hu']
    exact (if_pos (c := (((i 0).val / 4096 : ℕ) : ℤ) < (nuW m).toInt) hu).symm
  · have hu' : ¬used m (bT (ptOf m hO ⟨(i 0).val / 4096, hN⟩)) := hu
    rw [if_neg hu', pay12_apply]
    exact (if_neg (c := (((i 0).val / 4096 : ℕ) : ℤ) < (nuW m).toInt) hu).symm

end Cert.Kernel2Ideal.Gen

end
-- ==== Proof.PVal.lean ====
/- The projection at the ideal numbers: one row through the modulated norm, the product, the norms of its heads and the rotation; and the kernel's values of it, read at an index. -/
module

public import proofs.«01_k».proof.Proof.Gen.Kernel3Ideal.Value
public import proofs.«01_k».proof.Proof.Soft
public import Idealize.ShloMosaic.Lib.Pointwise
public import Idealize.ShloMosaic.Lib.IdealHost

@[expose] public section

set_option maxRecDepth 16384

noncomputable section

namespace Cert.Proj

open Idealize.ShloMosaic
open scoped BigOperators

/-- The small number under a norm's root. -/
def eps : EReal := Ideal.ofBits .f32 0x358637BD#32

/-- An entry of a row after the norm and its modulation. -/
def hrow (X g sc sh : Fin 1024 → EReal) (i : Fin 1024) : EReal :=
  X i * Ideal.rsqrt (Ideal.div (∑ j : Fin 1024, X j * X j) (Ideal.ofBits .f32 0x44800000#32) + eps) * g i * (Ideal.ofBits .f32 0x3F800000#32 + sc i) + sh i

/-- An entry of the row's product. -/
def prj (X g sc sh : Fin 1024 → EReal) (W : Fin 1024 → Fin 3072 → EReal) (j : Fin 3072) : EReal := ∑ i : Fin 1024, hrow X g sc sh i * W i j

/-- Lane `k` of the head that holds lane `l`. -/
def headLane (l : Fin 512) (k : Fin 64) : Fin 512 := ⟨64 * (l.val / 64) + k.val, by omega⟩

/-- An entry of the lanes after their heads' norms. -/
def ynorm (T : Fin 512 → EReal) (G : Fin 64 → EReal) (l : Fin 512) : EReal :=
  T l * Ideal.rsqrt (Ideal.div (∑ k : Fin 64, T (headLane l k) * T (headLane l k)) (Ideal.ofBits .f32 0x42800000#32) + eps) * G ⟨l.val % 64, by omega⟩

/-- The lane that a lane is rotated with. -/
def partner (l : Fin 512) : Fin 512 := ⟨if l.val % 32 < 16 then l.val + 16 else l.val - 16, by split <;> omega⟩

/-- An entry of the lanes after norm and rotation. -/
def rope (T : Fin 512 → EReal) (G : Fin 64 → EReal) (C S : Fin 128 → EReal) (l : Fin 512) : EReal :=
  ynorm T G l * C ⟨l.val % 128, by omega⟩ + ynorm T G (partner l) * S ⟨l.val % 128, by omega⟩

end Cert.Proj

namespace Cert.Kernel3Ideal.Gen

open Idealize.ShloMosaic Idealize.ShloMosaic.TcCoe Idealize.ShloMosaic.Tactic
open Cert.Proj
open scoped BigOperators

theorem pay3_apply (x : Vec Ideal S1x512x1024 .f32) (g : Vec Ideal S1x1024 .f32) (sc sh : Vec Ideal S1x1x1024 .f32) (w : Vec Ideal S1024x3072 .bf16)
    (r : Fin 512) (j : Fin 3072) :
    k0_pay3 (F := Ideal) x g sc sh w (ix2 r j)
      = prj (fun i => x (ix3 0 r i)) (fun i => g (ix2 0 i)) (fun i => sc (ix3 0 0 i)) (fun i => sh (ix3 0 0 i)) (fun i j => w (ix2 i j)) j := by
  unfold prj hrow eps
  pointwise [k0_pay3]

theorem pay6_apply (x : Vec Ideal S1x512x1024 .f32) (g : Vec Ideal S1x1024 .f32) (sc sh : Vec Ideal S1x1x1024 .f32) (w : Vec Ideal S1024x3072 .bf16)
    (r : Fin 512) (l : Fin 512) :
    k0_pay6 (F := Ideal) x g sc sh w (ix2 r l) = k0_pay3 (F := Ideal) x g sc sh w (ix2 r ⟨l.val, by omega⟩) := by
  unfold k0_pay6
  generalize k0_pay3 (F := Ideal) x g sc sh w = t
  pointwise

/-- The keys' lanes of the product. -/
def kOf (t : FVec Ideal S512x3072 .f32) : FVec Ideal S512x512 .f32 := extractStridedSlice S512x512 ![0, 512] t slices_S512x3072_o0_512_S512x512

theorem kOf_apply (t : FVec Ideal S512x3072 .f32) (r : Fin 512) (l : Fin 512) : kOf t (ix2 r l) = t (ix2 r ⟨512 + l.val, by omega⟩) := by
  unfold kOf
  pointwise

/-- The named scale is an eighth over the logarithm of two. -/
theorem scale_eq : (Named.named κ "scale" 0x3E38AA3B#32 : Ideal .f32) = (((1 / 8) * (Real.log 2)⁻¹ : ℝ) : EReal) :=
  IdealRules.named_const.ideal_named_scalar _ _ _ _ rfl

/-- A table four times side by side. -/
theorem four_apply (v : Vec Ideal S512x128 .f32) (r : Fin 512) (l : Fin 512) (hc) :
    concatenate S512x512 1 [⟨S512x128, v⟩, ⟨S512x128, v⟩, ⟨S512x128, v⟩, ⟨S512x128, v⟩] hc (ix2 r l) = v (ix2 r ⟨l.val % 128, by omega⟩) := by
  have hl := l.isLt
  have hoff : ∀ b : Fin 2, b ≠ 1 → ((ix2 r (⟨l.val % 128, by omega⟩ : Fin 128) : S512x128.Idx) b).val = ((ix2 r l : S512x512.Idx) b).val := by
    intro b hb
    fin_cases b
    · rfl
    · exact absurd rfl hb
  obtain ⟨g, hg⟩ : ∃ g : Fin 4, g.val = l.val / 128 := ⟨⟨_, by omega⟩, rfl⟩
  fin_cases g
  · exact concatenate_apply_piece (t := S512x512) 1 _ hc (ix2 r l) 0 (by show 0 < 4; omega) S512x128 v rfl rfl 0 rfl (ix2 r _) hoff (by show 0 + l.val % 128 = l.val; have h : 0 = l.val / 128 := hg; omega)
  · exact concatenate_apply_piece (t := S512x512) 1 _ hc (ix2 r l) 1 (by show 1 < 4; omega) S512x128 v rfl rfl 128 rfl (ix2 r _) hoff (by show 128 + l.val % 128 = l.val; have h : 1 = l.val / 128 := hg; omega)
  · exact concatenate_apply_piece (t := S512x512) 1 _ hc (ix2 r l) 2 (by show 2 < 4; omega) S512x128 v rfl rfl 256 rfl (ix2 r _) hoff (by show 256 + l.val % 128 = l.val; have h : 2 = l.val / 128 := hg; omega)
  · exact concatenate_apply_piece (t := S512x512) 1 _ hc (ix2 r l) 3 (by show 3 < 4; omega) S512x128 v rfl rfl 384 rfl (ix2 r _) hoff (by show 384 + l.val % 128 = l.val; have h : 3 = l.val / 128 := hg; omega)

theorem pay4_apply (v : Vec Ideal S512x128 .f32) (r : Fin 512) (l : Fin 512) :
    k0_pay4 (F := Ideal) v (ix2 r l) = v (ix2 r ⟨l.val % 128, by omega⟩) := by
  unfold k0_pay4
  exact four_apply v r l _

theorem pay5_apply (v : Vec Ideal S512x128 .f32) (r : Fin 512) (l : Fin 512) :
    k0_pay5 (F := Ideal) v (ix2 r l) = v (ix2 r ⟨l.val % 128, by omega⟩) := by
  unfold k0_pay5
  exact four_apply v r l _

/-- The matrix that averages each head's lanes. -/
def bd : FVec Ideal S512x512 .bf16 :=
  truncf .bf16 (select (cmpi .eq (shrsi (iota .tc S512x512 32 [0] iota_S512x512_d0_w32) (broadcast S512x512 6#32))
    (shrsi (iota .tc S512x512 32 [1] iota_S512x512_d1_w32) (broadcast S512x512 6#32)))
    (broadcast S512x512 (Scalar.ofBits (F := Ideal) .f32 0x3C800000#32)) (broadcast S512x512 (Scalar.ofBits (F := Ideal) .f32 0x00000000#32))) bitsLt_bf16_f32

/-- The mean of the squares of each head's lanes. -/
def msOf (t : FVec Ideal S512x512 .f32) : FVec Ideal S512x512 .f32 :=
  addf (matmul dot_S512x512_S512x512_S512x512_1_0_0_1_n_n none (truncf .bf16 (mulf t t) bitsLt_bf16_f32) bd (constant S512x512 .f32 0x00000000#32))
    (matmul dot_S512x512_S512x512_S512x512_1_0_0_1_n_n none
      (truncf .bf16 (subf (mulf t t) (extf .f32 (truncf .bf16 (mulf t t) bitsLt_bf16_f32) bitsLt_bf16_f32)) bitsLt_bf16_f32) bd (constant S512x512 .f32 0x00000000#32))

/-- The lanes after their heads' norms. -/
def yOf (t : FVec Ideal S512x512 .f32) (g : Vec Ideal S1x512 .f32) : FVec Ideal S512x512 .f32 :=
  mulf (mulf t (rsqrt (addf (msOf t) (broadcast S512x512 (Scalar.ofBits (F := Ideal) .f32 0x358637BD#32)))))
    (broadcastTo S512x512 (shapeCast S1x512 g shapeCasts_S1x512_S1x512) broadcasts_S1x512_S512x512)

/-- The lanes after norm and rotation. -/
def rOf (c s : FVec Ideal S512x512 .f32) (y : FVec Ideal S512x512 .f32) : FVec Ideal S512x512 .f32 :=
  addf (mulf y c) (mulf (select (cmpi .slt (andi (iota .tc S512x512 32 [1] iota_S512x512_d1_w32) (broadcast S512x512 31#32)) (broadcast S512x512 16#32))
    (dynamicRotate 1 496#32 none y rotates_S512x512_d1) (dynamicRotate 1 16#32 none y rotates_S512x512_d1)) s)

theorem pay7_eq (c s t : FVec Ideal S512x512 .f32) (g : Vec Ideal S1x512 .f32) :
    k0_pay7 (F := Ideal) c s t g = shapeCast S1x512x512 (truncf .bf16 (mulf (rOf c s (yOf t g))
      (broadcast S512x512 (Named.named κ "scale" 0x3E38AA3B#32))) bitsLt_bf16_f32) shapeCasts_S512x512_S1x512x512 := rfl
theorem pay8_eq (t : FVec Ideal S512x3072 .f32) (c s : FVec Ideal S512x512 .f32) (g : Vec Ideal S1x512 .f32) :
    k0_pay8 (F := Ideal) t c s g = shapeCast S1x512x512 (truncf .bf16 (rOf c s (yOf (kOf t) g)) bitsLt_bf16_f32) shapeCasts_S512x512_S1x512x512 := rfl

theorem bd_apply (k l : Fin 512) : bd (ix2 k l) = if k.val / 64 = l.val / 64 then ((1 / 64 : ℝ) : EReal) else 0 := by
  have hs : ∀ r : Fin 512, IntOp.shrsi .vector (BitVec.ofNat 32 r.val) 6#32 = BitVec.ofNat 32 (r.val / 64) := by decide +kernel
  have hb : Ideal.ofBits .f32 0x3C800000#32 = ((1 / 64 : ℝ) : EReal) := by
    simp [Ideal.ofBits, Ideal.ieee]
    rw [← EReal.coe_mul]
    norm_num
  unfold bd
  pointwise
  rw [hs, hs, hb]
  have hc : ∀ a b : Fin 8, IntOp.cmpi .eq (BitVec.ofNat 32 a.val) (BitVec.ofNat 32 b.val) = if a.val = b.val then 1#1 else 0#1 := by decide +kernel
  have hc' := hc ⟨k.val / 64, by omega⟩ ⟨l.val / 64, by omega⟩
  dsimp only at hc'
  rw [hc']
  by_cases h : k.val / 64 = l.val / 64
  · rw [if_pos h, if_pos h]; rfl
  · rw [if_neg h, if_neg h]; rfl

theorem ms_apply (t : FVec Ideal S512x512 .f32) (r l : Fin 512) :
    msOf t (ix2 r l) = (∑ k : Fin 512, t (ix2 r k) * t (ix2 r k) * bd (ix2 k l)) + ∑ k : Fin 512, (t (ix2 r k) * t (ix2 r k) - t (ix2 r k) * t (ix2 r k)) * bd (ix2 k l) := by
  unfold msOf
  generalize bd = b
  pointwise

theorem y_apply (t : FVec Ideal S512x512 .f32) (g : Vec Ideal S1x512 .f32) (r l : Fin 512) :
    yOf t g (ix2 r l) = t (ix2 r l) * Ideal.rsqrt (msOf t (ix2 r l) + eps) * g (ix2 0 l) := by
  unfold yOf eps
  generalize msOf t = u
  pointwise

theorem r_apply (c s y : FVec Ideal S512x512 .f32) (r l : Fin 512) :
    rOf c s y (ix2 r l) = y (ix2 r l) * c (ix2 r l) + y (ix2 r (partner l)) * s (ix2 r l) := by
  have hw : ∀ l : Fin 512, IntOp.cmpi .slt (IntOp.andi (BitVec.ofNat 32 l.val) 31#32) 16#32 = if l.val % 32 < 16 then 1#1 else 0#1 := by decide +kernel
  unfold rOf
  pointwise
  rw [hw]
  have hl := l.isLt
  have key : ∀ (a b : Fin 512), a = b → y (ix2 r a) = y (ix2 r b) := by rintro _ _ rfl; rfl
  by_cases h : l.val % 32 < 16
  · rw [if_pos h]
    refine congrArg (fun z => y (ix2 r l) * c (ix2 r l) + z * s (ix2 r l)) (key _ _ (Fin.ext ?_))
    show (l.val + 512 - 496) % 512 = if l.val % 32 < 16 then l.val + 16 else l.val - 16
    rw [if_pos h]; omega
  · rw [if_neg h]
    refine congrArg (fun z => y (ix2 r l) * c (ix2 r l) + z * s (ix2 r l)) (key _ _ (Fin.ext ?_))
    show (l.val + 512 - 16) % 512 = if l.val % 32 < 16 then l.val + 16 else l.val - 16
    rw [if_neg h]; omega

end Cert.Kernel3Ideal.Gen

end
-- ==== Proof.PRow.lean ====
/- The projection's row at the ideal numbers: where the weights and the modulation are real numbers a row's product is one, whatever the row. -/
module

public import proofs.«01_k».proof.Proof.PVal

@[expose] public section

noncomputable section

namespace Cert.Proj

open Idealize.ShloMosaic
open scoped BigOperators

theorem eps_coe : eps = ((8796093 * (1 / 8796093022208) : ℝ) : EReal) := by
  unfold eps
  simp [Ideal.ofBits, Ideal.ieee]
  try norm_num
theorem bits_one : Ideal.ofBits .f32 0x3F800000#32 = ((1 : ℝ) : EReal) := by
  simp [Ideal.ofBits, Ideal.ieee]
  try rw [← EReal.coe_mul]
  try norm_num
theorem bits_1024 : Ideal.ofBits .f32 0x44800000#32 = ((1024 : ℝ) : EReal) := by
  simp [Ideal.ofBits, Ideal.ieee]
  try rw [← EReal.coe_mul]
  try norm_num
theorem bits_64 : Ideal.ofBits .f32 0x42800000#32 = ((64 : ℝ) : EReal) := by
  simp [Ideal.ofBits, Ideal.ieee]
  try rw [← EReal.coe_mul]
  try norm_num

theorem sq_nonneg (x : EReal) : 0 ≤ x * x := by
  induction x using EReal.rec with
  | bot => simp
  | top => simp
  | coe r => rw [← EReal.coe_mul]; exact_mod_cast mul_self_nonneg r

/-- A row's entry over its root mean square is a real number, infinite entries or not. -/
theorem normed_real (X : Fin 1024 → EReal) (i : Fin 1024) :
    ∃ a : ℝ, X i * Ideal.rsqrt (Ideal.div (∑ j : Fin 1024, X j * X j) (Ideal.ofBits .f32 0x44800000#32) + eps) = (a : EReal) := by
  rw [bits_1024, eps_coe]
  by_cases h : ∀ j, ∃ a : ℝ, X j = (a : EReal)
  · choose x hx using h
    simp only [hx, ← EReal.coe_mul, ← Cert.Soft.coe_sum]
    rw [Cert.Soft.div_coe_coe _ _ (by norm_num), ← EReal.coe_add, Ideal.rsqrt_coe]
    have hp : 0 < (∑ j, x j * x j) / 1024 + 8796093 * (1 / 8796093022208) := by
      have := Finset.sum_nonneg (fun j (_ : j ∈ Finset.univ) => mul_self_nonneg (x j))
      positivity
    rw [if_neg (not_lt.mpr hp.le), if_neg hp.ne', ← EReal.coe_mul]
    exact ⟨_, rfl⟩
  · push Not at h
    obtain ⟨j, hj⟩ := h
    have hjj : X j * X j = ⊤ := by
      generalize X j = y at hj
      induction y using EReal.rec with
      | bot => simp
      | top => simp
      | coe r => exact absurd rfl (hj r)
    have hs : ∑ j : Fin 1024, X j * X j = ⊤ :=
      top_le_iff.mp (hjj ▸ Finset.single_le_sum (f := fun j => X j * X j) (fun k _ => sq_nonneg (X k)) (Finset.mem_univ j))
    rw [hs, Ideal.div_coe (by norm_num)]
    rw [EReal.top_mul_coe_of_pos (by norm_num), EReal.top_add_coe, Ideal.rsqrt_top, mul_zero]
    exact ⟨0, rfl⟩

/-- A row's product is a real number. -/
theorem prj_real (X g sc sh : Fin 1024 → EReal) (W : Fin 1024 → Fin 3072 → EReal) (hg : ∀ i, ∃ a : ℝ, g i = (a : EReal))
    (hsc : ∀ i, ∃ a : ℝ, sc i = (a : EReal)) (hsh : ∀ i, ∃ a : ℝ, sh i = (a : EReal)) (hW : ∀ i j, ∃ a : ℝ, W i j = (a : EReal)) (j : Fin 3072) :
    ∃ a : ℝ, prj X g sc sh W j = (a : EReal) := by
  choose g eg using hg
  choose sc esc using hsc
  choose sh esh using hsh
  choose W eW using hW
  choose x ex using normed_real X
  unfold prj hrow
  simp only [ex, eg, esc, esh, eW, bits_one, ← EReal.coe_mul, ← EReal.coe_add, ← Cert.Soft.coe_sum]
  exact ⟨_, rfl⟩

/-- A sum over the lanes, head by head. -/
theorem sum_heads (f : Fin 512 → ℝ) (l : Fin 512) : (∑ k : Fin 512, f k * (if k.val / 64 = l.val / 64 then 1 / 64 else 0)) = (∑ k : Fin 64, f (headLane l k)) / 64 := by
  have e : ∀ k : Fin 512, f k * (if k.val / 64 = l.val / 64 then 1 / 64 else 0) = if k.val / 64 = l.val / 64 then f k / 64 else 0 := by
    intro k; split <;> ring
  simp only [e]
  rw [← Finset.sum_filter, Finset.sum_div]
  symm
  refine Finset.sum_bij (fun k _ => headLane l k) ?_ ?_ ?_ ?_
  · intro k _
    have hk := k.isLt
    refine Finset.mem_filter.mpr ⟨Finset.mem_univ _, ?_⟩
    show (64 * (l.val / 64) + k.val) / 64 = l.val / 64
    omega
  · intro a _ b _ h
    have h' : 64 * (l.val / 64) + a.val = 64 * (l.val / 64) + b.val := congrArg Fin.val h
    exact Fin.ext (by omega)
  · intro k hk
    have hk' := (Finset.mem_filter.mp hk).2
    refine ⟨⟨k.val % 64, by omega⟩, Finset.mem_univ _, Fin.ext ?_⟩
    show 64 * (l.val / 64) + k.val % 64 = k.val
    omega
  · intro k _; rfl

end Cert.Proj

namespace Cert.Kernel3Ideal.Gen

open Idealize.ShloMosaic
open Cert.Proj
open scoped BigOperators

/-- The kernel's mean of squares is its head's, where the lanes are real numbers. -/
theorem ms_eq (t : FVec Ideal S512x512 .f32) (r l : Fin 512) (ht : ∀ k, ∃ a : ℝ, t (ix2 r k) = (a : EReal)) :
    msOf t (ix2 r l) = Ideal.div (∑ k : Fin 64, t (ix2 r (headLane l k)) * t (ix2 r (headLane l k))) (Ideal.ofBits .f32 0x42800000#32) := by
  choose a ea using ht
  have hb : ∀ k : Fin 512, bd (ix2 k l) = ((if k.val / 64 = l.val / 64 then 1 / 64 else 0 : ℝ) : EReal) := by
    intro k; rw [bd_apply]; split <;> rfl
  rw [ms_apply, bits_64]
  simp only [ea, hb, ← EReal.coe_mul, ← EReal.coe_sub, sub_self, zero_mul, ← Cert.Soft.coe_sum, ← EReal.coe_add, Finset.sum_const_zero, add_zero]
  rw [Cert.Soft.div_coe_coe _ _ (by norm_num), sum_heads (fun k => a k * a k)]

/-- The kernel's normalised and rotated lanes, where the lanes are real numbers. -/
theorem rope_eq (c s t : FVec Ideal S512x512 .f32) (g : Vec Ideal S1x512 .f32) (r l : Fin 512) (T : Fin 512 → EReal) (G : Fin 64 → EReal) (C S : Fin 128 → EReal)
    (ht : ∀ k, t (ix2 r k) = T k) (hT : ∀ k, ∃ a : ℝ, T k = (a : EReal)) (hg : ∀ k : Fin 512, g (ix2 0 k) = G ⟨k.val % 64, by omega⟩)
    (hc : ∀ k : Fin 512, c (ix2 r k) = C ⟨k.val % 128, by omega⟩) (hs : ∀ k : Fin 512, s (ix2 r k) = S ⟨k.val % 128, by omega⟩) :
    rOf c s (yOf t g) (ix2 r l) = rope T G C S l := by
  have hy : ∀ k, yOf t g (ix2 r k) = ynorm T G k := by
    intro k
    rw [y_apply, ms_eq t r k (fun k => by rw [ht]; exact hT k), hg]
    simp only [ht]
    rfl
  rw [r_apply, hy, hy, hc, hs]
  rfl

end Cert.Kernel3Ideal.Gen

end
-- ==== Proof.POut.lean ====
/- The blocks a point of the projection leaves, at an index, from the entries of the blocks it reads. -/
module

public import proofs.«01_k».proof.Proof.PRow

@[expose] public section

noncomputable section

namespace Cert.Kernel3Ideal.Gen

open Idealize.ShloMosaic Idealize.ShloMosaic.TcCoe Idealize.ShloMosaic.Tactic
open Cert.Proj
open scoped BigOperators

theorem ld00 (x : Vec Ideal S1x512x1024 .f32) : View.ld x r0_0 = x := View.ld_unit_zero (by funext a; fin_cases a <;> rfl) _ x
theorem ld01 (x : Vec Ideal S1x1024 .f32) : View.ld x r0_1 = x := View.ld_unit_zero (by funext a; fin_cases a <;> rfl) _ x
theorem ld02 (x : Vec Ideal S1x1x1024 .f32) : View.ld x r0_2 = x := View.ld_unit_zero (by funext a; fin_cases a <;> rfl) _ x
theorem ld03 (x : Vec Ideal S1024x3072 .bf16) : View.ld x r0_3 = x := View.ld_unit_zero (by funext a; fin_cases a <;> rfl) _ x
theorem ld04 (x : Vec Ideal S512x128 .f32) : View.ld x r0_4 = x := View.ld_unit_zero (by funext a; fin_cases a <;> rfl) _ x
theorem ld05 (x : Vec Ideal S1x512 .f32) : View.ld x r0_5 = x := View.ld_unit_zero (by funext a; fin_cases a <;> rfl) _ x

theorem cast_apply (v : FVec Ideal S512x512 .f32) (r l : Fin 512) :
    shapeCast S1x512x512 (truncf .bf16 (mulf v (broadcast S512x512 (Named.named κ "scale" 0x3E38AA3B#32))) bitsLt_bf16_f32) shapeCasts_S512x512_S1x512x512 (ix3 0 r l)
      = v (ix2 r l) * (((1 / 8) * (Real.log 2)⁻¹ : ℝ) : EReal) := by
  rw [← scale_eq]
  pointwise
theorem cast_apply' (v : FVec Ideal S512x512 .f32) (r l : Fin 512) :
    shapeCast S1x512x512 (truncf .bf16 v bitsLt_bf16_f32) shapeCasts_S512x512_S1x512x512 (ix3 0 r l) = v (ix2 r l) := by
  pointwise

section
variable (x0 : Vec Ideal S1x512x1024 .f32) (x1 x2 : Vec Ideal S1x1x1024 .f32) (x3 : Vec Ideal S1x1024 .f32) (x4 : Vec Ideal S1024x3072 .bf16)
  (x5 x6 : Vec Ideal S1x512 .f32) (x7 x8 : Vec Ideal S512x128 .f32)
  (X g sc sh : Fin 1024 → EReal) (W : Fin 1024 → Fin 3072 → EReal) (G : Fin 64 → EReal) (C S : Fin 128 → EReal) (r : Fin 512)
  (h0 : ∀ i, x0 (ix3 0 r i) = X i) (h1 : ∀ i, x1 (ix3 0 0 i) = sh i) (h2 : ∀ i, x2 (ix3 0 0 i) = sc i) (h3 : ∀ i, x3 (ix2 0 i) = g i)
  (h4 : ∀ i j, x4 (ix2 i j) = W i j)

include h0 h1 h2 h3 h4 in
theorem pay3_of (j : Fin 3072) : k0_pay3 (F := Ideal) x0 x3 x2 x1 x4 (ix2 r j) = prj X g sc sh W j := by
  rw [pay3_apply]
  simp only [h0, h1, h2, h3, h4]

include h0 h1 h2 h3 h4 in
theorem out11_of (l : Fin 512) : out0_11 (F := Ideal) x0 x1 x2 x3 x4 x5 x6 x7 x8 (ix3 0 r l) = prj X g sc sh W ⟨1024 + l.val, by omega⟩ := by
  unfold out0_11 k0_pay9
  rw [ld00, ld01, ld02, ld02, ld03, Cert.Kernel3Ideal.Value.canon11_eq]
  refine Eq.trans ?_ (pay3_of x0 x1 x2 x3 x4 X g sc sh W r h0 h1 h2 h3 h4 ⟨1024 + l.val, by omega⟩)
  refine congrArg (k0_pay3 (F := Ideal) x0 x3 x2 x1 x4) ?_
  funext a
  refine Fin.ext ?_
  match a with
  | ⟨0, _⟩ => rfl
  | ⟨1, _⟩ => exact Nat.add_comm _ _

include h0 h1 h2 h3 h4 in
theorem out12_of (l : Fin 1536) : out0_12 (F := Ideal) x0 x1 x2 x3 x4 x5 x6 x7 x8 (ix3 0 r l) = prj X g sc sh W ⟨1536 + l.val, by omega⟩ := by
  unfold out0_12 k0_pay9
  rw [ld00, ld01, ld02, ld02, ld03, Cert.Kernel3Ideal.Value.canon12_eq]
  refine Eq.trans ?_ (pay3_of x0 x1 x2 x3 x4 X g sc sh W r h0 h1 h2 h3 h4 ⟨1536 + l.val, by omega⟩)
  refine congrArg (k0_pay3 (F := Ideal) x0 x3 x2 x1 x4) ?_
  funext a
  refine Fin.ext ?_
  match a with
  | ⟨0, _⟩ => rfl
  | ⟨1, _⟩ => exact Nat.add_comm _ _

variable (h7 : ∀ k, x7 (ix2 r k) = C k) (h8 : ∀ k, x8 (ix2 r k) = S k) (hP : ∀ j, ∃ a : ℝ, prj X g sc sh W j = (a : EReal))

include h0 h1 h2 h3 h4 h7 h8 hP in
theorem out9_of (h5 : ∀ k : Fin 512, x5 (ix2 0 k) = G ⟨k.val % 64, by omega⟩) (l : Fin 512) :
    out0_9 (F := Ideal) x0 x1 x2 x3 x4 x5 x6 x7 x8 (ix3 0 r l)
      = rope (fun k => prj X g sc sh W ⟨k.val, by omega⟩) G C S l * (((1 / 8) * (Real.log 2)⁻¹ : ℝ) : EReal) := by
  unfold out0_9 k0_pay10 k0_pay11
  rw [ld00, ld01, ld02, ld02, ld03, ld04, ld04, ld05]
  refine (congrFun (View.canon_unit_zero (by funext a; fin_cases a <;> rfl) _ _) (ix3 0 r l)).trans ?_
  rw [pay7_eq, cast_apply]
  refine congrArg (· * _) ?_
  exact rope_eq _ _ _ _ r l _ G C S (fun k => (pay6_apply _ _ _ _ _ r k).trans (pay3_of x0 x1 x2 x3 x4 X g sc sh W r h0 h1 h2 h3 h4 _))
    (fun k => hP _) h5 (fun k => (pay4_apply x7 r k).trans (h7 _)) (fun k => (pay5_apply x8 r k).trans (h8 _))

include h0 h1 h2 h3 h4 h7 h8 hP in
theorem out10_of (h6 : ∀ k : Fin 512, x6 (ix2 0 k) = G ⟨k.val % 64, by omega⟩) (l : Fin 512) :
    out0_10 (F := Ideal) x0 x1 x2 x3 x4 x5 x6 x7 x8 (ix3 0 r l) = rope (fun k => prj X g sc sh W ⟨512 + k.val, by omega⟩) G C S l := by
  unfold out0_10 k0_pay9 k0_pay10 k0_pay11
  rw [ld00, ld01, ld02, ld02, ld03, ld04, ld04, ld05]
  refine (congrFun (View.canon_unit_zero (by funext a; fin_cases a <;> rfl) _ _) (ix3 0 r l)).trans ?_
  rw [pay8_eq, cast_apply']
  exact rope_eq _ _ _ _ r l _ G C S (fun k => (kOf_apply _ r k).trans (pay3_of x0 x1 x2 x3 x4 X g sc sh W r h0 h1 h2 h3 h4 _))
    (fun k => hP _) h6 (fun k => (pay4_apply x7 r k).trans (h7 _)) (fun k => (pay5_apply x8 r k).trans (h8 _))

end

end Cert.Kernel3Ideal.Gen

end
-- ==== Proof.PPost.lean ====
/- The blocks the projection's points read, at an index, and its four result arrays. -/
module

public import proofs.«01_k».proof.Proof.POut
public import Idealize.ShloMosaic.Lib.Pipeline.ValueKit.Geometry

@[expose] public section

set_option maxRecDepth 16384

noncomputable section

namespace Cert.Kernel3Ideal.Gen

open Idealize.ShloMosaic Idealize.ShloMosaic.TcCoe Idealize.ShloMosaic.Tactic
open Idealize.ShloMosaic.Pipeline (Dat Cfg Window)
open Cert.Proj
open scoped BigOperators

variable (m : (ℓ : Loc nD τ sig) → Buf (Elt Ideal) ℓ) (c : Dev nD) (t : Fin cfg0.N)

theorem e0 : ∀ t : Fin cfg0.N, win0_0.index t = ![t.val / 8, t.val % 8, 0] := (by decide +kernel : ∀ t : Fin grid0.N, _)
theorem e1 : ∀ t : Fin cfg0.N, win0_1.index t = ![t.val / 8, 0, 0] := (by decide +kernel : ∀ t : Fin grid0.N, _)
theorem e2 : ∀ t : Fin cfg0.N, win0_2.index t = ![t.val / 8, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val % 8, 0] := (by decide +kernel : ∀ t : Fin grid0.N, _)
theorem e8 : ∀ t : Fin cfg0.N, win0_8.index t = ![t.val % 8, 0] := (by decide +kernel : ∀ t : Fin grid0.N, _)
theorem e9 : ∀ t : Fin cfg0.N, win0_9.index t = ![t.val / 8, t.val % 8, 0] := (by decide +kernel : ∀ t : Fin grid0.N, _)
theorem e10 : ∀ t : Fin cfg0.N, win0_10.index t = ![t.val / 8, t.val % 8, 0] := (by decide +kernel : ∀ t : Fin grid0.N, _)
theorem e11 : ∀ t : Fin cfg0.N, win0_11.index t = ![t.val / 8, t.val % 8, 0] := (by decide +kernel : ∀ t : Fin grid0.N, _)
theorem e12 : ∀ t : Fin cfg0.N, win0_12.index t = ![t.val / 8, t.val % 8, 0] := (by decide +kernel : ∀ t : Fin grid0.N, _)

theorem blk0 (r : Fin 512) (i : Fin 1024) (B : Fin 8) (S : Fin 4096) (hB : B.val = t.val / 8) (hS : S.val = t.val % 8 * 512 + r.val) :
    iblk m c 0 t (ix3 0 r i) = m ((c : Thread nD τ).loc main_arg0) (ix3 B S i) := by
  blk_simp [iblk, V_main_arg0]
  blk_ext [e0 t]
theorem blk1 (i : Fin 1024) (B : Fin 8) (hB : B.val = t.val / 8) : iblk m c 1 t (ix3 0 0 i) = m ((c : Thread nD τ).loc main_arg1) (ix3 B 0 i) := by
  blk_simp [iblk, V_main_arg1]
  blk_ext [e1 t]
theorem blk2 (i : Fin 1024) (B : Fin 8) (hB : B.val = t.val / 8) : iblk m c 2 t (ix3 0 0 i) = m ((c : Thread nD τ).loc main_arg2) (ix3 B 0 i) := by
  blk_simp [iblk, V_main_arg2]
  blk_ext [e2 t]
theorem blk3 (i : Fin 1024) : iblk m c 3 t (ix2 0 i) = m ((c : Thread nD τ).loc main_arg3) (ix1 i) := by
  blk_simp [iblk]
  have he : (win0_3.blk t).view.emb (ix2 0 i) = ix2 0 i := by
    blk_ext [e3 t]
  rw [he]
  entry_read
  pointwise
theorem blk4 (i : Fin 1024) (j : Fin 3072) : iblk m c 4 t (ix2 i j) = m ((c : Thread nD τ).loc main_arg4) (ix2 i j) := by
  blk_simp [iblk]
  have he : (win0_4.blk t).view.emb (ix2 i j) = ix2 i j := by
    blk_ext [e4 t]
  rw [he]
  entry_read
  pointwise
theorem blk5 (k : Fin 512) : iblk m c 5 t (ix2 0 k) = m ((c : Thread nD τ).loc main_arg5) (ix1 ⟨k.val % 64, by omega⟩) := by
  blk_simp [iblk]
  have he : (win0_5.blk t).view.emb (ix2 0 k) = ix2 0 k := by
    blk_ext [e5 t]
  rw [he]
  entry_read
  pointwise
theorem blk6 (k : Fin 512) : iblk m c 6 t (ix2 0 k) = m ((c : Thread nD τ).loc main_arg6) (ix1 ⟨k.val % 64, by omega⟩) := by
  blk_simp [iblk]
  have he : (win0_6.blk t).view.emb (ix2 0 k) = ix2 0 k := by
    blk_ext [e6 t]
  rw [he]
  entry_read
  pointwise
theorem blk7 (r : Fin 512) (k : Fin 128) (S : Fin 4096) (hS : S.val = t.val % 8 * 512 + r.val) :
    iblk m c 7 t (ix2 r k) = m ((c : Thread nD τ).loc main_arg7) (ix2 S k) := by
  blk_simp [iblk, V_main_arg7]
  blk_ext [e7 t]
theorem blk8 (r : Fin 512) (k : Fin 128) (S : Fin 4096) (hS : S.val = t.val % 8 * 512 + r.val) :
    iblk m c 8 t (ix2 r k) = m ((c : Thread nD τ).loc main_arg8) (ix2 S k) := by
  blk_simp [iblk, V_main_arg8]
  blk_ext [e8 t]

end Cert.Kernel3Ideal.Gen

end
-- ==== Proof.PRef.lean ====
/- The projection's reference, read at an index. -/
module

public import proofs.«01_k».proof.Proof.Gen.Reference3Ideal.Read
public import proofs.«01_k».proof.Proof.PVal

@[expose] public section

set_option maxRecDepth 16384

noncomputable section

namespace Cert.Proj

open Idealize.ShloMosaic
open scoped BigOperators

section
variable (x0 : (⟨3, ![8, 4096, 1024]⟩ : Shape).Idx → EReal) (x1 x2 : (⟨3, ![8, 1, 1024]⟩ : Shape).Idx → EReal) (x3 : (⟨1, ![1024]⟩ : Shape).Idx → EReal)
  (x4 : (⟨2, ![1024, 3072]⟩ : Shape).Idx → EReal) (G : (⟨1, ![64]⟩ : Shape).Idx → EReal) (C S : (⟨2, ![4096, 128]⟩ : Shape).Idx → EReal)

/-- The product of row `s` of batch `b`. -/
def prow (b : Fin 8) (s : Fin 4096) : Fin 3072 → EReal :=
  prj (fun i => x0 (ix3 b s i)) (fun i => x3 (ix1 i)) (fun i => x2 (ix3 b 0 i)) (fun i => x1 (ix3 b 0 i)) (fun i j => x4 (ix2 i j))

/-- The row's 512 lanes from lane `o` on, normalised by heads and rotated. -/
def rrow (o : ℕ) (ho : o ≤ 2560) (b : Fin 8) (s : Fin 4096) : Fin 512 → EReal :=
  rope (fun k => prow x0 x1 x2 x3 x4 b s ⟨o + k.val, by omega⟩) (fun k => G (ix1 k)) (fun k => C (ix2 s k)) (fun k => S (ix2 s k))
end

end Cert.Proj

namespace Cert.Reference3Ideal.Proj

open Idealize.ShloMosaic Idealize.ShloMosaic.TcCoe Idealize.ShloMosaic.Tactic
open Cert.Reference3Ideal Cert.Reference3Ideal.Gen Cert.Reference3Ideal.Read
open Cert.Proj
open scoped BigOperators

/-- The lanes after their heads' norms. -/
def nOf (t : FVec Ideal S8x4096x512 .f32) (g : FVec Ideal S64 .f32) : FVec Ideal S8x4096x4x2x64 .f32 :=
  let h := shapeCast S8x4096x4x2x64 t shapeCasts_S8x4096x512_S8x4096x4x2x64
  mulf (mulf h (broadcastInDim S8x4096x4x2x64 ![0, 1, 2, 3, 4] bcast_S8x4096x4x2x1_S8x4096x4x2x64_0_1_2_3_4
    (Host.rsqrt (addf (Host.divf (broadcastInDim S8x4096x4x2x1 ![0, 1, 2, 3] bcast_S8x4096x4x2_S8x4096x4x2x1_0_1_2_3
      (Host.reduceAdd (mulf h h) (constant S_ .f32 0x00000000#32) reducesTo_S8x4096x4x2x64_S8x4096x4x2_d4 h_S_))
      (broadcastInDim S8x4096x4x2x1 ![] bcast_S_S8x4096x4x2x1 (constant S_ .f32 0x42800000#32)))
      (broadcastInDim S8x4096x4x2x1 ![] bcast_S_S8x4096x4x2x1 (constant S_ .f32 0x358637BD#32))))))
    (broadcastInDim S8x4096x4x2x64 ![0, 1, 2, 3, 4] bcast_S1x1x1x1x64_S8x4096x4x2x64_0_1_2_3_4 (broadcastInDim S1x1x1x1x64 ![4] bcast_S64_S1x1x1x1x64_4 g))

/-- The table of a rotation, at the shape of the lanes. -/
def tabOf (x : FVec Ideal S4096x128 .f32) : FVec Ideal S8x4096x4x2x2x2x16 .f32 :=
  broadcastInDim S8x4096x4x2x2x2x16 ![0, 1, 2, 3, 4, 5, 6] bcast_S1x4096x1x2x2x2x16_S8x4096x4x2x2x2x16_0_1_2_3_4_5_6
    (broadcastInDim S1x4096x1x2x2x2x16 ![1, 2, 3, 4, 5, 6] bcast_S4096x1x2x2x2x16_S1x4096x1x2x2x2x16_1_2_3_4_5_6
      (shapeCast S4096x1x2x2x2x16 x shapeCasts_S4096x128_S4096x1x2x2x2x16))

/-- The lanes after their rotation. -/
def oOf (n : FVec Ideal S8x4096x4x2x64 .f32) (c s : FVec Ideal S4096x128 .f32) : FVec Ideal S8x4096x512 .f32 :=
  let y := shapeCast S8x4096x4x2x2x2x16 n shapeCasts_S8x4096x4x2x64_S8x4096x4x2x2x2x16
  shapeCast S8x4096x512 (addf (mulf y (tabOf c)) (mulf (Host.reverse [5] y) (tabOf s))) shapeCasts_S8x4096x4x2x2x2x16_S8x4096x512

theorem v46_def (x0 : FVec Ideal S8x4096x1024 .f32) (x1 x2 : FVec Ideal S8x1x1024 .f32) (x3 : FVec Ideal S1024 .f32) (x4 : FVec Ideal S1024x3072 .f32)
    (x5 : FVec Ideal S64 .f32) (x7 x8 : FVec Ideal S4096x128 .f32) :
    val_main_v46 (F := Ideal) x0 x1 x2 x3 x4 x5 x7 x8 = oOf (nOf (val_main_v20 (F := Ideal) x0 x1 x2 x3 x4) x5) x7 x8 := rfl
theorem v73_def (x0 : FVec Ideal S8x4096x1024 .f32) (x1 x2 : FVec Ideal S8x1x1024 .f32) (x3 : FVec Ideal S1024 .f32) (x4 : FVec Ideal S1024x3072 .f32)
    (x6 : FVec Ideal S64 .f32) (x7 x8 : FVec Ideal S4096x128 .f32) :
    val_main_v73 (F := Ideal) x0 x1 x2 x3 x4 x6 x7 x8 = oOf (nOf (val_main_v47 (F := Ideal) x0 x1 x2 x3 x4) x6) x7 x8 := rfl

/-- Lane `l` of a row, by head, component and lane of the component. -/
theorem n_apply (t : FVec Ideal S8x4096x512 .f32) (g : FVec Ideal S64 .f32) (b : Fin 8) (s : Fin 4096) (h : Fin 4) (o : Fin 2) (d : Fin 64) (l : Fin 512)
    (hl : l.val = h.val * 128 + o.val * 64 + d.val) :
    nOf t g (ix5 b s h o d) = ynorm (fun k => t (ix3 b s k)) (fun k => g (ix1 k)) l := by
  obtain ⟨l, hL⟩ := l
  change l = _ at hl
  subst hl
  have hk : ∀ x : Fin 64, headLane ⟨h.val * 128 + o.val * 64 + d.val, by omega⟩ x = ⟨h.val * 128 + o.val * 64 + x.val, by omega⟩ := fun x => by
    refine Fin.ext ?_
    show 64 * ((h.val * 128 + o.val * 64 + d.val) / 64) + x.val = _
    show _ = h.val * 128 + o.val * 64 + x.val
    omega
  have hd : (⟨(h.val * 128 + o.val * 64 + d.val) % 64, by omega⟩ : Fin 64) = d := Fin.ext (by show (h.val * 128 + o.val * 64 + d.val) % 64 = d.val; omega)
  unfold nOf ynorm eps
  simp only [hk, hd]
  pointwise

theorem o_apply (n : FVec Ideal S8x4096x4x2x64 .f32) (c s : FVec Ideal S4096x128 .f32) (b : Fin 8) (p : Fin 4096) (l : Fin 512) :
    oOf n c s (ix3 b p l) = n (ix5 b p ⟨l.val / 128, by omega⟩ ⟨l.val / 64 % 2, by omega⟩ ⟨l.val % 64, by omega⟩) * c (ix2 p ⟨l.val % 128, by omega⟩)
      + n (ix5 b p ⟨(partner l).val / 128, by omega⟩ ⟨(partner l).val / 64 % 2, by omega⟩ ⟨(partner l).val % 64, by omega⟩) * s (ix2 p ⟨l.val % 128, by omega⟩) := by
  have kn : ∀ (h h' : Fin 4) (o o' : Fin 2) (d d' : Fin 64), h = h' → o = o' → d = d' → n (ix5 b p h o d) = n (ix5 b p h' o' d') := by
    rintro _ _ _ _ _ _ rfl rfl rfl; rfl
  have kc : ∀ (x : FVec Ideal S4096x128 .f32) (k k' : Fin 128), k = k' → x (ix2 p k) = x (ix2 p k') := by rintro _ _ _ rfl; rfl
  have hl := l.isLt
  unfold oOf tabOf
  pointwise
  refine congrArg₂ (· + ·) (congrArg₂ (· * ·) (kn _ _ _ _ _ _ rfl rfl (Fin.ext ?_)) (kc _ _ _ (Fin.ext ?_)))
    (congrArg₂ (· * ·) (kn _ _ _ _ _ _ (Fin.ext ?_) (Fin.ext ?_) (Fin.ext ?_)) (kc _ _ _ (Fin.ext ?_)))
  · show l.val / 32 % 2 * 32 + l.val / 16 % 2 * 16 + l.val % 16 = l.val % 64
    omega
  · show l.val / 64 % 2 * 64 + l.val / 32 % 2 * 32 + l.val / 16 % 2 * 16 + l.val % 16 = l.val % 128
    omega
  · show l.val / 128 = (if l.val % 32 < 16 then l.val + 16 else l.val - 16) / 128
    split_ifs <;> omega
  · show l.val / 64 % 2 = (if l.val % 32 < 16 then l.val + 16 else l.val - 16) / 64 % 2
    split_ifs <;> omega
  · show l.val / 32 % 2 * 32 + (2 - (l.val / 16 % 2 + 1)) * 16 + l.val % 16 = (if l.val % 32 < 16 then l.val + 16 else l.val - 16) % 64
    split_ifs <;> omega
  · show l.val / 64 % 2 * 64 + l.val / 32 % 2 * 32 + l.val / 16 % 2 * 16 + l.val % 16 = l.val % 128
    omega

section
variable (x0 : FVec Ideal S8x4096x1024 .f32) (x1 x2 : FVec Ideal S8x1x1024 .f32) (x3 : FVec Ideal S1024 .f32) (x4 : FVec Ideal S1024x3072 .f32)

theorem v18_at (b : Fin 8) (s : Fin 4096) (i : Fin 1024) : val_main_v18 (F := Ideal) x0 x1 x2 x3 (ix3 b s i)
    = hrow (fun i => x0 (ix3 b s i)) (fun i => x3 (ix1 i)) (fun i => x2 (ix3 b 0 i)) (fun i => x1 (ix3 b 0 i)) i := by
  unfold hrow eps val_main_v18 val_main_v17 val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst_2 val_main_cst_1 val_main_cst_0 val_main_cst
  pointwise

theorem v19_at (b : Fin 8) (s : Fin 4096) (j : Fin 3072) : val_main_v19 (F := Ideal) x0 x1 x2 x3 x4 (ix3 b s j) = prow x0 x1 x2 x3 x4 b s j := by
  unfold prow prj
  simp only [← v18_at x0 x1 x2 x3 b s]
  unfold val_main_v19
  generalize val_main_v18 (F := Ideal) x0 x1 x2 x3 = y
  pointwise

theorem v20_at (b : Fin 8) (s : Fin 4096) (k : Fin 512) :
    val_main_v20 (F := Ideal) x0 x1 x2 x3 x4 (ix3 b s k) = prow x0 x1 x2 x3 x4 b s ⟨0 + k.val, by omega⟩ := by
  rw [← v19_at]
  unfold val_main_v20
  generalize val_main_v19 (F := Ideal) x0 x1 x2 x3 x4 = y
  pointwise
theorem v47_at (b : Fin 8) (s : Fin 4096) (k : Fin 512) :
    val_main_v47 (F := Ideal) x0 x1 x2 x3 x4 (ix3 b s k) = prow x0 x1 x2 x3 x4 b s ⟨512 + k.val, by omega⟩ := by
  rw [← v19_at]
  unfold val_main_v47
  generalize val_main_v19 (F := Ideal) x0 x1 x2 x3 x4 = y
  pointwise
theorem v83_at (b : Fin 8) (s : Fin 4096) (k : Fin 512) :
    val_main_v83 (F := Ideal) x0 x1 x2 x3 x4 (ix3 b s k) = prow x0 x1 x2 x3 x4 b s ⟨1024 + k.val, by omega⟩ := by
  rw [← v19_at]
  unfold val_main_v83 val_main_v74
  generalize val_main_v19 (F := Ideal) x0 x1 x2 x3 x4 = y
  pointwise
theorem v85_at (b : Fin 8) (s : Fin 4096) (k : Fin 1536) :
    val_main_v85 (F := Ideal) x0 x1 x2 x3 x4 (ix3 b s k) = prow x0 x1 x2 x3 x4 b s ⟨1536 + k.val, by omega⟩ := by
  rw [← v19_at]
  unfold val_main_v85 val_main_v84
  generalize val_main_v19 (F := Ideal) x0 x1 x2 x3 x4 = y
  pointwise

/-- Normalised by heads and rotated, at a lane. -/
theorem on_apply (t : FVec Ideal S8x4096x512 .f32) (g : FVec Ideal S64 .f32) (c s : FVec Ideal S4096x128 .f32) (b : Fin 8) (p : Fin 4096) (l : Fin 512)
    (T : Fin 512 → EReal) (hT : ∀ k, t (ix3 b p k) = T k) :
    oOf (nOf t g) c s (ix3 b p l) = rope T (fun k => g (ix1 k)) (fun k => c (ix2 p k)) (fun k => s (ix2 p k)) l := by
  obtain rfl : (fun k => t (ix3 b p k)) = T := funext hT
  have hl := l.isLt
  have hp := (partner l).isLt
  rw [o_apply]
  unfold rope
  rw [n_apply t g b p _ _ _ l (by show l.val = l.val / 128 * 128 + l.val / 64 % 2 * 64 + l.val % 64; omega),
    n_apply t g b p _ _ _ (partner l) (by show (partner l).val = (partner l).val / 128 * 128 + (partner l).val / 64 % 2 * 64 + (partner l).val % 64; omega)]

theorem v46_at (x5 : FVec Ideal S64 .f32) (x7 x8 : FVec Ideal S4096x128 .f32) (b : Fin 8) (s : Fin 4096) (l : Fin 512) :
    val_main_v46 (F := Ideal) x0 x1 x2 x3 x4 x5 x7 x8 (ix3 b s l) = rrow x0 x1 x2 x3 x4 x5 x7 x8 0 (by omega) b s l := by
  rw [v46_def]
  exact on_apply _ _ _ _ b s l _ (v20_at x0 x1 x2 x3 x4 b s)

/-- The queries' two constants are one factor. -/
theorem scale_at (a : EReal) : Ideal.div (a * Ideal.ofBits .f32 0x3E000000#32) (Ideal.log (Ideal.ofBits .f32 0x40000000#32))
    = a * (((1 / 8) * (Real.log 2)⁻¹ : ℝ) : EReal) := by
  have h8 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [h8, h2, hl, Ideal.div_coe (Real.log_pos (by norm_num)).ne', mul_assoc, ← EReal.coe_mul, one_div (Real.log 2)]
theorem v81_at (x5 : FVec Ideal S64 .f32) (x7 x8 : FVec Ideal S4096x128 .f32) (b : Fin 8) (s : Fin 4096) (l : Fin 512) :
    val_main_v81 (F := Ideal) x0 x1 x2 x3 x4 x5 x7 x8 (ix3 b s l)
      = rrow x0 x1 x2 x3 x4 x5 x7 x8 0 (by omega) b s l * (((1 / 8) * (Real.log 2)⁻¹ : ℝ) : EReal) := by
  rw [val_main_v81_apply, val_main_v80_apply, val_main_v76_apply, val_main_v75_apply, val_main_v79_apply, val_main_v78_apply, val_main_v77_apply,
    val_main_cst_9_apply, val_main_cst_10_apply, v46_at]
  exact scale_at _
theorem v82_at (x6 : FVec Ideal S64 .f32) (x7 x8 : FVec Ideal S4096x128 .f32) (b : Fin 8) (s : Fin 4096) (l : Fin 512) :
    val_main_v82 (F := Ideal) x0 x1 x2 x3 x4 x6 x7 x8 (ix3 b s l) = rrow x0 x1 x2 x3 x4 x6 x7 x8 512 (by omega) b s l := by
  rw [val_main_v82_apply, v73_def]
  exact on_apply _ _ _ _ b s l _ (v47_at x0 x1 x2 x3 x4 b s)

end

end Cert.Reference3Ideal.Proj

end
-- ==== Proof.PPre.lean ====
/- What the projection's precondition says of the argument arrays: every entry of the four it reads is a real number. -/
module

public import proofs.«01_k».proof.Proof.Pre
public import proofs.«01_k».proof.Proof.Gen.Pre_tame

@[expose] public section

set_option maxRecDepth 16384

noncomputable section

namespace Cert.Real

open Idealize.ShloMosaic Cert.Pre_tame

variable [Cert.Pre_tame.Facts]

/-- Under the precondition every entry of the shift, the scale, the gain and the weights is a real number. -/
theorem tame (x0 : FVec Ideal S8x4096x1024 .f32) (x1 x2 : FVec Ideal S8x1x1024 .f32) (x3 : FVec Ideal S1024 .f32) (x4 : FVec Ideal S1024x3072 .f32)
    (x5 x6 : FVec Ideal S64 .f32) (x7 x8 : FVec Ideal S4096x128 .f32)
    (h : Cert.Pre_tame.fn (F := Ideal) x0 x1 x2 x3 x4 x5 x6 x7 x8 = fun _ => 1#1) : AllReal x1 ∧ AllReal x2 ∧ AllReal x3 ∧ AllReal x4 := by
  have split : ∀ a b : IVec S_ 1, (andi a b = fun _ => 1#1) → (a = fun _ => 1#1) ∧ b = fun _ => 1#1 := fun a b hab =>
    ⟨funext fun i => (IntOp.andi_eq_one.mp (congrFun hab i)).1, funext fun i => (IntOp.andi_eq_one.mp (congrFun hab i)).2⟩
  unfold Cert.Pre_tame.fn Cert.Pre_tame.fn_part1 at h
  obtain ⟨h, h4⟩ := split _ _ h
  obtain ⟨h, h3⟩ := split _ _ h
  obtain ⟨h1, h2⟩ := split _ _ h
  exact ⟨allReal_of_reduce _ _ _ _ _ h1, allReal_of_reduce _ _ _ _ _ h2, allReal_of_reduce _ _ _ _ _ h3, allReal_of_reduce _ _ _ _ _ h4⟩

end Cert.Real

end
-- ==== Proof.PArr.lean ====
/- The projection's four result arrays, from its arguments. -/
module

public import proofs.«01_k».proof.Proof.PPost
public import proofs.«01_k».proof.Proof.PRef
public import proofs.«01_k».proof.Proof.PPre

@[expose] public section

set_option maxRecDepth 16384

noncomputable section

namespace Cert.Kernel3Ideal.Gen

open Idealize.ShloMosaic Idealize.ShloMosaic.TcCoe Idealize.ShloMosaic.Tactic
open Idealize.ShloMosaic.Pipeline (Dat Cfg Window)
open Cert.Proj
open scoped BigOperators

variable (m : (ℓ : Loc nD τ sig) → Buf (Elt Ideal) ℓ) (c : Dev nD)

/-- The product, from the arguments. -/
abbrev pr (b : Fin 8) (s : Fin 4096) : Fin 3072 → EReal :=
  prow (m ((c : Thread nD τ).loc main_arg0)) (m ((c : Thread nD τ).loc main_arg1)) (m ((c : Thread nD τ).loc main_arg2)) (m ((c : Thread nD τ).loc main_arg3))
    (m ((c : Thread nD τ).loc main_arg4)) b s

/-- The four arrays. -/
def res9 : Vec Ideal S8x4096x512 .bf16 := fun i =>
  rrow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7)) (m ((c : Thread nD τ).loc main_arg8))
    0 (by omega) (i 0) (i 1) (i 2) * (((1 / 8) * (Real.log 2)⁻¹ : ℝ) : EReal)
def res10 : Vec Ideal S8x4096x512 .bf16 := fun i =>
  rrow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7)) (m ((c : Thread nD τ).loc main_arg8))
    512 (by omega) (i 0) (i 1) (i 2)
def res11 : Vec Ideal S8x4096x512 .bf16 := fun i => pr m c (i 0) (i 1) ⟨1024 + (i 2).val, by have : (i 2).val < 512 := (i 2).isLt; omega⟩
def res12 : Vec Ideal S8x4096x1536 .bf16 := fun i => pr m c (i 0) (i 1) ⟨1536 + (i 2).val, by have : (i 2).val < 1536 := (i 2).isLt; omega⟩

variable (t : Fin cfg0.N)

theorem at11 (r l : Fin 512) (z : S8x4096x512.Idx) (z0 : (z 0).val = t.val / 8) (z1 : (z 1).val = t.val % 8 * 512 + r.val) (z2 : (z 2).val = l.val) :
    out0_11 (F := Ideal) (iblk m c 0 t) (iblk m c 1 t) (iblk m c 2 t) (iblk m c 3 t) (iblk m c 4 t) (iblk m c 5 t) (iblk m c 6 t) (iblk m c 7 t) (iblk m c 8 t) (ix3 0 r l)
      = res11 m c z := by
  obtain rfl : z 2 = l := Fin.ext z2
  exact out11_of _ _ _ _ _ _ _ _ _ _ _ _ _ _ r (fun i => blk0 m c t r i (z 0) (z 1) z0 z1) (fun i => blk1 m c t i (z 0) z0) (fun i => blk2 m c t i (z 0) z0)
    (fun i => blk3 m c t i) (fun i j => blk4 m c t i j) (z 2)

theorem at12 (r : Fin 512) (l : Fin 1536) (z : S8x4096x1536.Idx) (z0 : (z 0).val = t.val / 8) (z1 : (z 1).val = t.val % 8 * 512 + r.val) (z2 : (z 2).val = l.val) :
    out0_12 (F := Ideal) (iblk m c 0 t) (iblk m c 1 t) (iblk m c 2 t) (iblk m c 3 t) (iblk m c 4 t) (iblk m c 5 t) (iblk m c 6 t) (iblk m c 7 t) (iblk m c 8 t) (ix3 0 r l)
      = res12 m c z := by
  obtain rfl : z 2 = l := Fin.ext z2
  exact out12_of _ _ _ _ _ _ _ _ _ _ _ _ _ _ r (fun i => blk0 m c t r i (z 0) (z 1) z0 z1) (fun i => blk1 m c t i (z 0) z0) (fun i => blk2 m c t i (z 0) z0)
    (fun i => blk3 m c t i) (fun i j => blk4 m c t i j) (z 2)

theorem at9 (hP : ∀ b s j, ∃ a : ℝ, pr m c b s j = (a : EReal)) (r l : Fin 512) (z : S8x4096x512.Idx) (z0 : (z 0).val = t.val / 8)
    (z1 : (z 1).val = t.val % 8 * 512 + r.val) (z2 : (z 2).val = l.val) :
    out0_9 (F := Ideal) (iblk m c 0 t) (iblk m c 1 t) (iblk m c 2 t) (iblk m c 3 t) (iblk m c 4 t) (iblk m c 5 t) (iblk m c 6 t) (iblk m c 7 t) (iblk m c 8 t) (ix3 0 r l)
      = res9 m c z := by
  obtain rfl : z 2 = l := Fin.ext z2
  refine (out9_of _ _ _ _ _ _ _ _ _ _ _ _ _ _ (fun k => m ((c : Thread nD τ).loc main_arg5) (ix1 k)) _ _ r (fun i => blk0 m c t r i (z 0) (z 1) z0 z1) (fun i => blk1 m c t i (z 0) z0) (fun i => blk2 m c t i (z 0) z0)
    (fun i => blk3 m c t i) (fun i j => blk4 m c t i j) (fun k => blk7 m c t r k (z 1) z1) (fun k => blk8 m c t r k (z 1) z1) (hP (z 0) (z 1))
    (fun k => blk5 m c t k) (z 2)).trans ?_
  unfold res9 rrow
  refine congrArg (fun T => rope T _ _ _ (z 2) * (((1 / 8) * (Real.log 2)⁻¹ : ℝ) : EReal)) ?_
  funext k
  exact congrArg (pr m c (z 0) (z 1)) (Fin.ext (Nat.zero_add _).symm)

theorem at10 (hP : ∀ b s j, ∃ a : ℝ, pr m c b s j = (a : EReal)) (r l : Fin 512) (z : S8x4096x512.Idx) (z0 : (z 0).val = t.val / 8)
    (z1 : (z 1).val = t.val % 8 * 512 + r.val) (z2 : (z 2).val = l.val) :
    out0_10 (F := Ideal) (iblk m c 0 t) (iblk m c 1 t) (iblk m c 2 t) (iblk m c 3 t) (iblk m c 4 t) (iblk m c 5 t) (iblk m c 6 t) (iblk m c 7 t) (iblk m c 8 t) (ix3 0 r l)
      = res10 m c z := by
  obtain rfl : z 2 = l := Fin.ext z2
  exact out10_of _ _ _ _ _ _ _ _ _ _ _ _ _ _ (fun k => m ((c : Thread nD τ).loc main_arg6) (ix1 k)) _ _ r (fun i => blk0 m c t r i (z 0) (z 1) z0 z1) (fun i => blk1 m c t i (z 0) z0) (fun i => blk2 m c t i (z 0) z0)
    (fun i => blk3 m c t i) (fun i j => blk4 m c t i j) (fun k => blk7 m c t r k (z 1) z1) (fun k => blk8 m c t r k (z 1) z1) (hP (z 0) (z 1))
    (fun k => blk6 m c t k) (z 2)

theorem ix3_of (y : S1x512x512.Idx) : y = ix3 0 (y 1) (y 2) := by
  funext a
  refine Fin.ext ?_
  match a with
  | ⟨0, _⟩ => exact Nat.lt_one_iff.mp (y 0).isLt
  | ⟨1, _⟩ => rfl
  | ⟨2, _⟩ => rfl
theorem ix3_of' (y : S1x512x1536.Idx) : y = ix3 0 (y 1) (y 2) := by
  funext a
  refine Fin.ext ?_
  match a with
  | ⟨0, _⟩ => exact Nat.lt_one_iff.mp (y 0).isLt
  | ⟨1, _⟩ => rfl
  | ⟨2, _⟩ => rfl

theorem arr9 (hP : ∀ b s j, ∃ a : ℝ, pr m c b s j = (a : EReal)) : (dats m 0 c).arrAt 9 cfg0.N = res9 m c := by
  refine (dats m 0 c).arrAt_eq_of_covers 9 _ (by decide +kernel) fun t hf y => ?_
  blk_simp
  rw [after0_9]
  have v0 : (((win0_9.blk t).view.emb y) 0).val = t.val / 8 * 1 + (y 0).val :=
    (Window.rect_emb_val win0_9 t y 0 rfl).trans (by rw [e9]; rfl)
  have v1 : (((win0_9.blk t).view.emb y) 1).val = t.val % 8 * 512 + (y 1).val :=
    (Window.rect_emb_val win0_9 t y 1 rfl).trans (by rw [e9]; rfl)
  have v2 : (((win0_9.blk t).view.emb y) 2).val = 0 + (y 2).val :=
    (Window.rect_emb_val win0_9 t y 2 rfl).trans (by rw [e9]; exact congrArg (· + (y 2).val) (Nat.zero_mul _))
  have y0 : (y 0).val < 1 := (y 0).isLt
  exact (congrArg _ (ix3_of y)).trans (at9 m c t hP (y 1) (y 2) _ (by rw [v0]; omega) v1 (by rw [v2]; omega))

theorem arr10 (hP : ∀ b s j, ∃ a : ℝ, pr m c b s j = (a : EReal)) : (dats m 0 c).arrAt 10 cfg0.N = res10 m c := by
  refine (dats m 0 c).arrAt_eq_of_covers 10 _ (by decide +kernel) fun t hf y => ?_
  blk_simp
  rw [after0_10]
  have v0 : (((win0_10.blk t).view.emb y) 0).val = t.val / 8 * 1 + (y 0).val :=
    (Window.rect_emb_val win0_10 t y 0 rfl).trans (by rw [e10]; rfl)
  have v1 : (((win0_10.blk t).view.emb y) 1).val = t.val % 8 * 512 + (y 1).val :=
    (Window.rect_emb_val win0_10 t y 1 rfl).trans (by rw [e10]; rfl)
  have v2 : (((win0_10.blk t).view.emb y) 2).val = 0 + (y 2).val :=
    (Window.rect_emb_val win0_10 t y 2 rfl).trans (by rw [e10]; exact congrArg (· + (y 2).val) (Nat.zero_mul _))
  have y0 : (y 0).val < 1 := (y 0).isLt
  exact (congrArg _ (ix3_of y)).trans (at10 m c t hP (y 1) (y 2) _ (by rw [v0]; omega) v1 (by rw [v2]; omega))

theorem arr11 : (dats m 0 c).arrAt 11 cfg0.N = res11 m c := by
  refine (dats m 0 c).arrAt_eq_of_covers 11 _ (by decide +kernel) fun t hf y => ?_
  blk_simp
  rw [after0_11]
  have v0 : (((win0_11.blk t).view.emb y) 0).val = t.val / 8 * 1 + (y 0).val :=
    (Window.rect_emb_val win0_11 t y 0 rfl).trans (by rw [e11]; rfl)
  have v1 : (((win0_11.blk t).view.emb y) 1).val = t.val % 8 * 512 + (y 1).val :=
    (Window.rect_emb_val win0_11 t y 1 rfl).trans (by rw [e11]; rfl)
  have v2 : (((win0_11.blk t).view.emb y) 2).val = 0 + (y 2).val :=
    (Window.rect_emb_val win0_11 t y 2 rfl).trans (by rw [e11]; exact congrArg (· + (y 2).val) (Nat.zero_mul _))
  have y0 : (y 0).val < 1 := (y 0).isLt
  exact (congrArg _ (ix3_of y)).trans (at11 m c t (y 1) (y 2) _ (by rw [v0]; omega) v1 (by rw [v2]; omega))

theorem arr12 : (dats m 0 c).arrAt 12 cfg0.N = res12 m c := by
  refine (dats m 0 c).arrAt_eq_of_covers 12 _ (by decide +kernel) fun t hf y => ?_
  blk_simp
  rw [after0_12]
  have v0 : (((win0_12.blk t).view.emb y) 0).val = t.val / 8 * 1 + (y 0).val :=
    (Window.rect_emb_val win0_12 t y 0 rfl).trans (by rw [e12]; rfl)
  have v1 : (((win0_12.blk t).view.emb y) 1).val = t.val % 8 * 512 + (y 1).val :=
    (Window.rect_emb_val win0_12 t y 1 rfl).trans (by rw [e12]; rfl)
  have v2 : (((win0_12.blk t).view.emb y) 2).val = 0 + (y 2).val :=
    (Window.rect_emb_val win0_12 t y 2 rfl).trans (by rw [e12]; exact congrArg (· + (y 2).val) (Nat.zero_mul _))
  have y0 : (y 0).val < 1 := (y 0).isLt
  exact (congrArg _ (ix3_of' y)).trans (at12 m c t (y 1) (y 2) _ (by rw [v0]; omega) v1 (by rw [v2]; omega))

/-- Under the precondition every entry of the product is a real number. -/
theorem pr_real (h1 : Cert.Real.AllReal (m ((c : Thread nD τ).loc main_arg1))) (h2 : Cert.Real.AllReal (m ((c : Thread nD τ).loc main_arg2)))
    (h3 : Cert.Real.AllReal (m ((c : Thread nD τ).loc main_arg3))) (h4 : Cert.Real.AllReal (m ((c : Thread nD τ).loc main_arg4))) (b : Fin 8) (s : Fin 4096)
    (j : Fin 3072) : ∃ a : ℝ, pr m c b s j = (a : EReal) :=
  prj_real _ _ _ _ _ (fun i => h3 _) (fun i => h2 _) (fun i => h1 _) (fun i j => h4 _) j

theorem ix3_all {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-! The reference's results are the same arrays. -/

theorem ref9 : Cert.Reference3Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))
    = res9 m c := by
  funext i
  exact (congrArg _ (ix3_all i)).trans (Cert.Reference3Ideal.Proj.v81_at _ _ _ _ _ _ _ _ (i 0) (i 1) (i 2))

theorem ref10 : Cert.Reference3Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))
    = res10 m c := by
  funext i
  exact (congrArg _ (ix3_all i)).trans (Cert.Reference3Ideal.Proj.v82_at _ _ _ _ _ _ _ _ (i 0) (i 1) (i 2))

theorem ref11 : Cert.Reference3Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = res11 m c := by
  funext i
  exact (congrArg _ (ix3_all i)).trans (Cert.Reference3Ideal.Proj.v83_at _ _ _ _ _ (i 0) (i 1) (i 2))

theorem ref12 : Cert.Reference3Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = res12 m c := by
  funext i
  exact (congrArg _ (ix3_all i)).trans (Cert.Reference3Ideal.Proj.v85_at _ _ _ _ _ (i 0) (i 1) (i 2))

end Cert.Kernel3Ideal.Gen

end
-- ==== Proof.lean ====
module

public import proofs.«01_k».proof.Defs
public import proofs.«01_k».proof.Proof.KFrame
public import proofs.«01_k».proof.Proof.State
public import proofs.«01_k».proof.Proof.Value
public import proofs.«01_k».proof.Proof.Gen.ReferenceIdeal.Run
public import proofs.«01_k».proof.Proof.FOk
public import proofs.«01_k».proof.Proof.FState
public import proofs.«01_k».proof.Proof.EOk
public import proofs.«01_k».proof.Proof.EState
public import proofs.«01_k».proof.Proof.EPre
public import proofs.«01_k».proof.Proof.EValue
public import proofs.«01_k».proof.Proof.Gen.Reference2Ideal.Run
public import proofs.«01_k».proof.Proof.Gen.Kernel3.Frame
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal.Frame
public import proofs.«01_k».proof.Proof.Gen.Kernel3Ideal.Value
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.PArr
public import proofs.«01_k».proof.Proof.Gen.Pre_tame
public import Idealize.ShloMosaic.Adequacy
public import Idealize.ShloMosaic.Init

@[expose] public section

noncomputable section

namespace Cert.Proof

open Idealize.ShloMosaic Idealize.SL.Sem

/-- The kernel as printed leaves its arguments alone and every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Att.frame m ρ

/-- The reference leaves its arguments alone; it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel over the extended reals ends with the reference's result and its arguments unchanged. -/
theorem value_kernel (m : (ℓ : Loc Cert.KernelIdeal.nD Cert.KernelIdeal.τ Cert.KernelIdeal.sig) → Buf (Elt Ideal) ℓ)
    (ρ : Dev Cert.KernelIdeal.nD → PrngReg) (hm : Cert.Pre_KernelIdeal_finite m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10) = Cert.KernelIdeal.Att.spec m c) := by
  refine (θ_run Cert.KernelIdeal.defs _ _).mono (fun r h c => ?_) (Cert.KernelIdeal.Att.run_main_quiescent m ρ)
  obtain ⟨r0, r1, r2, r3, r4, r5, r6, r7, r8⟩ := Cert.Real.allReal _ _ _ _ _ _ _ _ _ _ (hm c)
  exact ((h.1 c).1 10).trans ((Cert.KernelIdeal.Att.arrAt_out m c).trans (Cert.KernelIdeal.Att.result_eq m c r0 r1 r2 r3 r4 r5 r6 r7 r8))

/-- From the same arguments, no entry of them infinite, the kernel and the reference end with the same result. -/
theorem algebraic : Cert.algebraic_KernelIdeal_ReferenceIdeal_pre_finite := by
  intro m g m' g' hm hagree
  refine ⟨fun c => Cert.KernelIdeal.Att.spec m c, ?_, ?_⟩
  · exact (θ_run Cert.KernelIdeal.defs _ _).mono (fun r h c => ⟨h.1 c, h.2.1 c⟩)
      (θ_run_and (value_kernel m g hm) (Cert.KernelIdeal.Att.frame m g))
  · refine (θ_run Cert.ReferenceIdeal.defs _ _).mono (fun r h c => ⟨(h c).1.trans ?_, (h c).2⟩)
      (Cert.ReferenceIdeal.Value.run (F := Ideal) m' g')
    obtain ⟨a0, a1, a2, a3, a4, a5, a6, a7, a8, a9⟩ := hagree c
    rw [Cert.ReferenceIdeal.Read.val_main_v64_eq]
    rw [a0, a1, a2, a3, a4, a5, a6, a7, a8, a9]
    rfl

/-- Under the precondition the expert layer's tables keep every window inside its array. -/
theorem words_kernel2 (m : (ℓ : Loc Cert.Kernel2.nD Cert.Kernel2.τ Cert.Kernel2.sig) → Buf (Elt Bits) ℓ) (hm : Cert.Pre_Kernel2 m) :
    Cert.Kernel2.Gen.Ok m :=
  let h := Cert.Routed.words _ _ _ _ _ _ _ (hm 0)
  Cert.Kernel2.Gen.ok m h.1 h.2

/-- So they do for the kernel over the extended reals. -/
theorem words_ideal2 (m : (ℓ : Loc Cert.Kernel2Ideal.nD Cert.Kernel2Ideal.τ Cert.Kernel2Ideal.sig) → Buf (Elt Ideal) ℓ) (hm : Cert.Pre_Kernel2Ideal m) :
    Cert.Kernel2Ideal.Gen.Ok m :=
  let h := Cert.Routed.words _ _ _ _ _ _ _ (hm 0)
  Cert.Kernel2Ideal.Gen.ok m h.1 h.2

/-- The expert layer as printed leaves its arguments alone and every counter at zero. -/
theorem frame_kernel2 : Cert.quiescent_Kernel2 := fun m ρ hm => Cert.Kernel2.Gen.frame m ρ (words_kernel2 m hm)

/-- So does the expert layer over the extended reals. -/
theorem frame_ideal2 : Cert.quiescent_Kernel2Ideal := fun m ρ hm => Cert.Kernel2Ideal.Gen.frame m ρ (words_ideal2 m hm)

/-- The expert layer's reference leaves its arguments alone; it declares no counter. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The expert layer over the extended reals ends with its reference's result. -/
theorem value_kernel2 (m : (ℓ : Loc Cert.Kernel2Ideal.nD Cert.Kernel2Ideal.τ Cert.Kernel2Ideal.sig) → Buf (Elt Ideal) ℓ)
    (ρ : Dev Cert.Kernel2Ideal.nD → PrngReg) (hm : Cert.Pre_Kernel2Ideal m) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem ((c.tc : Thread Cert.Kernel2Ideal.nD Cert.Kernel2Ideal.τ).loc Cert.Kernel2Ideal.main_v2) = Cert.Kernel2Ideal.Gen.spec m c) := by
  have hO := words_ideal2 m hm
  obtain ⟨hb, hn⟩ := Cert.Routed.words _ _ _ _ _ _ _ (hm 0)
  refine (θ_run Cert.Kernel2Ideal.defs _ _).mono (fun r h c => ?_) (Cert.Kernel2Ideal.Gen.run_main_quiescent m ρ hO)
  exact ((h.1 c).1 5).trans ((Cert.Kernel2Ideal.Gen.arrAt_out m hO c).trans (Cert.Kernel2Ideal.Gen.result_eq m c hb hn hO))

/-- From the same arguments, whose tables name experts and use a block, the expert layer and its reference end with the same result. -/
theorem algebraic2 : Cert.algebraic_Kernel2Ideal_Reference2Ideal := by
  intro m g m' g' hm hagree
  refine ⟨fun c => Cert.Kernel2Ideal.Gen.spec m c, ?_, ?_⟩
  · exact (θ_run Cert.Kernel2Ideal.defs _ _).mono (fun r h c => ⟨h.1 c, h.2.1 c⟩)
      (θ_run_and (value_kernel2 m g hm) (Cert.Kernel2Ideal.Gen.frame m g (words_ideal2 m hm)))
  · refine (θ_run Cert.Reference2Ideal.defs _ _).mono (fun r h c => ⟨(h c).1.trans ?_, (h c).2⟩)
      (Cert.Reference2Ideal.Value.run (F := Ideal) m' g')
    obtain ⟨a0, a1, a2, a3, a4, a5, a6⟩ := hagree c
    rw [Cert.Reference2Ideal.Read.val_main_v60_eq]
    rw [a0, a1, a2, a3, a4, a5, a6]
    rfl

/-- The projection as printed leaves its arguments alone and every counter at zero. -/
theorem frame_kernel3 : Cert.quiescent_Kernel3 := fun m ρ _ => Cert.Kernel3.Gen.frame m ρ

/-- So does the projection over the extended reals. -/
theorem frame_ideal3 : Cert.quiescent_Kernel3Ideal := fun m ρ _ => Cert.Kernel3Ideal.Gen.frame m ρ

/-- The projection's reference leaves its arguments alone; it declares no counter. -/
theorem frame_reference3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- From the same arguments, no entry of the shift, scale, gain or weights infinite, the projection and its reference end with the same four results. -/
theorem algebraic3 : Cert.algebraic_Kernel3Ideal_Reference3Ideal_pre_tame := by
  intro m g m' g' hm hagree
  refine ⟨fun c => Cert.Kernel3Ideal.Gen.res9 m c, fun c => Cert.Kernel3Ideal.Gen.res10 m c, fun c => Cert.Kernel3Ideal.Gen.res11 m c,
    fun c => Cert.Kernel3Ideal.Gen.res12 m c, ?_, ?_⟩
  · refine (θ_run Cert.Kernel3Ideal.defs _ _).mono (fun r h c => ?_) (Cert.Kernel3Ideal.Value.run_blocks m g)
    obtain ⟨r1, r2, r3, r4⟩ := Cert.Real.tame _ _ _ _ _ _ _ _ _ (hm c)
    have hP := Cert.Kernel3Ideal.Gen.pr_real m c r1 r2 r3 r4
    obtain ⟨h9, h10, h11, h12, hrest⟩ := h c
    exact ⟨h9.trans (Cert.Kernel3Ideal.Gen.arr9 m c hP), h10.trans (Cert.Kernel3Ideal.Gen.arr10 m c hP), h11.trans (Cert.Kernel3Ideal.Gen.arr11 m c),
      h12.trans (Cert.Kernel3Ideal.Gen.arr12 m c), hrest⟩
  · refine (θ_run Cert.Reference3Ideal.defs _ _).mono (fun r h c => ?_) (Cert.Reference3Ideal.Value.run (F := Ideal) m' g')
    obtain ⟨h81, h82, h83, h85, hrest⟩ := h c
    obtain ⟨a0, a1, a2, a3, a4, a5, a6, a7, a8⟩ := hagree c
    refine ⟨h81.trans ?_, h82.trans ?_, h83.trans ((Cert.Reference3Ideal.Read.val_main_v83_eq _ _ _ _ _).trans ?_),
      h85.trans ((Cert.Reference3Ideal.Read.val_main_v85_eq _ _ _ _ _).trans ?_), hrest⟩
    · rw [Cert.Reference3Ideal.Read.val_main_v81_eq, a0, a1, a2, a3, a4, a5, a7, a8]
      exact Cert.Kernel3Ideal.Gen.ref9 m c
    · rw [Cert.Reference3Ideal.Read.val_main_v82_eq, a0, a1, a2, a3, a4, a6, a7, a8]
      exact Cert.Kernel3Ideal.Gen.ref10 m c
    · rw [a0, a1, a2, a3, a4]
      exact Cert.Kernel3Ideal.Gen.ref11 m c
    · rw [a0, a1, a2, a3, a4]
      exact Cert.Kernel3Ideal.Gen.ref12 m c

/-- The projection's queries' constant is the named number. -/
theorem preserves3 : Cert.preserves_Kernel3_Kernel3Ideal := IdealRules.named_const.statement _ _ _ _ _ rfl

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, Cert.Pre_routed.Gen.facts, Cert.Pre_tame.Gen.facts,
    frame_kernel, frame_ideal, fun m ρ _ => frame_ideal m ρ trivial, frame_reference, fun m ρ _ => frame_reference m ρ trivial,
    frame_kernel2, frame_ideal2, frame_reference2, fun m ρ _ => frame_reference2 m ρ trivial,
    frame_kernel3, frame_ideal3, fun m ρ _ => frame_ideal3 m ρ trivial, frame_reference3, fun m ρ _ => frame_reference3 m ρ trivial,
    trivial, algebraic, trivial, algebraic2, preserves3, algebraic3⟩

end Cert.Proof

end
